-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x18944 : Shape := ⟨2, ![1536, 18944]⟩
abbrev S4x384x3584 : Shape := ⟨3, ![4, 384, 3584]⟩
abbrev S4x12x3584 : Shape := ⟨3, ![4, 12, 3584]⟩
abbrev S3584x18944 : Shape := ⟨2, ![3584, 18944]⟩
abbrev S3584x592 : Shape := ⟨2, ![3584, 592]⟩
abbrev S1536x3584 : Shape := ⟨2, ![1536, 3584]⟩
abbrev S1536x112 : Shape := ⟨2, ![1536, 112]⟩
abbrev S1536x512 : Shape := ⟨2, ![1536, 512]⟩
abbrev S1536x256 : Shape := ⟨2, ![1536, 256]⟩
abbrev S1536x128 : Shape := ⟨2, ![1536, 128]⟩
abbrev S4x12x128 : Shape := ⟨3, ![4, 12, 128]⟩
abbrev S3584x512 : Shape := ⟨2, ![3584, 512]⟩
abbrev S3584x128 : Shape := ⟨2, ![3584, 128]⟩
abbrev S32x3584 : Shape := ⟨2, ![32, 3584]⟩
abbrev S3584x256 : Shape := ⟨2, ![3584, 256]⟩
abbrev S32x112 : Shape := ⟨2, ![32, 112]⟩
abbrev S3584x1536 : Shape := ⟨2, ![3584, 1536]⟩
abbrev S32x128 : Shape := ⟨2, ![32, 128]⟩
abbrev S16x128 : Shape := ⟨2, ![16, 128]⟩
abbrev S16x128x1 : Shape := ⟨3, ![16, 128, 1]⟩
abbrev S32x512 : Shape := ⟨2, ![32, 512]⟩
abbrev S512x512 : Shape := ⟨2, ![512, 512]⟩
abbrev S192x512 : Shape := ⟨2, ![192, 512]⟩
abbrev S224x512 : Shape := ⟨2, ![224, 512]⟩
abbrev S1x12x128 : Shape := ⟨3, ![1, 12, 128]⟩
abbrev S12x128 : Shape := ⟨2, ![12, 128]⟩
abbrev S1x128 : Shape := ⟨2, ![1, 128]⟩
abbrev S384x128 : Shape := ⟨2, ![384, 128]⟩
abbrev S128x128 : Shape := ⟨2, ![128, 128]⟩
abbrev S32x128x1 : Shape := ⟨3, ![32, 128, 1]⟩
abbrev S512x1536 : Shape := ⟨2, ![512, 1536]⟩
abbrev S512x256 : Shape := ⟨2, ![512, 256]⟩

abbrev nBuf : Space → Nat
  | .hbm => 12
  | .vmem => 26
  | .smem => 0
  | _ => 0

abbrev bufTy : (tb : Table) → Fin (tcTables nBuf tb) → BufTy
  | .hbm, ⟨0, _⟩ => ⟨S1536x18944, .bf16⟩
  | .hbm, ⟨1, _⟩ => ⟨S1536x18944, .bf16⟩
  | .hbm, ⟨2, _⟩ => ⟨S4x384x3584, .fp8e4m3⟩
  | .hbm, ⟨3, _⟩ => ⟨S4x12x3584, .i8⟩
  | .hbm, ⟨4, _⟩ => ⟨S3584x18944, .fp8e4m3⟩
  | .hbm, ⟨5, _⟩ => ⟨S3584x592, .i8⟩
  | .hbm, ⟨6, _⟩ => ⟨S1536x3584, .bf16⟩
  | .hbm, ⟨7, _⟩ => ⟨S1536x3584, .fp8e4m3⟩
  | .hbm, ⟨8, _⟩ => ⟨S1536x3584, .bf16⟩
  | .hbm, ⟨9, _⟩ => ⟨S3584x18944, .f32⟩
  | .hbm, ⟨10, _⟩ => ⟨S1536x3584, .fp8e4m3⟩
  | .hbm, ⟨11, _⟩ => ⟨S1536x112, .i8⟩
  | .local _ .vmem, ⟨0, _⟩ => ⟨S1536x512, .bf16⟩
  | .local _ .vmem, ⟨1, _⟩ => ⟨S1536x512, .bf16⟩
  | .local _ .vmem, ⟨2, _⟩ => ⟨S1536x256, .bf16⟩
  | .local _ .vmem, ⟨3, _⟩ => ⟨S1536x256, .bf16⟩
  | .local _ .vmem, ⟨4, _⟩ => ⟨S1536x128, .fp8e4m3⟩
  | .local _ .vmem, ⟨5, _⟩ => ⟨S1536x128, .fp8e4m3⟩
  | .local _ .vmem, ⟨6, _⟩ => ⟨S4x12x128, .i8⟩
  | .local _ .vmem, ⟨7, _⟩ => ⟨S4x12x128, .i8⟩
  | .local _ .vmem, ⟨8, _⟩ => ⟨S3584x512, .fp8e4m3⟩
  | .local _ .vmem, ⟨9, _⟩ => ⟨S3584x512, .fp8e4m3⟩
  | .local _ .vmem, ⟨10, _⟩ => ⟨S3584x128, .i8⟩
  | .local _ .vmem, ⟨11, _⟩ => ⟨S3584x128, .i8⟩
  | .local _ .vmem, ⟨12, _⟩ => ⟨S32x3584, .bf16⟩
  | .local _ .vmem, ⟨13, _⟩ => ⟨S32x3584, .bf16⟩
  | .local _ .vmem, ⟨14, _⟩ => ⟨S32x3584, .bf16⟩
  | .local _ .vmem, ⟨15, _⟩ => ⟨S32x3584, .bf16⟩
  | .local _ .vmem, ⟨16, _⟩ => ⟨S3584x256, .f32⟩
  | .local _ .vmem, ⟨17, _⟩ => ⟨S3584x256, .f32⟩
  | .local _ .vmem, ⟨18, _⟩ => ⟨S32x3584, .fp8e4m3⟩
  | .local _ .vmem, ⟨19, _⟩ => ⟨S32x3584, .fp8e4m3⟩
  | .local _ .vmem, ⟨20, _⟩ => ⟨S32x112, .i8⟩
  | .local _ .vmem, ⟨21, _⟩ => ⟨S32x112, .i8⟩
  | .local _ .vmem, ⟨22, _⟩ => ⟨S1536x3584, .f32⟩
  | .local _ .vmem, ⟨23, _⟩ => ⟨S3584x1536, .bf16⟩
  | .local _ .vmem, ⟨24, _⟩ => ⟨S1536x512, .bf16⟩
  | .local _ .vmem, ⟨25, _⟩ => ⟨S1536x512, .bf16⟩
  | _, _ => ⟨S1536x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![112], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c38_i32 : BitVec 32 := 38#32
  let v4 : BitVec 1 := Scalar.cmpi .slt arg0 c38_i32
  let v5 : BitVec 1 := Scalar.andi v3 v4
  let c1_i32_1 : BitVec 32 := 1#32
  let v6 : BitVec 32 := Scalar.subi arg0 c1_i32_1
  let c1_i32_2 : BitVec 32 := 1#32
  let v7 : BitVec 32 := Scalar.andi v6 c1_i32_2
  let c0_i32_3 : BitVec 32 := 0#32
  let v8 : BitVec 1 := Scalar.cmpi .eq v7 c0_i32_3
  let v9 : BitVec 1 := Scalar.andi v5 v8
  let v10 : BitVec 32 := Scalar.extui v9
  let c0_i32_4 : BitVec 32 := 0#32
  let v11 : BitVec 1 := Scalar.cmpi .ne v10 c0_i32_4
  v11

def k0_mult1 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3367 : BitVec 32 := 128#32
  let v9078 : BitVec 32 := Scalar.muli v8970 c128_i32_3367
  v9078
def k0_off1 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3367 : BitVec 32 := 128#32
  let v9078 : BitVec 32 := Scalar.muli v8970 c128_i32_3367
  let v9079 : BitVec 32 := v9078
  let v9080 : Index := Scalar.indexCast v9079
  let c0_3368 : Index := 0#32
  ![v9080.toNat, 0]
def k0_mult2 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3369 : BitVec 32 := 128#32
  let v9086 : BitVec 32 := Scalar.muli v8970 c128_i32_3369
  v9086
def k0_off2 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3369 : BitVec 32 := 128#32
  let v9086 : BitVec 32 := Scalar.muli v8970 c128_i32_3369
  let v9087 : BitVec 32 := v9086
  let v9088 : Index := Scalar.indexCast v9087
  let c128_3370 : Index := 128#32
  ![v9088.toNat, 128]
def k0_mult3 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3371 : BitVec 32 := 128#32
  let v9094 : BitVec 32 := Scalar.muli v8970 c128_i32_3371
  v9094
def k0_off3 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3371 : BitVec 32 := 128#32
  let v9094 : BitVec 32 := Scalar.muli v8970 c128_i32_3371
  let v9095 : BitVec 32 := v9094
  let v9096 : Index := Scalar.indexCast v9095
  let c256_3372 : Index := 256#32
  ![v9096.toNat, 256]
def k0_mult4 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3401 : BitVec 32 := 128#32
  let v9207 : BitVec 32 := Scalar.muli v8970 c128_i32_3401
  v9207
def k0_off4 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3401 : BitVec 32 := 128#32
  let v9207 : BitVec 32 := Scalar.muli v8970 c128_i32_3401
  let v9208 : BitVec 32 := v9207
  let v9209 : Index := Scalar.indexCast v9208
  let c384_3402 : Index := 384#32
  ![v9209.toNat, 384]
def k0_mult5 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3403 : BitVec 32 := 128#32
  let v9215 : BitVec 32 := Scalar.muli v8970 c128_i32_3403
  v9215
def k0_off5 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3403 : BitVec 32 := 128#32
  let v9215 : BitVec 32 := Scalar.muli v8970 c128_i32_3403
  let v9216 : BitVec 32 := v9215
  let v9217 : Index := Scalar.indexCast v9216
  let c512_3404 : Index := 512#32
  ![v9217.toNat, 512]
def k0_mult6 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3405 : BitVec 32 := 128#32
  let v9223 : BitVec 32 := Scalar.muli v8970 c128_i32_3405
  v9223
def k0_off6 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3405 : BitVec 32 := 128#32
  let v9223 : BitVec 32 := Scalar.muli v8970 c128_i32_3405
  let v9224 : BitVec 32 := v9223
  let v9225 : Index := Scalar.indexCast v9224
  let c640_3406 : Index := 640#32
  ![v9225.toNat, 640]
def k0_mult7 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3435 : BitVec 32 := 128#32
  let v9336 : BitVec 32 := Scalar.muli v8970 c128_i32_3435
  v9336
def k0_off7 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3435 : BitVec 32 := 128#32
  let v9336 : BitVec 32 := Scalar.muli v8970 c128_i32_3435
  let v9337 : BitVec 32 := v9336
  let v9338 : Index := Scalar.indexCast v9337
  let c768_3436 : Index := 768#32
  ![v9338.toNat, 768]
def k0_mult8 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3437 : BitVec 32 := 128#32
  let v9344 : BitVec 32 := Scalar.muli v8970 c128_i32_3437
  v9344
def k0_off8 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3437 : BitVec 32 := 128#32
  let v9344 : BitVec 32 := Scalar.muli v8970 c128_i32_3437
  let v9345 : BitVec 32 := v9344
  let v9346 : Index := Scalar.indexCast v9345
  let c896_3438 : Index := 896#32
  ![v9346.toNat, 896]
def k0_mult9 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3439 : BitVec 32 := 128#32
  let v9352 : BitVec 32 := Scalar.muli v8970 c128_i32_3439
  v9352
def k0_off9 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3439 : BitVec 32 := 128#32
  let v9352 : BitVec 32 := Scalar.muli v8970 c128_i32_3439
  let v9353 : BitVec 32 := v9352
  let v9354 : Index := Scalar.indexCast v9353
  let c1024_3440 : Index := 1024#32
  ![v9354.toNat, 1024]
def k0_mult10 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3469 : BitVec 32 := 128#32
  let v9465 : BitVec 32 := Scalar.muli v8970 c128_i32_3469
  v9465
def k0_off10 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3469 : BitVec 32 := 128#32
  let v9465 : BitVec 32 := Scalar.muli v8970 c128_i32_3469
  let v9466 : BitVec 32 := v9465
  let v9467 : Index := Scalar.indexCast v9466
  let c1152_3470 : Index := 1152#32
  ![v9467.toNat, 1152]
def k0_mult11 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3471 : BitVec 32 := 128#32
  let v9473 : BitVec 32 := Scalar.muli v8970 c128_i32_3471
  v9473
def k0_off11 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3471 : BitVec 32 := 128#32
  let v9473 : BitVec 32 := Scalar.muli v8970 c128_i32_3471
  let v9474 : BitVec 32 := v9473
  let v9475 : Index := Scalar.indexCast v9474
  let c1280_3472 : Index := 1280#32
  ![v9475.toNat, 1280]
def k0_mult12 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3473 : BitVec 32 := 128#32
  let v9481 : BitVec 32 := Scalar.muli v8970 c128_i32_3473
  v9481
def k0_off12 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3473 : BitVec 32 := 128#32
  let v9481 : BitVec 32 := Scalar.muli v8970 c128_i32_3473
  let v9482 : BitVec 32 := v9481
  let v9483 : Index := Scalar.indexCast v9482
  let c1408_3474 : Index := 1408#32
  ![v9483.toNat, 1408]
def k0_cond3 (i : grid0.Coords) : BitVec 1 :=
  let arg0 : BitVec 32 := BitVec.ofNat 32 (i 0).val
  let c1_i32_5 : BitVec 32 := 1#32
  let v12 : BitVec 1 := Scalar.cmpi .sge arg0 c1_i32_5
  let c38_i32_6 : BitVec 32 := 38#32
  let v13 : BitVec 1 := Scalar.cmpi .slt arg0 c38_i32_6
  let v14 : BitVec 1 := Scalar.andi v12 v13
  let c1_i32_7 : BitVec 32 := 1#32
  let v15 : BitVec 32 := Scalar.subi arg0 c1_i32_7
  let c1_i32_8 : BitVec 32 := 1#32
  let v16 : BitVec 32 := Scalar.andi v15 c1_i32_8
  let c1_i32_9 : BitVec 32 := 1#32
  let v17 : BitVec 1 := Scalar.cmpi .eq v16 c1_i32_9
  let v18 : BitVec 1 := Scalar.andi v14 v17
  let v19 : BitVec 32 := Scalar.extui v18
  let c0_i32_10 : BitVec 32 := 0#32
  let v20 : BitVec 1 := Scalar.cmpi .ne v19 c0_i32_10
  v20

def k0_mult13 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3367 : BitVec 32 := 128#32
  let v9078 : BitVec 32 := Scalar.muli v8970 c128_i32_3367
  v9078
def k0_off13 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3367 : BitVec 32 := 128#32
  let v9078 : BitVec 32 := Scalar.muli v8970 c128_i32_3367
  let v9079 : BitVec 32 := v9078
  let v9080 : Index := Scalar.indexCast v9079
  let c0_3368 : Index := 0#32
  ![v9080.toNat, 0]
def k0_mult14 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3369 : BitVec 32 := 128#32
  let v9086 : BitVec 32 := Scalar.muli v8970 c128_i32_3369
  v9086
def k0_off14 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3369 : BitVec 32 := 128#32
  let v9086 : BitVec 32 := Scalar.muli v8970 c128_i32_3369
  let v9087 : BitVec 32 := v9086
  let v9088 : Index := Scalar.indexCast v9087
  let c128_3370 : Index := 128#32
  ![v9088.toNat, 128]
def k0_mult15 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3371 : BitVec 32 := 128#32
  let v9094 : BitVec 32 := Scalar.muli v8970 c128_i32_3371
  v9094
def k0_off15 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3371 : BitVec 32 := 128#32
  let v9094 : BitVec 32 := Scalar.muli v8970 c128_i32_3371
  let v9095 : BitVec 32 := v9094
  let v9096 : Index := Scalar.indexCast v9095
  let c256_3372 : Index := 256#32
  ![v9096.toNat, 256]
def k0_mult16 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3401 : BitVec 32 := 128#32
  let v9207 : BitVec 32 := Scalar.muli v8970 c128_i32_3401
  v9207
def k0_off16 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3401 : BitVec 32 := 128#32
  let v9207 : BitVec 32 := Scalar.muli v8970 c128_i32_3401
  let v9208 : BitVec 32 := v9207
  let v9209 : Index := Scalar.indexCast v9208
  let c384_3402 : Index := 384#32
  ![v9209.toNat, 384]
def k0_mult17 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3403 : BitVec 32 := 128#32
  let v9215 : BitVec 32 := Scalar.muli v8970 c128_i32_3403
  v9215
def k0_off17 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3403 : BitVec 32 := 128#32
  let v9215 : BitVec 32 := Scalar.muli v8970 c128_i32_3403
  let v9216 : BitVec 32 := v9215
  let v9217 : Index := Scalar.indexCast v9216
  let c512_3404 : Index := 512#32
  ![v9217.toNat, 512]
def k0_mult18 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3405 : BitVec 32 := 128#32
  let v9223 : BitVec 32 := Scalar.muli v8970 c128_i32_3405
  v9223
def k0_off18 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3405 : BitVec 32 := 128#32
  let v9223 : BitVec 32 := Scalar.muli v8970 c128_i32_3405
  let v9224 : BitVec 32 := v9223
  let v9225 : Index := Scalar.indexCast v9224
  let c640_3406 : Index := 640#32
  ![v9225.toNat, 640]
def k0_mult19 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3435 : BitVec 32 := 128#32
  let v9336 : BitVec 32 := Scalar.muli v8970 c128_i32_3435
  v9336
def k0_off19 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3435 : BitVec 32 := 128#32
  let v9336 : BitVec 32 := Scalar.muli v8970 c128_i32_3435
  let v9337 : BitVec 32 := v9336
  let v9338 : Index := Scalar.indexCast v9337
  let c768_3436 : Index := 768#32
  ![v9338.toNat, 768]
def k0_mult20 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3437 : BitVec 32 := 128#32
  let v9344 : BitVec 32 := Scalar.muli v8970 c128_i32_3437
  v9344
def k0_off20 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3437 : BitVec 32 := 128#32
  let v9344 : BitVec 32 := Scalar.muli v8970 c128_i32_3437
  let v9345 : BitVec 32 := v9344
  let v9346 : Index := Scalar.indexCast v9345
  let c896_3438 : Index := 896#32
  ![v9346.toNat, 896]
def k0_mult21 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3439 : BitVec 32 := 128#32
  let v9352 : BitVec 32 := Scalar.muli v8970 c128_i32_3439
  v9352
def k0_off21 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3439 : BitVec 32 := 128#32
  let v9352 : BitVec 32 := Scalar.muli v8970 c128_i32_3439
  let v9353 : BitVec 32 := v9352
  let v9354 : Index := Scalar.indexCast v9353
  let c1024_3440 : Index := 1024#32
  ![v9354.toNat, 1024]
def k0_mult22 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3469 : BitVec 32 := 128#32
  let v9465 : BitVec 32 := Scalar.muli v8970 c128_i32_3469
  v9465
def k0_off22 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3469 : BitVec 32 := 128#32
  let v9465 : BitVec 32 := Scalar.muli v8970 c128_i32_3469
  let v9466 : BitVec 32 := v9465
  let v9467 : Index := Scalar.indexCast v9466
  let c1152_3470 : Index := 1152#32
  ![v9467.toNat, 1152]
def k0_mult23 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3471 : BitVec 32 := 128#32
  let v9473 : BitVec 32 := Scalar.muli v8970 c128_i32_3471
  v9473
def k0_off23 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3471 : BitVec 32 := 128#32
  let v9473 : BitVec 32 := Scalar.muli v8970 c128_i32_3471
  let v9474 : BitVec 32 := v9473
  let v9475 : Index := Scalar.indexCast v9474
  let c1280_3472 : Index := 1280#32
  ![v9475.toNat, 1280]
def k0_mult24 (i : grid0.Coords) : BitVec 32 :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3473 : BitVec 32 := 128#32
  let v9481 : BitVec 32 := Scalar.muli v8970 c128_i32_3473
  v9481
def k0_off24 (i : grid0.Coords) : Fin 2 → Nat :=
  let c27_i32 : BitVec 32 := 27#32
  let c0_i32_3338 : BitVec 32 := 0#32
  let arg0 : BitVec 32 := BitVec.ofNat 32 (i 0).val
  let c1_i32_3337 : BitVec 32 := 1#32
  let v8968 : BitVec 32 := Scalar.subi arg0 c1_i32_3337
  let v8969 : BitVec 32 := Scalar.maxsi c0_i32_3338 v8968
  let v8970 : BitVec 32 := Scalar.minsi c27_i32 v8969
  let c128_i32_3473 : BitVec 32 := 128#32
  let v9481 : BitVec 32 := Scalar.muli v8970 c128_i32_3473
  let v9482 : BitVec 32 := v9481
  let v9483 : Index := Scalar.indexCast v9482
  let c1408_3474 : Index := 1408#32
  ![v9483.toNat, 1408]
def k0_cond5 (i : grid0.Coords) : BitVec 1 :=
  let arg0 : BitVec 32 := BitVec.ofNat 32 (i 0).val
  let c38_i32_12 : BitVec 32 := 38#32
  let v24 : BitVec 1 := Scalar.cmpi .sge arg0 c38_i32_12
  let c1_i32_13 : BitVec 32 := 1#32
  let v25 : BitVec 32 := Scalar.andi arg0 c1_i32_13
  let c0_i32_14 : BitVec 32 := 0#32
  let v26 : BitVec 1 := Scalar.cmpi .eq v25 c0_i32_14
  let v27 : BitVec 1 := Scalar.andi v24 v26
  let v28 : BitVec 32 := Scalar.extui v27
  let c0_i32_15 : BitVec 32 := 0#32
  let v29 : BitVec 1 := Scalar.cmpi .ne v28 c0_i32_15
  v29

def k0_mult25 (i : grid0.Coords) : BitVec 32 :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  v39
def k0_off25 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v43 : Index := Scalar.indexCast v40
  let c0 : Index := 0#32
  ![v43.toNat, 0]
def k0_off26 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v75 : Index := Scalar.indexCast v40
  let c128 : Index := 128#32
  ![v75.toNat, 128]
def k0_off27 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v107 : Index := Scalar.indexCast v40
  let c256 : Index := 256#32
  ![v107.toNat, 256]
def k0_off28 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v139 : Index := Scalar.indexCast v40
  let c384 : Index := 384#32
  ![v139.toNat, 384]
def k0_off29 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v439 : Index := Scalar.indexCast v40
  let c512 : Index := 512#32
  ![v439.toNat, 512]
def k0_off30 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v471 : Index := Scalar.indexCast v40
  let c640 : Index := 640#32
  ![v471.toNat, 640]
def k0_off31 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v503 : Index := Scalar.indexCast v40
  let c768 : Index := 768#32
  ![v503.toNat, 768]
def k0_off32 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v535 : Index := Scalar.indexCast v40
  let c896 : Index := 896#32
  ![v535.toNat, 896]
def k0_off33 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v835 : Index := Scalar.indexCast v40
  let c1024 : Index := 1024#32
  ![v835.toNat, 1024]
def k0_off34 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v867 : Index := Scalar.indexCast v40
  let c1152 : Index := 1152#32
  ![v867.toNat, 1152]
def k0_off35 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v899 : Index := Scalar.indexCast v40
  let c1280 : Index := 1280#32
  ![v899.toNat, 1280]
def k0_off36 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v931 : Index := Scalar.indexCast v40
  let c1408 : Index := 1408#32
  ![v931.toNat, 1408]
def k0_off37 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v1231 : Index := Scalar.indexCast v40
  let c1536 : Index := 1536#32
  ![v1231.toNat, 1536]
def k0_off38 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v1263 : Index := Scalar.indexCast v40
  let c1664 : Index := 1664#32
  ![v1263.toNat, 1664]
def k0_off39 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v1295 : Index := Scalar.indexCast v40
  let c1792 : Index := 1792#32
  ![v1295.toNat, 1792]
def k0_off40 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v1327 : Index := Scalar.indexCast v40
  let c1920 : Index := 1920#32
  ![v1327.toNat, 1920]
def k0_off41 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v1627 : Index := Scalar.indexCast v40
  let c2048 : Index := 2048#32
  ![v1627.toNat, 2048]
def k0_off42 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v1659 : Index := Scalar.indexCast v40
  let c2176 : Index := 2176#32
  ![v1659.toNat, 2176]
def k0_off43 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v1691 : Index := Scalar.indexCast v40
  let c2304 : Index := 2304#32
  ![v1691.toNat, 2304]
def k0_off44 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v1723 : Index := Scalar.indexCast v40
  let c2432 : Index := 2432#32
  ![v1723.toNat, 2432]
def k0_off45 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v2023 : Index := Scalar.indexCast v40
  let c2560 : Index := 2560#32
  ![v2023.toNat, 2560]
def k0_off46 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v2055 : Index := Scalar.indexCast v40
  let c2688 : Index := 2688#32
  ![v2055.toNat, 2688]
def k0_off47 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v2087 : Index := Scalar.indexCast v40
  let c2816 : Index := 2816#32
  ![v2087.toNat, 2816]
def k0_off48 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v2119 : Index := Scalar.indexCast v40
  let c2944 : Index := 2944#32
  ![v2119.toNat, 2944]
def k0_off49 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v2419 : Index := Scalar.indexCast v40
  let c3072 : Index := 3072#32
  ![v2419.toNat, 3072]
def k0_off50 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v2451 : Index := Scalar.indexCast v40
  let c3200 : Index := 3200#32
  ![v2451.toNat, 3200]
def k0_off51 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v2483 : Index := Scalar.indexCast v40
  let c3328 : Index := 3328#32
  ![v2483.toNat, 3328]
def k0_off52 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v2515 : Index := Scalar.indexCast v40
  let c3456 : Index := 3456#32
  ![v2515.toNat, 3456]
def k0_cond6 (i : grid0.Coords) : BitVec 1 :=
  let arg0 : BitVec 32 := BitVec.ofNat 32 (i 0).val
  let c38_i32_16 : BitVec 32 := 38#32
  let v30 : BitVec 1 := Scalar.cmpi .sge arg0 c38_i32_16
  let c1_i32_17 : BitVec 32 := 1#32
  let v31 : BitVec 32 := Scalar.andi arg0 c1_i32_17
  let c1_i32_18 : BitVec 32 := 1#32
  let v32 : BitVec 1 := Scalar.cmpi .eq v31 c1_i32_18
  let v33 : BitVec 1 := Scalar.andi v30 v32
  let v34 : BitVec 32 := Scalar.extui v33
  let c0_i32_19 : BitVec 32 := 0#32
  let v35 : BitVec 1 := Scalar.cmpi .ne v34 c0_i32_19
  v35

def k0_mult26 (i : grid0.Coords) : BitVec 32 :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  v39
def k0_off53 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v43 : Index := Scalar.indexCast v40
  let c0 : Index := 0#32
  ![v43.toNat, 0]
def k0_off54 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v75 : Index := Scalar.indexCast v40
  let c128 : Index := 128#32
  ![v75.toNat, 128]
def k0_off55 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v107 : Index := Scalar.indexCast v40
  let c256 : Index := 256#32
  ![v107.toNat, 256]
def k0_off56 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v139 : Index := Scalar.indexCast v40
  let c384 : Index := 384#32
  ![v139.toNat, 384]
def k0_off57 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v439 : Index := Scalar.indexCast v40
  let c512 : Index := 512#32
  ![v439.toNat, 512]
def k0_off58 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v471 : Index := Scalar.indexCast v40
  let c640 : Index := 640#32
  ![v471.toNat, 640]
def k0_off59 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v503 : Index := Scalar.indexCast v40
  let c768 : Index := 768#32
  ![v503.toNat, 768]
def k0_off60 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v535 : Index := Scalar.indexCast v40
  let c896 : Index := 896#32
  ![v535.toNat, 896]
def k0_off61 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v835 : Index := Scalar.indexCast v40
  let c1024 : Index := 1024#32
  ![v835.toNat, 1024]
def k0_off62 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v867 : Index := Scalar.indexCast v40
  let c1152 : Index := 1152#32
  ![v867.toNat, 1152]
def k0_off63 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v899 : Index := Scalar.indexCast v40
  let c1280 : Index := 1280#32
  ![v899.toNat, 1280]
def k0_off64 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v931 : Index := Scalar.indexCast v40
  let c1408 : Index := 1408#32
  ![v931.toNat, 1408]
def k0_off65 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v1231 : Index := Scalar.indexCast v40
  let c1536 : Index := 1536#32
  ![v1231.toNat, 1536]
def k0_off66 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v1263 : Index := Scalar.indexCast v40
  let c1664 : Index := 1664#32
  ![v1263.toNat, 1664]
def k0_off67 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v1295 : Index := Scalar.indexCast v40
  let c1792 : Index := 1792#32
  ![v1295.toNat, 1792]
def k0_off68 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v1327 : Index := Scalar.indexCast v40
  let c1920 : Index := 1920#32
  ![v1327.toNat, 1920]
def k0_off69 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v1627 : Index := Scalar.indexCast v40
  let c2048 : Index := 2048#32
  ![v1627.toNat, 2048]
def k0_off70 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v1659 : Index := Scalar.indexCast v40
  let c2176 : Index := 2176#32
  ![v1659.toNat, 2176]
def k0_off71 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v1691 : Index := Scalar.indexCast v40
  let c2304 : Index := 2304#32
  ![v1691.toNat, 2304]
def k0_off72 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v1723 : Index := Scalar.indexCast v40
  let c2432 : Index := 2432#32
  ![v1723.toNat, 2432]
def k0_off73 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v2023 : Index := Scalar.indexCast v40
  let c2560 : Index := 2560#32
  ![v2023.toNat, 2560]
def k0_off74 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v2055 : Index := Scalar.indexCast v40
  let c2688 : Index := 2688#32
  ![v2055.toNat, 2688]
def k0_off75 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v2087 : Index := Scalar.indexCast v40
  let c2816 : Index := 2816#32
  ![v2087.toNat, 2816]
def k0_off76 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v2119 : Index := Scalar.indexCast v40
  let c2944 : Index := 2944#32
  ![v2119.toNat, 2944]
def k0_off77 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v2419 : Index := Scalar.indexCast v40
  let c3072 : Index := 3072#32
  ![v2419.toNat, 3072]
def k0_off78 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v2451 : Index := Scalar.indexCast v40
  let c3200 : Index := 3200#32
  ![v2451.toNat, 3200]
def k0_off79 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v2483 : Index := Scalar.indexCast v40
  let c3328 : Index := 3328#32
  ![v2483.toNat, 3328]
def k0_off80 (i : grid0.Coords) : Fin 2 → Nat :=
  let c47_i32 : BitVec 32 := 47#32
  let c0_i32_21 : BitVec 32 := 0#32
  let arg0 : BitVec 32 := BitVec.ofNat 32 (i 0).val
  let c38_i32_20 : BitVec 32 := 38#32
  let v36 : BitVec 32 := Scalar.subi arg0 c38_i32_20
  let v37 : BitVec 32 := Scalar.maxsi c0_i32_21 v36
  let v38 : BitVec 32 := Scalar.minsi c47_i32 v37
  let c32_i32 : BitVec 32 := 32#32
  let v39 : BitVec 32 := Scalar.muli v38 c32_i32
  let v40 : BitVec 32 := v39
  let v2515 : Index := Scalar.indexCast v40
  let c3456 : Index := 3456#32
  ![v2515.toNat, 3456]
def cc0_transform_0 (i : grid0.Coords) : Fin 2 → Nat :=
  let arg0 : BitVec 32 := BitVec.ofNat 32 (i 0).val
  let c36_i32 : BitVec 32 := 36#32
  let v0 : BitVec 32 := Scalar.minsi arg0 c36_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c37_i32 : BitVec 32 := 37#32
  let v0 : BitVec 32 := Scalar.subi arg0 c37_i32
  let c0_i32 : BitVec 32 := 0#32
  let c73_i32 : BitVec 32 := 73#32
  let v1 : BitVec 32 := Scalar.maxsi c0_i32 v0
  let v2 : BitVec 32 := Scalar.minsi c73_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c27_i32 : BitVec 32 := 27#32
  let v1 : BitVec 32 := Scalar.maxsi c0_i32 v0
  let v2 : BitVec 32 := Scalar.minsi c27_i32 v1
  let c0_i32_0 : BitVec 32 := 0#32
  let c0_i32_1 : BitVec 32 := 0#32
  ![c0_i32_0.toNat, v2.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c27_i32 : BitVec 32 := 27#32
  let v1 : BitVec 32 := Scalar.maxsi c0_i32 v0
  let v2 : BitVec 32 := Scalar.minsi c27_i32 v1
  let c0_i32_0 : BitVec 32 := 0#32
  let c0_i32_1 : BitVec 32 := 0#32
  let c0_i32_2 : BitVec 32 := 0#32
  ![c0_i32_0.toNat, c0_i32_1.toNat, v2.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c36_i32 : BitVec 32 := 36#32
  let v1 : BitVec 32 := Scalar.maxsi c0_i32 v0
  let v2 : BitVec 32 := Scalar.minsi c36_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c36_i32 : BitVec 32 := 36#32
  let v1 : BitVec 32 := Scalar.maxsi c0_i32 v0
  let v2 : BitVec 32 := Scalar.minsi c36_i32 v1
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  ![c0_i32_6.toNat, v19.toNat]

def cc0_transform_6 (i : grid0.Coords) : Fin 2 → Nat :=
  let arg0 : BitVec 32 := BitVec.ofNat 32 (i 0).val
  let c38_i32 : BitVec 32 := 38#32
  let v0 : BitVec 32 := Scalar.subi arg0 c38_i32
  let c0_i32 : BitVec 32 := 0#32
  let c47_i32 : BitVec 32 := 47#32
  let v1 : BitVec 32 := Scalar.maxsi c0_i32 v0
  let v2 : BitVec 32 := Scalar.minsi c47_i32 v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c38_i32 : BitVec 32 := 38#32
  let v0 : BitVec 32 := Scalar.subi arg0 c38_i32
  let c0_i32 : BitVec 32 := 0#32
  let c47_i32 : BitVec 32 := 47#32
  let v1 : BitVec 32 := Scalar.maxsi c0_i32 v0
  let v2 : BitVec 32 := Scalar.minsi c47_i32 v1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c38_i32 : BitVec 32 := 38#32
  let v0 : BitVec 32 := Scalar.subi arg0 c38_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_9 (i : grid0.Coords) : Fin 2 → Nat :=
  let arg0 : BitVec 32 := BitVec.ofNat 32 (i 0).val
  let c38_i32 : BitVec 32 := 38#32
  let v0 : BitVec 32 := Scalar.subi arg0 c38_i32
  let c0_i32 : BitVec 32 := 0#32
  let c47_i32 : BitVec 32 := 47#32
  let v1 : BitVec 32 := Scalar.maxsi c0_i32 v0
  let v2 : BitVec 32 := Scalar.minsi c47_i32 v1
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c38_i32 : BitVec 32 := 38#32
  let v0 : BitVec 32 := Scalar.subi arg0 c38_i32
  let c0_i32 : BitVec 32 := 0#32
  let c47_i32 : BitVec 32 := 47#32
  let v1 : BitVec 32 := Scalar.maxsi c0_i32 v0
  let v2 : BitVec 32 := Scalar.minsi c47_i32 v1
  let c0_i32_0 : BitVec 32 := 0#32
  let c0_i32_1 : BitVec 32 := 0#32
  ![v2.toNat, c0_i32_0.toNat]

abbrev stage0_0 : Fin 2 → Memref sig .tc .vmem S1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x12x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3584x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3584x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3584x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x3584 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x112 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1536x18944 : Shape := ⟨2, ![1536, 18944]⟩
abbrev S4x384x3584 : Shape := ⟨3, ![4, 384, 3584]⟩
abbrev S4x12x3584 : Shape := ⟨3, ![4, 12, 3584]⟩
abbrev S3584x18944 : Shape := ⟨2, ![3584, 18944]⟩
abbrev S3584x592 : Shape := ⟨2, ![3584, 592]⟩
abbrev S1536x3584 : Shape := ⟨2, ![1536, 3584]⟩
abbrev S1536x112 : Shape := ⟨2, ![1536, 112]⟩
abbrev S3584x592x32 : Shape := ⟨3, ![3584, 592, 32]⟩
abbrev S3584x592x1 : Shape := ⟨3, ![3584, 592, 1]⟩
abbrev S1536x112x32 : Shape := ⟨3, ![1536, 112, 32]⟩
abbrev S1536x112x247 : Shape := ⟨3, ![1536, 112, 247]⟩
abbrev S1536x112x1 : Shape := ⟨3, ![1536, 112, 1]⟩
abbrev S4x12x32x3584 : Shape := ⟨4, ![4, 12, 32, 3584]⟩
abbrev S4x12x1x3584 : Shape := ⟨4, ![4, 12, 1, 3584]⟩

abbrev nBuf : Space → Nat
  | .hbm => 11
  | .vmem => 11
  | .smem => 0
  | _ => 0

abbrev bufTy : (tb : Table) → Fin (tcTables nBuf tb) → BufTy
  | .hbm, ⟨0, _⟩ => ⟨S1536x18944, .bf16⟩
  | .hbm, ⟨1, _⟩ => ⟨S1536x18944, .bf16⟩
  | .hbm, ⟨2, _⟩ => ⟨S4x384x3584, .fp8e4m3⟩
  | .hbm, ⟨3, _⟩ => ⟨S4x12x3584, .i8⟩
  | .hbm, ⟨4, _⟩ => ⟨S3584x18944, .fp8e4m3⟩
  | .hbm, ⟨5, _⟩ => ⟨S3584x592, .i8⟩
  | .hbm, ⟨6, _⟩ => ⟨S1536x3584, .bf16⟩
  | .hbm, ⟨7, _⟩ => ⟨S1536x3584, .bf16⟩
  | .hbm, ⟨8, _⟩ => ⟨S3584x18944, .f32⟩
  | .hbm, ⟨9, _⟩ => ⟨S1536x3584, .fp8e4m3⟩
  | .hbm, ⟨10, _⟩ => ⟨S1536x112, .i8⟩
  | .local _ .vmem, ⟨0, _⟩ => ⟨S1536x18944, .bf16⟩
  | .local _ .vmem, ⟨1, _⟩ => ⟨S1536x18944, .bf16⟩
  | .local _ .vmem, ⟨2, _⟩ => ⟨S4x384x3584, .fp8e4m3⟩
  | .local _ .vmem, ⟨3, _⟩ => ⟨S4x12x3584, .i8⟩
  | .local _ .vmem, ⟨4, _⟩ => ⟨S3584x18944, .fp8e4m3⟩
  | .local _ .vmem, ⟨5, _⟩ => ⟨S3584x592, .i8⟩
  | .local _ .vmem, ⟨6, _⟩ => ⟨S1536x3584, .bf16⟩
  | .local _ .vmem, ⟨7, _⟩ => ⟨S1536x3584, .bf16⟩
  | .local _ .vmem, ⟨8, _⟩ => ⟨S3584x18944, .f32⟩
  | .local _ .vmem, ⟨9, _⟩ => ⟨S1536x3584, .fp8e4m3⟩
  | .local _ .vmem, ⟨10, _⟩ => ⟨S1536x112, .i8⟩
  | _, _ => ⟨S1536x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1536x18944 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x18944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x384x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x12x3584 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x18944 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x592 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3584x18944 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x3584 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x112 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelFrame.lean ====
module

public import proofs.«01_k».proof.Proof.Gen.Kernel.Frame
public import proofs.«01_k».proof.Proof.Gen.Kernel.Skeleton
public import Idealize.ShloMosaic.Lib.Claim

@[expose] public section

/-! The frame of `Kernel`: at every point of the grid the body runs from its staged blocks and its scratch buffers and gives them back, the input blocks as they were and the rest at some contents. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions of the body, over the points -/

/-- The conditions of the body's six branches at the grid coordinates `i`. -/
abbrev br0 (i : grid0.Coords) : Prop := (Scalar.cmpi .ne (Scalar.extui (Scalar.cmpi .eq (BitVec.ofNat 32 (i 0).val) 0#32)) 0#32) = 1#1
abbrev br1 (i : grid0.Coords) : Prop := k0_cond2 i = 1#1
abbrev br2 (i : grid0.Coords) : Prop := k0_cond3 i = 1#1
abbrev br3 (i : grid0.Coords) : Prop := (Scalar.cmpi .ne (Scalar.extui (Scalar.cmpi .eq (BitVec.ofNat 32 (i 0).val) 37#32)) 0#32) = 1#1
abbrev br4 (i : grid0.Coords) : Prop := k0_cond5 i = 1#1
abbrev br5 (i : grid0.Coords) : Prop := k0_cond6 i = 1#1

/-- The first branch runs at the first point, -/
theorem hbr0 : ∀ t : Fin cfg0.N, br0 (grid0.coords t) ↔ t.val = 0 :=
  (by decide +kernel : ∀ t : Fin grid0.N, br0 (grid0.coords t) ↔ t.val = 0)
/-- the second at the odd points of the first phase, -/
theorem hbr1 : ∀ t : Fin cfg0.N, br1 (grid0.coords t) ↔ t.val < 38 ∧ t.val % 2 = 1 :=
  (by decide +kernel : ∀ t : Fin grid0.N, br1 (grid0.coords t) ↔ t.val < 38 ∧ t.val % 2 = 1)
/-- the third at its even points after the first, -/
theorem hbr2 : ∀ t : Fin cfg0.N, br2 (grid0.coords t) ↔ (1 ≤ t.val ∧ t.val < 38) ∧ t.val % 2 = 0 :=
  (by decide +kernel : ∀ t : Fin grid0.N, br2 (grid0.coords t) ↔ (1 ≤ t.val ∧ t.val < 38) ∧ t.val % 2 = 0)
/-- the fourth at the last point of the first phase, -/
theorem hbr3 : ∀ t : Fin cfg0.N, br3 (grid0.coords t) ↔ t.val = 37 :=
  (by decide +kernel : ∀ t : Fin grid0.N, br3 (grid0.coords t) ↔ t.val = 37)
/-- the fifth at the even points of the second phase -/
theorem hbr4 : ∀ t : Fin cfg0.N, br4 (grid0.coords t) ↔ 38 ≤ t.val ∧ t.val % 2 = 0 :=
  (by decide +kernel : ∀ t : Fin grid0.N, br4 (grid0.coords t) ↔ 38 ≤ t.val ∧ t.val % 2 = 0)
/-- and the sixth at its odd points. -/
theorem hbr5 : ∀ t : Fin cfg0.N, br5 (grid0.coords t) ↔ 38 ≤ t.val ∧ t.val % 2 = 1 :=
  (by decide +kernel : ∀ t : Fin grid0.N, br5 (grid0.coords t) ↔ 38 ≤ t.val ∧ t.val % 2 = 1)

/-! ## The offsets of the stores into the transposed copy and of the loads of the sum, in closed form -/

theorem off1_eq : ∀ i : grid0.Coords, k0_off1 i = ![128 * min ((i 0).val - 1) 27, 0] := by decide +kernel
instance closedOff1 (i : grid0.Coords) : ClosedOff (k0_off1 i) := ⟨![128 * min ((i 0).val - 1) 27, 0], off1_eq i⟩
theorem off2_eq : ∀ i : grid0.Coords, k0_off2 i = ![128 * min ((i 0).val - 1) 27, 128] := by decide +kernel
instance closedOff2 (i : grid0.Coords) : ClosedOff (k0_off2 i) := ⟨![128 * min ((i 0).val - 1) 27, 128], off2_eq i⟩
theorem off3_eq : ∀ i : grid0.Coords, k0_off3 i = ![128 * min ((i 0).val - 1) 27, 256] := by decide +kernel
instance closedOff3 (i : grid0.Coords) : ClosedOff (k0_off3 i) := ⟨![128 * min ((i 0).val - 1) 27, 256], off3_eq i⟩
theorem off4_eq : ∀ i : grid0.Coords, k0_off4 i = ![128 * min ((i 0).val - 1) 27, 384] := by decide +kernel
instance closedOff4 (i : grid0.Coords) : ClosedOff (k0_off4 i) := ⟨![128 * min ((i 0).val - 1) 27, 384], off4_eq i⟩
theorem off5_eq : ∀ i : grid0.Coords, k0_off5 i = ![128 * min ((i 0).val - 1) 27, 512] := by decide +kernel
instance closedOff5 (i : grid0.Coords) : ClosedOff (k0_off5 i) := ⟨![128 * min ((i 0).val - 1) 27, 512], off5_eq i⟩
theorem off6_eq : ∀ i : grid0.Coords, k0_off6 i = ![128 * min ((i 0).val - 1) 27, 640] := by decide +kernel
instance closedOff6 (i : grid0.Coords) : ClosedOff (k0_off6 i) := ⟨![128 * min ((i 0).val - 1) 27, 640], off6_eq i⟩
theorem off7_eq : ∀ i : grid0.Coords, k0_off7 i = ![128 * min ((i 0).val - 1) 27, 768] := by decide +kernel
instance closedOff7 (i : grid0.Coords) : ClosedOff (k0_off7 i) := ⟨![128 * min ((i 0).val - 1) 27, 768], off7_eq i⟩
theorem off8_eq : ∀ i : grid0.Coords, k0_off8 i = ![128 * min ((i 0).val - 1) 27, 896] := by decide +kernel
instance closedOff8 (i : grid0.Coords) : ClosedOff (k0_off8 i) := ⟨![128 * min ((i 0).val - 1) 27, 896], off8_eq i⟩
theorem off9_eq : ∀ i : grid0.Coords, k0_off9 i = ![128 * min ((i 0).val - 1) 27, 1024] := by decide +kernel
instance closedOff9 (i : grid0.Coords) : ClosedOff (k0_off9 i) := ⟨![128 * min ((i 0).val - 1) 27, 1024], off9_eq i⟩
theorem off10_eq : ∀ i : grid0.Coords, k0_off10 i = ![128 * min ((i 0).val - 1) 27, 1152] := by decide +kernel
instance closedOff10 (i : grid0.Coords) : ClosedOff (k0_off10 i) := ⟨![128 * min ((i 0).val - 1) 27, 1152], off10_eq i⟩
theorem off11_eq : ∀ i : grid0.Coords, k0_off11 i = ![128 * min ((i 0).val - 1) 27, 1280] := by decide +kernel
instance closedOff11 (i : grid0.Coords) : ClosedOff (k0_off11 i) := ⟨![128 * min ((i 0).val - 1) 27, 1280], off11_eq i⟩
theorem off12_eq : ∀ i : grid0.Coords, k0_off12 i = ![128 * min ((i 0).val - 1) 27, 1408] := by decide +kernel
instance closedOff12 (i : grid0.Coords) : ClosedOff (k0_off12 i) := ⟨![128 * min ((i 0).val - 1) 27, 1408], off12_eq i⟩
theorem off13_eq : ∀ i : grid0.Coords, k0_off13 i = ![128 * min ((i 0).val - 1) 27, 0] := by decide +kernel
instance closedOff13 (i : grid0.Coords) : ClosedOff (k0_off13 i) := ⟨![128 * min ((i 0).val - 1) 27, 0], off13_eq i⟩
theorem off14_eq : ∀ i : grid0.Coords, k0_off14 i = ![128 * min ((i 0).val - 1) 27, 128] := by decide +kernel
instance closedOff14 (i : grid0.Coords) : ClosedOff (k0_off14 i) := ⟨![128 * min ((i 0).val - 1) 27, 128], off14_eq i⟩
theorem off15_eq : ∀ i : grid0.Coords, k0_off15 i = ![128 * min ((i 0).val - 1) 27, 256] := by decide +kernel
instance closedOff15 (i : grid0.Coords) : ClosedOff (k0_off15 i) := ⟨![128 * min ((i 0).val - 1) 27, 256], off15_eq i⟩
theorem off16_eq : ∀ i : grid0.Coords, k0_off16 i = ![128 * min ((i 0).val - 1) 27, 384] := by decide +kernel
instance closedOff16 (i : grid0.Coords) : ClosedOff (k0_off16 i) := ⟨![128 * min ((i 0).val - 1) 27, 384], off16_eq i⟩
theorem off17_eq : ∀ i : grid0.Coords, k0_off17 i = ![128 * min ((i 0).val - 1) 27, 512] := by decide +kernel
instance closedOff17 (i : grid0.Coords) : ClosedOff (k0_off17 i) := ⟨![128 * min ((i 0).val - 1) 27, 512], off17_eq i⟩
theorem off18_eq : ∀ i : grid0.Coords, k0_off18 i = ![128 * min ((i 0).val - 1) 27, 640] := by decide +kernel
instance closedOff18 (i : grid0.Coords) : ClosedOff (k0_off18 i) := ⟨![128 * min ((i 0).val - 1) 27, 640], off18_eq i⟩
theorem off19_eq : ∀ i : grid0.Coords, k0_off19 i = ![128 * min ((i 0).val - 1) 27, 768] := by decide +kernel
instance closedOff19 (i : grid0.Coords) : ClosedOff (k0_off19 i) := ⟨![128 * min ((i 0).val - 1) 27, 768], off19_eq i⟩
theorem off20_eq : ∀ i : grid0.Coords, k0_off20 i = ![128 * min ((i 0).val - 1) 27, 896] := by decide +kernel
instance closedOff20 (i : grid0.Coords) : ClosedOff (k0_off20 i) := ⟨![128 * min ((i 0).val - 1) 27, 896], off20_eq i⟩
theorem off21_eq : ∀ i : grid0.Coords, k0_off21 i = ![128 * min ((i 0).val - 1) 27, 1024] := by decide +kernel
instance closedOff21 (i : grid0.Coords) : ClosedOff (k0_off21 i) := ⟨![128 * min ((i 0).val - 1) 27, 1024], off21_eq i⟩
theorem off22_eq : ∀ i : grid0.Coords, k0_off22 i = ![128 * min ((i 0).val - 1) 27, 1152] := by decide +kernel
instance closedOff22 (i : grid0.Coords) : ClosedOff (k0_off22 i) := ⟨![128 * min ((i 0).val - 1) 27, 1152], off22_eq i⟩
theorem off23_eq : ∀ i : grid0.Coords, k0_off23 i = ![128 * min ((i 0).val - 1) 27, 1280] := by decide +kernel
instance closedOff23 (i : grid0.Coords) : ClosedOff (k0_off23 i) := ⟨![128 * min ((i 0).val - 1) 27, 1280], off23_eq i⟩
theorem off24_eq : ∀ i : grid0.Coords, k0_off24 i = ![128 * min ((i 0).val - 1) 27, 1408] := by decide +kernel
instance closedOff24 (i : grid0.Coords) : ClosedOff (k0_off24 i) := ⟨![128 * min ((i 0).val - 1) 27, 1408], off24_eq i⟩
theorem off25_eq : ∀ i : grid0.Coords, k0_off25 i = ![32 * min ((i 0).val - 38) 47, 0] := by decide +kernel
instance closedOff25 (i : grid0.Coords) : ClosedOff (k0_off25 i) := ⟨![32 * min ((i 0).val - 38) 47, 0], off25_eq i⟩
theorem off26_eq : ∀ i : grid0.Coords, k0_off26 i = ![32 * min ((i 0).val - 38) 47, 128] := by decide +kernel
instance closedOff26 (i : grid0.Coords) : ClosedOff (k0_off26 i) := ⟨![32 * min ((i 0).val - 38) 47, 128], off26_eq i⟩
theorem off27_eq : ∀ i : grid0.Coords, k0_off27 i = ![32 * min ((i 0).val - 38) 47, 256] := by decide +kernel
instance closedOff27 (i : grid0.Coords) : ClosedOff (k0_off27 i) := ⟨![32 * min ((i 0).val - 38) 47, 256], off27_eq i⟩
theorem off28_eq : ∀ i : grid0.Coords, k0_off28 i = ![32 * min ((i 0).val - 38) 47, 384] := by decide +kernel
instance closedOff28 (i : grid0.Coords) : ClosedOff (k0_off28 i) := ⟨![32 * min ((i 0).val - 38) 47, 384], off28_eq i⟩
theorem off29_eq : ∀ i : grid0.Coords, k0_off29 i = ![32 * min ((i 0).val - 38) 47, 512] := by decide +kernel
instance closedOff29 (i : grid0.Coords) : ClosedOff (k0_off29 i) := ⟨![32 * min ((i 0).val - 38) 47, 512], off29_eq i⟩
theorem off30_eq : ∀ i : grid0.Coords, k0_off30 i = ![32 * min ((i 0).val - 38) 47, 640] := by decide +kernel
instance closedOff30 (i : grid0.Coords) : ClosedOff (k0_off30 i) := ⟨![32 * min ((i 0).val - 38) 47, 640], off30_eq i⟩
theorem off31_eq : ∀ i : grid0.Coords, k0_off31 i = ![32 * min ((i 0).val - 38) 47, 768] := by decide +kernel
instance closedOff31 (i : grid0.Coords) : ClosedOff (k0_off31 i) := ⟨![32 * min ((i 0).val - 38) 47, 768], off31_eq i⟩
theorem off32_eq : ∀ i : grid0.Coords, k0_off32 i = ![32 * min ((i 0).val - 38) 47, 896] := by decide +kernel
instance closedOff32 (i : grid0.Coords) : ClosedOff (k0_off32 i) := ⟨![32 * min ((i 0).val - 38) 47, 896], off32_eq i⟩
theorem off33_eq : ∀ i : grid0.Coords, k0_off33 i = ![32 * min ((i 0).val - 38) 47, 1024] := by decide +kernel
instance closedOff33 (i : grid0.Coords) : ClosedOff (k0_off33 i) := ⟨![32 * min ((i 0).val - 38) 47, 1024], off33_eq i⟩
theorem off34_eq : ∀ i : grid0.Coords, k0_off34 i = ![32 * min ((i 0).val - 38) 47, 1152] := by decide +kernel
instance closedOff34 (i : grid0.Coords) : ClosedOff (k0_off34 i) := ⟨![32 * min ((i 0).val - 38) 47, 1152], off34_eq i⟩
theorem off35_eq : ∀ i : grid0.Coords, k0_off35 i = ![32 * min ((i 0).val - 38) 47, 1280] := by decide +kernel
instance closedOff35 (i : grid0.Coords) : ClosedOff (k0_off35 i) := ⟨![32 * min ((i 0).val - 38) 47, 1280], off35_eq i⟩
theorem off36_eq : ∀ i : grid0.Coords, k0_off36 i = ![32 * min ((i 0).val - 38) 47, 1408] := by decide +kernel
instance closedOff36 (i : grid0.Coords) : ClosedOff (k0_off36 i) := ⟨![32 * min ((i 0).val - 38) 47, 1408], off36_eq i⟩
theorem off37_eq : ∀ i : grid0.Coords, k0_off37 i = ![32 * min ((i 0).val - 38) 47, 1536] := by decide +kernel
instance closedOff37 (i : grid0.Coords) : ClosedOff (k0_off37 i) := ⟨![32 * min ((i 0).val - 38) 47, 1536], off37_eq i⟩
theorem off38_eq : ∀ i : grid0.Coords, k0_off38 i = ![32 * min ((i 0).val - 38) 47, 1664] := by decide +kernel
instance closedOff38 (i : grid0.Coords) : ClosedOff (k0_off38 i) := ⟨![32 * min ((i 0).val - 38) 47, 1664], off38_eq i⟩
theorem off39_eq : ∀ i : grid0.Coords, k0_off39 i = ![32 * min ((i 0).val - 38) 47, 1792] := by decide +kernel
instance closedOff39 (i : grid0.Coords) : ClosedOff (k0_off39 i) := ⟨![32 * min ((i 0).val - 38) 47, 1792], off39_eq i⟩
theorem off40_eq : ∀ i : grid0.Coords, k0_off40 i = ![32 * min ((i 0).val - 38) 47, 1920] := by decide +kernel
instance closedOff40 (i : grid0.Coords) : ClosedOff (k0_off40 i) := ⟨![32 * min ((i 0).val - 38) 47, 1920], off40_eq i⟩
theorem off41_eq : ∀ i : grid0.Coords, k0_off41 i = ![32 * min ((i 0).val - 38) 47, 2048] := by decide +kernel
instance closedOff41 (i : grid0.Coords) : ClosedOff (k0_off41 i) := ⟨![32 * min ((i 0).val - 38) 47, 2048], off41_eq i⟩
theorem off42_eq : ∀ i : grid0.Coords, k0_off42 i = ![32 * min ((i 0).val - 38) 47, 2176] := by decide +kernel
instance closedOff42 (i : grid0.Coords) : ClosedOff (k0_off42 i) := ⟨![32 * min ((i 0).val - 38) 47, 2176], off42_eq i⟩
theorem off43_eq : ∀ i : grid0.Coords, k0_off43 i = ![32 * min ((i 0).val - 38) 47, 2304] := by decide +kernel
instance closedOff43 (i : grid0.Coords) : ClosedOff (k0_off43 i) := ⟨![32 * min ((i 0).val - 38) 47, 2304], off43_eq i⟩
theorem off44_eq : ∀ i : grid0.Coords, k0_off44 i = ![32 * min ((i 0).val - 38) 47, 2432] := by decide +kernel
instance closedOff44 (i : grid0.Coords) : ClosedOff (k0_off44 i) := ⟨![32 * min ((i 0).val - 38) 47, 2432], off44_eq i⟩
theorem off45_eq : ∀ i : grid0.Coords, k0_off45 i = ![32 * min ((i 0).val - 38) 47, 2560] := by decide +kernel
instance closedOff45 (i : grid0.Coords) : ClosedOff (k0_off45 i) := ⟨![32 * min ((i 0).val - 38) 47, 2560], off45_eq i⟩
theorem off46_eq : ∀ i : grid0.Coords, k0_off46 i = ![32 * min ((i 0).val - 38) 47, 2688] := by decide +kernel
instance closedOff46 (i : grid0.Coords) : ClosedOff (k0_off46 i) := ⟨![32 * min ((i 0).val - 38) 47, 2688], off46_eq i⟩
theorem off47_eq : ∀ i : grid0.Coords, k0_off47 i = ![32 * min ((i 0).val - 38) 47, 2816] := by decide +kernel
instance closedOff47 (i : grid0.Coords) : ClosedOff (k0_off47 i) := ⟨![32 * min ((i 0).val - 38) 47, 2816], off47_eq i⟩
theorem off48_eq : ∀ i : grid0.Coords, k0_off48 i = ![32 * min ((i 0).val - 38) 47, 2944] := by decide +kernel
instance closedOff48 (i : grid0.Coords) : ClosedOff (k0_off48 i) := ⟨![32 * min ((i 0).val - 38) 47, 2944], off48_eq i⟩
theorem off49_eq : ∀ i : grid0.Coords, k0_off49 i = ![32 * min ((i 0).val - 38) 47, 3072] := by decide +kernel
instance closedOff49 (i : grid0.Coords) : ClosedOff (k0_off49 i) := ⟨![32 * min ((i 0).val - 38) 47, 3072], off49_eq i⟩
theorem off50_eq : ∀ i : grid0.Coords, k0_off50 i = ![32 * min ((i 0).val - 38) 47, 3200] := by decide +kernel
instance closedOff50 (i : grid0.Coords) : ClosedOff (k0_off50 i) := ⟨![32 * min ((i 0).val - 38) 47, 3200], off50_eq i⟩
theorem off51_eq : ∀ i : grid0.Coords, k0_off51 i = ![32 * min ((i 0).val - 38) 47, 3328] := by decide +kernel
instance closedOff51 (i : grid0.Coords) : ClosedOff (k0_off51 i) := ⟨![32 * min ((i 0).val - 38) 47, 3328], off51_eq i⟩
theorem off52_eq : ∀ i : grid0.Coords, k0_off52 i = ![32 * min ((i 0).val - 38) 47, 3456] := by decide +kernel
instance closedOff52 (i : grid0.Coords) : ClosedOff (k0_off52 i) := ⟨![32 * min ((i 0).val - 38) 47, 3456], off52_eq i⟩
theorem off53_eq : ∀ i : grid0.Coords, k0_off53 i = ![32 * min ((i 0).val - 38) 47, 0] := by decide +kernel
instance closedOff53 (i : grid0.Coords) : ClosedOff (k0_off53 i) := ⟨![32 * min ((i 0).val - 38) 47, 0], off53_eq i⟩
theorem off54_eq : ∀ i : grid0.Coords, k0_off54 i = ![32 * min ((i 0).val - 38) 47, 128] := by decide +kernel
instance closedOff54 (i : grid0.Coords) : ClosedOff (k0_off54 i) := ⟨![32 * min ((i 0).val - 38) 47, 128], off54_eq i⟩
theorem off55_eq : ∀ i : grid0.Coords, k0_off55 i = ![32 * min ((i 0).val - 38) 47, 256] := by decide +kernel
instance closedOff55 (i : grid0.Coords) : ClosedOff (k0_off55 i) := ⟨![32 * min ((i 0).val - 38) 47, 256], off55_eq i⟩
theorem off56_eq : ∀ i : grid0.Coords, k0_off56 i = ![32 * min ((i 0).val - 38) 47, 384] := by decide +kernel
instance closedOff56 (i : grid0.Coords) : ClosedOff (k0_off56 i) := ⟨![32 * min ((i 0).val - 38) 47, 384], off56_eq i⟩
theorem off57_eq : ∀ i : grid0.Coords, k0_off57 i = ![32 * min ((i 0).val - 38) 47, 512] := by decide +kernel
instance closedOff57 (i : grid0.Coords) : ClosedOff (k0_off57 i) := ⟨![32 * min ((i 0).val - 38) 47, 512], off57_eq i⟩
theorem off58_eq : ∀ i : grid0.Coords, k0_off58 i = ![32 * min ((i 0).val - 38) 47, 640] := by decide +kernel
instance closedOff58 (i : grid0.Coords) : ClosedOff (k0_off58 i) := ⟨![32 * min ((i 0).val - 38) 47, 640], off58_eq i⟩
theorem off59_eq : ∀ i : grid0.Coords, k0_off59 i = ![32 * min ((i 0).val - 38) 47, 768] := by decide +kernel
instance closedOff59 (i : grid0.Coords) : ClosedOff (k0_off59 i) := ⟨![32 * min ((i 0).val - 38) 47, 768], off59_eq i⟩
theorem off60_eq : ∀ i : grid0.Coords, k0_off60 i = ![32 * min ((i 0).val - 38) 47, 896] := by decide +kernel
instance closedOff60 (i : grid0.Coords) : ClosedOff (k0_off60 i) := ⟨![32 * min ((i 0).val - 38) 47, 896], off60_eq i⟩
theorem off61_eq : ∀ i : grid0.Coords, k0_off61 i = ![32 * min ((i 0).val - 38) 47, 1024] := by decide +kernel
instance closedOff61 (i : grid0.Coords) : ClosedOff (k0_off61 i) := ⟨![32 * min ((i 0).val - 38) 47, 1024], off61_eq i⟩
theorem off62_eq : ∀ i : grid0.Coords, k0_off62 i = ![32 * min ((i 0).val - 38) 47, 1152] := by decide +kernel
instance closedOff62 (i : grid0.Coords) : ClosedOff (k0_off62 i) := ⟨![32 * min ((i 0).val - 38) 47, 1152], off62_eq i⟩
theorem off63_eq : ∀ i : grid0.Coords, k0_off63 i = ![32 * min ((i 0).val - 38) 47, 1280] := by decide +kernel
instance closedOff63 (i : grid0.Coords) : ClosedOff (k0_off63 i) := ⟨![32 * min ((i 0).val - 38) 47, 1280], off63_eq i⟩
theorem off64_eq : ∀ i : grid0.Coords, k0_off64 i = ![32 * min ((i 0).val - 38) 47, 1408] := by decide +kernel
instance closedOff64 (i : grid0.Coords) : ClosedOff (k0_off64 i) := ⟨![32 * min ((i 0).val - 38) 47, 1408], off64_eq i⟩
theorem off65_eq : ∀ i : grid0.Coords, k0_off65 i = ![32 * min ((i 0).val - 38) 47, 1536] := by decide +kernel
instance closedOff65 (i : grid0.Coords) : ClosedOff (k0_off65 i) := ⟨![32 * min ((i 0).val - 38) 47, 1536], off65_eq i⟩
theorem off66_eq : ∀ i : grid0.Coords, k0_off66 i = ![32 * min ((i 0).val - 38) 47, 1664] := by decide +kernel
instance closedOff66 (i : grid0.Coords) : ClosedOff (k0_off66 i) := ⟨![32 * min ((i 0).val - 38) 47, 1664], off66_eq i⟩
theorem off67_eq : ∀ i : grid0.Coords, k0_off67 i = ![32 * min ((i 0).val - 38) 47, 1792] := by decide +kernel
instance closedOff67 (i : grid0.Coords) : ClosedOff (k0_off67 i) := ⟨![32 * min ((i 0).val - 38) 47, 1792], off67_eq i⟩
theorem off68_eq : ∀ i : grid0.Coords, k0_off68 i = ![32 * min ((i 0).val - 38) 47, 1920] := by decide +kernel
instance closedOff68 (i : grid0.Coords) : ClosedOff (k0_off68 i) := ⟨![32 * min ((i 0).val - 38) 47, 1920], off68_eq i⟩
theorem off69_eq : ∀ i : grid0.Coords, k0_off69 i = ![32 * min ((i 0).val - 38) 47, 2048] := by decide +kernel
instance closedOff69 (i : grid0.Coords) : ClosedOff (k0_off69 i) := ⟨![32 * min ((i 0).val - 38) 47, 2048], off69_eq i⟩
theorem off70_eq : ∀ i : grid0.Coords, k0_off70 i = ![32 * min ((i 0).val - 38) 47, 2176] := by decide +kernel
instance closedOff70 (i : grid0.Coords) : ClosedOff (k0_off70 i) := ⟨![32 * min ((i 0).val - 38) 47, 2176], off70_eq i⟩
theorem off71_eq : ∀ i : grid0.Coords, k0_off71 i = ![32 * min ((i 0).val - 38) 47, 2304] := by decide +kernel
instance closedOff71 (i : grid0.Coords) : ClosedOff (k0_off71 i) := ⟨![32 * min ((i 0).val - 38) 47, 2304], off71_eq i⟩
theorem off72_eq : ∀ i : grid0.Coords, k0_off72 i = ![32 * min ((i 0).val - 38) 47, 2432] := by decide +kernel
instance closedOff72 (i : grid0.Coords) : ClosedOff (k0_off72 i) := ⟨![32 * min ((i 0).val - 38) 47, 2432], off72_eq i⟩
theorem off73_eq : ∀ i : grid0.Coords, k0_off73 i = ![32 * min ((i 0).val - 38) 47, 2560] := by decide +kernel
instance closedOff73 (i : grid0.Coords) : ClosedOff (k0_off73 i) := ⟨![32 * min ((i 0).val - 38) 47, 2560], off73_eq i⟩
theorem off74_eq : ∀ i : grid0.Coords, k0_off74 i = ![32 * min ((i 0).val - 38) 47, 2688] := by decide +kernel
instance closedOff74 (i : grid0.Coords) : ClosedOff (k0_off74 i) := ⟨![32 * min ((i 0).val - 38) 47, 2688], off74_eq i⟩
theorem off75_eq : ∀ i : grid0.Coords, k0_off75 i = ![32 * min ((i 0).val - 38) 47, 2816] := by decide +kernel
instance closedOff75 (i : grid0.Coords) : ClosedOff (k0_off75 i) := ⟨![32 * min ((i 0).val - 38) 47, 2816], off75_eq i⟩
theorem off76_eq : ∀ i : grid0.Coords, k0_off76 i = ![32 * min ((i 0).val - 38) 47, 2944] := by decide +kernel
instance closedOff76 (i : grid0.Coords) : ClosedOff (k0_off76 i) := ⟨![32 * min ((i 0).val - 38) 47, 2944], off76_eq i⟩
theorem off77_eq : ∀ i : grid0.Coords, k0_off77 i = ![32 * min ((i 0).val - 38) 47, 3072] := by decide +kernel
instance closedOff77 (i : grid0.Coords) : ClosedOff (k0_off77 i) := ⟨![32 * min ((i 0).val - 38) 47, 3072], off77_eq i⟩
theorem off78_eq : ∀ i : grid0.Coords, k0_off78 i = ![32 * min ((i 0).val - 38) 47, 3200] := by decide +kernel
instance closedOff78 (i : grid0.Coords) : ClosedOff (k0_off78 i) := ⟨![32 * min ((i 0).val - 38) 47, 3200], off78_eq i⟩
theorem off79_eq : ∀ i : grid0.Coords, k0_off79 i = ![32 * min ((i 0).val - 38) 47, 3328] := by decide +kernel
instance closedOff79 (i : grid0.Coords) : ClosedOff (k0_off79 i) := ⟨![32 * min ((i 0).val - 38) 47, 3328], off79_eq i⟩
theorem off80_eq : ∀ i : grid0.Coords, k0_off80 i = ![32 * min ((i 0).val - 38) 47, 3456] := by decide +kernel
instance closedOff80 (i : grid0.Coords) : ClosedOff (k0_off80 i) := ⟨![32 * min ((i 0).val - 38) 47, 3456], off80_eq i⟩

/-- The staging buffers at point `t`, each a whole buffer. -/
abbrev ms0 (t : Fin cfg0.N) : Memref sig .tc .vmem S1536x512 .bf16 := win0_0.stage (cfg0.slots t 0)
abbrev ms1 (t : Fin cfg0.N) : Memref sig .tc .vmem S1536x256 .bf16 := win0_1.stage (cfg0.slots t 1)
abbrev ms2 (t : Fin cfg0.N) : Memref sig .tc .vmem S1536x128 .fp8e4m3 := win0_2.stage (cfg0.slots t 2)
abbrev ms3 (t : Fin cfg0.N) : Memref sig .tc .vmem S4x12x128 .i8 := win0_3.stage (cfg0.slots t 3)
abbrev ms4 (t : Fin cfg0.N) : Memref sig .tc .vmem S3584x512 .fp8e4m3 := win0_4.stage (cfg0.slots t 4)
abbrev ms5 (t : Fin cfg0.N) : Memref sig .tc .vmem S3584x128 .i8 := win0_5.stage (cfg0.slots t 5)
abbrev ms6 (t : Fin cfg0.N) : Memref sig .tc .vmem S32x3584 .bf16 := win0_6.stage (cfg0.slots t 6)
abbrev ms7 (t : Fin cfg0.N) : Memref sig .tc .vmem S32x3584 .bf16 := win0_7.stage (cfg0.slots t 7)
abbrev ms8 (t : Fin cfg0.N) : Memref sig .tc .vmem S3584x256 .f32 := win0_8.stage (cfg0.slots t 8)
abbrev ms9 (t : Fin cfg0.N) : Memref sig .tc .vmem S32x3584 .fp8e4m3 := win0_9.stage (cfg0.slots t 9)
abbrev ms10 (t : Fin cfg0.N) : Memref sig .tc .vmem S32x112 .i8 := win0_10.stage (cfg0.slots t 10)
/-- The scratch buffers. -/
abbrev sc0 : Memref sig .tc .vmem S1536x3584 .f32 := Memref.whole cc0_scratch0
abbrev sc1 : Memref sig .tc .vmem S3584x1536 .bf16 := Memref.whole cc0_scratch1
abbrev sc2 : Memref sig .tc .vmem S1536x512 .bf16 := Memref.whole cc0_scratch2
abbrev sc3 : Memref sig .tc .vmem S1536x512 .bf16 := Memref.whole cc0_scratch3

/-- What the region keeps beside the windows: the scratch buffers at some contents and the generator register. -/
theorem PhiA_scratch (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The body's runs -/

/-- The buffers the body is called with: the input blocks at their contents, the rest at some contents. -/
abbrev Held (c : Dev nD) (arg1 : Memref sig .tc .vmem S1536x512 .bf16) (arg2 : Memref sig .tc .vmem S1536x256 .bf16) (arg3 : Memref sig .tc .vmem S1536x128 .fp8e4m3) (arg4 : Memref sig .tc .vmem S4x12x128 .i8) (arg5 : Memref sig .tc .vmem S3584x512 .fp8e4m3) (arg6 : Memref sig .tc .vmem S3584x128 .i8) (arg7 : Memref sig .tc .vmem S32x3584 .bf16) (arg8 : Memref sig .tc .vmem S32x3584 .bf16) (arg9 : Memref sig .tc .vmem S3584x256 .f32) (arg10 : Memref sig .tc .vmem S32x3584 .fp8e4m3) (arg11 : Memref sig .tc .vmem S32x112 .i8) (arg12 : Memref sig .tc .vmem S1536x3584 .f32) (arg13 : Memref sig .tc .vmem S3584x1536 .bf16) (arg14 : Memref sig .tc .vmem S1536x512 .bf16) (arg15 : Memref sig .tc .vmem S1536x512 .bf16)
    (x1 : Vec F S1536x512 .bf16) (x2 : Vec F S1536x256 .bf16) (x3 : Vec F S1536x128 .fp8e4m3) (x4 : Vec F S4x12x128 .i8) (x5 : Vec F S3584x512 .fp8e4m3) (x6 : Vec F S3584x128 .i8) (x7 : Vec F S32x3584 .bf16) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))

set_option maxHeartbeats 4000000 in
/-- The body at the first point (the first branch runs): from the buffers of `Held` it runs to the same buffers. -/
theorem run_N (c : Dev nD) (i : grid0.Coords) (arg1 : Memref sig .tc .vmem S1536x512 .bf16) (harg1 : arg1.IsWhole) (arg2 : Memref sig .tc .vmem S1536x256 .bf16) (harg2 : arg2.IsWhole) (arg3 : Memref sig .tc .vmem S1536x128 .fp8e4m3) (harg3 : arg3.IsWhole) (arg4 : Memref sig .tc .vmem S4x12x128 .i8) (harg4 : arg4.IsWhole) (arg5 : Memref sig .tc .vmem S3584x512 .fp8e4m3) (harg5 : arg5.IsWhole) (arg6 : Memref sig .tc .vmem S3584x128 .i8) (harg6 : arg6.IsWhole) (arg7 : Memref sig .tc .vmem S32x3584 .bf16) (harg7 : arg7.IsWhole) (arg8 : Memref sig .tc .vmem S32x3584 .bf16) (harg8 : arg8.IsWhole) (arg9 : Memref sig .tc .vmem S3584x256 .f32) (harg9 : arg9.IsWhole) (arg10 : Memref sig .tc .vmem S32x3584 .fp8e4m3) (harg10 : arg10.IsWhole) (arg11 : Memref sig .tc .vmem S32x112 .i8) (harg11 : arg11.IsWhole) (arg12 : Memref sig .tc .vmem S1536x3584 .f32) (harg12 : arg12.IsWhole) (arg13 : Memref sig .tc .vmem S3584x1536 .bf16) (harg13 : arg13.IsWhole) (arg14 : Memref sig .tc .vmem S1536x512 .bf16) (harg14 : arg14.IsWhole) (arg15 : Memref sig .tc .vmem S1536x512 .bf16) (harg15 : arg15.IsWhole) (hc0 : br0 i) (hc1 : ¬br1 i) (hc2 : ¬br2 i) (hc3 : ¬br3 i) (hc4 : ¬br4 i) (hc5 : ¬br5 i)
    (x1 : Vec F S1536x512 .bf16) (x2 : Vec F S1536x256 .bf16) (x3 : Vec F S1536x128 .fp8e4m3) (x4 : Vec F S4x12x128 .i8) (x5 : Vec F S3584x512 .fp8e4m3) (x6 : Vec F S3584x128 .i8) (x7 : Vec F S32x3584 .bf16) (E : Set ℕ) (K : PUnit → sProp 𝕄) :
    iprop(Held c arg1 arg2 arg3 arg4 arg5 arg6 arg7 arg8 arg9 arg10 arg11 arg12 arg13 arg14 arg15 x1 x2 x3 x4 x5 x6 x7 ∗ (Held c arg1 arg2 arg3 arg4 arg5 arg6 arg7 arg8 arg9 arg10 arg11 arg12 arg13 arg14 arg15 x1 x2 x3 x4 x5 x6 x7 -∗ K ⟨⟩))
      ⊢ wp frame (wpE (defs₀ (F := F)) Variants.none c none) E (cc0_mxfp8_down_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mxfp8_down_proj_bwd_eq_skeleton]; unfold cc0_mxfp8_down_proj_bwd_skel
  simp only [k0_part579_eq_skeleton]
  unfold Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2 | sl_exact hc3 | sl_exact hc4 | sl_exact hc5)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

set_option maxHeartbeats 4000000 in
/-- The body at an odd point of the first phase (the second branch runs): from the buffers of `Held` it runs to the same buffers. -/
theorem run_O (c : Dev nD) (i : grid0.Coords) (arg1 : Memref sig .tc .vmem S1536x512 .bf16) (harg1 : arg1.IsWhole) (arg2 : Memref sig .tc .vmem S1536x256 .bf16) (harg2 : arg2.IsWhole) (arg3 : Memref sig .tc .vmem S1536x128 .fp8e4m3) (harg3 : arg3.IsWhole) (arg4 : Memref sig .tc .vmem S4x12x128 .i8) (harg4 : arg4.IsWhole) (arg5 : Memref sig .tc .vmem S3584x512 .fp8e4m3) (harg5 : arg5.IsWhole) (arg6 : Memref sig .tc .vmem S3584x128 .i8) (harg6 : arg6.IsWhole) (arg7 : Memref sig .tc .vmem S32x3584 .bf16) (harg7 : arg7.IsWhole) (arg8 : Memref sig .tc .vmem S32x3584 .bf16) (harg8 : arg8.IsWhole) (arg9 : Memref sig .tc .vmem S3584x256 .f32) (harg9 : arg9.IsWhole) (arg10 : Memref sig .tc .vmem S32x3584 .fp8e4m3) (harg10 : arg10.IsWhole) (arg11 : Memref sig .tc .vmem S32x112 .i8) (harg11 : arg11.IsWhole) (arg12 : Memref sig .tc .vmem S1536x3584 .f32) (harg12 : arg12.IsWhole) (arg13 : Memref sig .tc .vmem S3584x1536 .bf16) (harg13 : arg13.IsWhole) (arg14 : Memref sig .tc .vmem S1536x512 .bf16) (harg14 : arg14.IsWhole) (arg15 : Memref sig .tc .vmem S1536x512 .bf16) (harg15 : arg15.IsWhole) (hc0 : ¬br0 i) (hc1 : br1 i) (hc2 : ¬br2 i) (hc3 : ¬br3 i) (hc4 : ¬br4 i) (hc5 : ¬br5 i)
    (x1 : Vec F S1536x512 .bf16) (x2 : Vec F S1536x256 .bf16) (x3 : Vec F S1536x128 .fp8e4m3) (x4 : Vec F S4x12x128 .i8) (x5 : Vec F S3584x512 .fp8e4m3) (x6 : Vec F S3584x128 .i8) (x7 : Vec F S32x3584 .bf16) (E : Set ℕ) (K : PUnit → sProp 𝕄) :
    iprop(Held c arg1 arg2 arg3 arg4 arg5 arg6 arg7 arg8 arg9 arg10 arg11 arg12 arg13 arg14 arg15 x1 x2 x3 x4 x5 x6 x7 ∗ (Held c arg1 arg2 arg3 arg4 arg5 arg6 arg7 arg8 arg9 arg10 arg11 arg12 arg13 arg14 arg15 x1 x2 x3 x4 x5 x6 x7 -∗ K ⟨⟩))
      ⊢ wp frame (wpE (defs₀ (F := F)) Variants.none c none) E (cc0_mxfp8_down_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mxfp8_down_proj_bwd_eq_skeleton]; unfold cc0_mxfp8_down_proj_bwd_skel
  simp only [k0_part579_eq_skeleton, k0_part218_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part219_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part220_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part221_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton]
  unfold Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2 | sl_exact hc3 | sl_exact hc4 | sl_exact hc5)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

set_option maxHeartbeats 4000000 in
/-- The body at the last point of the first phase (the second and fourth branches run): from the buffers of `Held` it runs to the same buffers. -/
theorem run_Q (c : Dev nD) (i : grid0.Coords) (arg1 : Memref sig .tc .vmem S1536x512 .bf16) (harg1 : arg1.IsWhole) (arg2 : Memref sig .tc .vmem S1536x256 .bf16) (harg2 : arg2.IsWhole) (arg3 : Memref sig .tc .vmem S1536x128 .fp8e4m3) (harg3 : arg3.IsWhole) (arg4 : Memref sig .tc .vmem S4x12x128 .i8) (harg4 : arg4.IsWhole) (arg5 : Memref sig .tc .vmem S3584x512 .fp8e4m3) (harg5 : arg5.IsWhole) (arg6 : Memref sig .tc .vmem S3584x128 .i8) (harg6 : arg6.IsWhole) (arg7 : Memref sig .tc .vmem S32x3584 .bf16) (harg7 : arg7.IsWhole) (arg8 : Memref sig .tc .vmem S32x3584 .bf16) (harg8 : arg8.IsWhole) (arg9 : Memref sig .tc .vmem S3584x256 .f32) (harg9 : arg9.IsWhole) (arg10 : Memref sig .tc .vmem S32x3584 .fp8e4m3) (harg10 : arg10.IsWhole) (arg11 : Memref sig .tc .vmem S32x112 .i8) (harg11 : arg11.IsWhole) (arg12 : Memref sig .tc .vmem S1536x3584 .f32) (harg12 : arg12.IsWhole) (arg13 : Memref sig .tc .vmem S3584x1536 .bf16) (harg13 : arg13.IsWhole) (arg14 : Memref sig .tc .vmem S1536x512 .bf16) (harg14 : arg14.IsWhole) (arg15 : Memref sig .tc .vmem S1536x512 .bf16) (harg15 : arg15.IsWhole) (hc0 : ¬br0 i) (hc1 : br1 i) (hc2 : ¬br2 i) (hc3 : br3 i) (hc4 : ¬br4 i) (hc5 : ¬br5 i)
    (x1 : Vec F S1536x512 .bf16) (x2 : Vec F S1536x256 .bf16) (x3 : Vec F S1536x128 .fp8e4m3) (x4 : Vec F S4x12x128 .i8) (x5 : Vec F S3584x512 .fp8e4m3) (x6 : Vec F S3584x128 .i8) (x7 : Vec F S32x3584 .bf16) (E : Set ℕ) (K : PUnit → sProp 𝕄) :
    iprop(Held c arg1 arg2 arg3 arg4 arg5 arg6 arg7 arg8 arg9 arg10 arg11 arg12 arg13 arg14 arg15 x1 x2 x3 x4 x5 x6 x7 ∗ (Held c arg1 arg2 arg3 arg4 arg5 arg6 arg7 arg8 arg9 arg10 arg11 arg12 arg13 arg14 arg15 x1 x2 x3 x4 x5 x6 x7 -∗ K ⟨⟩))
      ⊢ wp frame (wpE (defs₀ (F := F)) Variants.none c none) E (cc0_mxfp8_down_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mxfp8_down_proj_bwd_eq_skeleton]; unfold cc0_mxfp8_down_proj_bwd_skel
  simp only [k0_part579_eq_skeleton, k0_part218_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part219_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part220_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part221_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton]
  unfold Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2 | sl_exact hc3 | sl_exact hc4 | sl_exact hc5)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

set_option maxHeartbeats 4000000 in
/-- The body at an even point of the first phase (the third branch runs): from the buffers of `Held` it runs to the same buffers. -/
theorem run_E (c : Dev nD) (i : grid0.Coords) (arg1 : Memref sig .tc .vmem S1536x512 .bf16) (harg1 : arg1.IsWhole) (arg2 : Memref sig .tc .vmem S1536x256 .bf16) (harg2 : arg2.IsWhole) (arg3 : Memref sig .tc .vmem S1536x128 .fp8e4m3) (harg3 : arg3.IsWhole) (arg4 : Memref sig .tc .vmem S4x12x128 .i8) (harg4 : arg4.IsWhole) (arg5 : Memref sig .tc .vmem S3584x512 .fp8e4m3) (harg5 : arg5.IsWhole) (arg6 : Memref sig .tc .vmem S3584x128 .i8) (harg6 : arg6.IsWhole) (arg7 : Memref sig .tc .vmem S32x3584 .bf16) (harg7 : arg7.IsWhole) (arg8 : Memref sig .tc .vmem S32x3584 .bf16) (harg8 : arg8.IsWhole) (arg9 : Memref sig .tc .vmem S3584x256 .f32) (harg9 : arg9.IsWhole) (arg10 : Memref sig .tc .vmem S32x3584 .fp8e4m3) (harg10 : arg10.IsWhole) (arg11 : Memref sig .tc .vmem S32x112 .i8) (harg11 : arg11.IsWhole) (arg12 : Memref sig .tc .vmem S1536x3584 .f32) (harg12 : arg12.IsWhole) (arg13 : Memref sig .tc .vmem S3584x1536 .bf16) (harg13 : arg13.IsWhole) (arg14 : Memref sig .tc .vmem S1536x512 .bf16) (harg14 : arg14.IsWhole) (arg15 : Memref sig .tc .vmem S1536x512 .bf16) (harg15 : arg15.IsWhole) (hc0 : ¬br0 i) (hc1 : ¬br1 i) (hc2 : br2 i) (hc3 : ¬br3 i) (hc4 : ¬br4 i) (hc5 : ¬br5 i)
    (x1 : Vec F S1536x512 .bf16) (x2 : Vec F S1536x256 .bf16) (x3 : Vec F S1536x128 .fp8e4m3) (x4 : Vec F S4x12x128 .i8) (x5 : Vec F S3584x512 .fp8e4m3) (x6 : Vec F S3584x128 .i8) (x7 : Vec F S32x3584 .bf16) (E : Set ℕ) (K : PUnit → sProp 𝕄) :
    iprop(Held c arg1 arg2 arg3 arg4 arg5 arg6 arg7 arg8 arg9 arg10 arg11 arg12 arg13 arg14 arg15 x1 x2 x3 x4 x5 x6 x7 ∗ (Held c arg1 arg2 arg3 arg4 arg5 arg6 arg7 arg8 arg9 arg10 arg11 arg12 arg13 arg14 arg15 x1 x2 x3 x4 x5 x6 x7 -∗ K ⟨⟩))
      ⊢ wp frame (wpE (defs₀ (F := F)) Variants.none c none) E (cc0_mxfp8_down_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mxfp8_down_proj_bwd_eq_skeleton]; unfold cc0_mxfp8_down_proj_bwd_skel
  simp only [k0_part579_eq_skeleton, k0_part439_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part440_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part441_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part442_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton]
  unfold Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2 | sl_exact hc3 | sl_exact hc4 | sl_exact hc5)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

set_option maxHeartbeats 4000000 in
/-- The body at an even point of the second phase (the fifth branch runs): from the buffers of `Held` it runs to the same buffers. -/
theorem run_U (c : Dev nD) (i : grid0.Coords) (arg1 : Memref sig .tc .vmem S1536x512 .bf16) (harg1 : arg1.IsWhole) (arg2 : Memref sig .tc .vmem S1536x256 .bf16) (harg2 : arg2.IsWhole) (arg3 : Memref sig .tc .vmem S1536x128 .fp8e4m3) (harg3 : arg3.IsWhole) (arg4 : Memref sig .tc .vmem S4x12x128 .i8) (harg4 : arg4.IsWhole) (arg5 : Memref sig .tc .vmem S3584x512 .fp8e4m3) (harg5 : arg5.IsWhole) (arg6 : Memref sig .tc .vmem S3584x128 .i8) (harg6 : arg6.IsWhole) (arg7 : Memref sig .tc .vmem S32x3584 .bf16) (harg7 : arg7.IsWhole) (arg8 : Memref sig .tc .vmem S32x3584 .bf16) (harg8 : arg8.IsWhole) (arg9 : Memref sig .tc .vmem S3584x256 .f32) (harg9 : arg9.IsWhole) (arg10 : Memref sig .tc .vmem S32x3584 .fp8e4m3) (harg10 : arg10.IsWhole) (arg11 : Memref sig .tc .vmem S32x112 .i8) (harg11 : arg11.IsWhole) (arg12 : Memref sig .tc .vmem S1536x3584 .f32) (harg12 : arg12.IsWhole) (arg13 : Memref sig .tc .vmem S3584x1536 .bf16) (harg13 : arg13.IsWhole) (arg14 : Memref sig .tc .vmem S1536x512 .bf16) (harg14 : arg14.IsWhole) (arg15 : Memref sig .tc .vmem S1536x512 .bf16) (harg15 : arg15.IsWhole) (hc0 : ¬br0 i) (hc1 : ¬br1 i) (hc2 : ¬br2 i) (hc3 : ¬br3 i) (hc4 : br4 i) (hc5 : ¬br5 i)
    (x1 : Vec F S1536x512 .bf16) (x2 : Vec F S1536x256 .bf16) (x3 : Vec F S1536x128 .fp8e4m3) (x4 : Vec F S4x12x128 .i8) (x5 : Vec F S3584x512 .fp8e4m3) (x6 : Vec F S3584x128 .i8) (x7 : Vec F S32x3584 .bf16) (E : Set ℕ) (K : PUnit → sProp 𝕄) :
    iprop(Held c arg1 arg2 arg3 arg4 arg5 arg6 arg7 arg8 arg9 arg10 arg11 arg12 arg13 arg14 arg15 x1 x2 x3 x4 x5 x6 x7 ∗ (Held c arg1 arg2 arg3 arg4 arg5 arg6 arg7 arg8 arg9 arg10 arg11 arg12 arg13 arg14 arg15 x1 x2 x3 x4 x5 x6 x7 -∗ K ⟨⟩))
      ⊢ wp frame (wpE (defs₀ (F := F)) Variants.none c none) E (cc0_mxfp8_down_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mxfp8_down_proj_bwd_eq_skeleton]; unfold cc0_mxfp8_down_proj_bwd_skel
  simp only [k0_part579_eq_skeleton, k0_part510_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton]
  unfold Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2 | sl_exact hc3 | sl_exact hc4 | sl_exact hc5)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

set_option maxHeartbeats 4000000 in
/-- The body at an odd point of the second phase (the sixth branch runs): from the buffers of `Held` it runs to the same buffers. -/
theorem run_V (c : Dev nD) (i : grid0.Coords) (arg1 : Memref sig .tc .vmem S1536x512 .bf16) (harg1 : arg1.IsWhole) (arg2 : Memref sig .tc .vmem S1536x256 .bf16) (harg2 : arg2.IsWhole) (arg3 : Memref sig .tc .vmem S1536x128 .fp8e4m3) (harg3 : arg3.IsWhole) (arg4 : Memref sig .tc .vmem S4x12x128 .i8) (harg4 : arg4.IsWhole) (arg5 : Memref sig .tc .vmem S3584x512 .fp8e4m3) (harg5 : arg5.IsWhole) (arg6 : Memref sig .tc .vmem S3584x128 .i8) (harg6 : arg6.IsWhole) (arg7 : Memref sig .tc .vmem S32x3584 .bf16) (harg7 : arg7.IsWhole) (arg8 : Memref sig .tc .vmem S32x3584 .bf16) (harg8 : arg8.IsWhole) (arg9 : Memref sig .tc .vmem S3584x256 .f32) (harg9 : arg9.IsWhole) (arg10 : Memref sig .tc .vmem S32x3584 .fp8e4m3) (harg10 : arg10.IsWhole) (arg11 : Memref sig .tc .vmem S32x112 .i8) (harg11 : arg11.IsWhole) (arg12 : Memref sig .tc .vmem S1536x3584 .f32) (harg12 : arg12.IsWhole) (arg13 : Memref sig .tc .vmem S3584x1536 .bf16) (harg13 : arg13.IsWhole) (arg14 : Memref sig .tc .vmem S1536x512 .bf16) (harg14 : arg14.IsWhole) (arg15 : Memref sig .tc .vmem S1536x512 .bf16) (harg15 : arg15.IsWhole) (hc0 : ¬br0 i) (hc1 : ¬br1 i) (hc2 : ¬br2 i) (hc3 : ¬br3 i) (hc4 : ¬br4 i) (hc5 : br5 i)
    (x1 : Vec F S1536x512 .bf16) (x2 : Vec F S1536x256 .bf16) (x3 : Vec F S1536x128 .fp8e4m3) (x4 : Vec F S4x12x128 .i8) (x5 : Vec F S3584x512 .fp8e4m3) (x6 : Vec F S3584x128 .i8) (x7 : Vec F S32x3584 .bf16) (E : Set ℕ) (K : PUnit → sProp 𝕄) :
    iprop(Held c arg1 arg2 arg3 arg4 arg5 arg6 arg7 arg8 arg9 arg10 arg11 arg12 arg13 arg14 arg15 x1 x2 x3 x4 x5 x6 x7 ∗ (Held c arg1 arg2 arg3 arg4 arg5 arg6 arg7 arg8 arg9 arg10 arg11 arg12 arg13 arg14 arg15 x1 x2 x3 x4 x5 x6 x7 -∗ K ⟨⟩))
      ⊢ wp frame (wpE (defs₀ (F := F)) Variants.none c none) E (cc0_mxfp8_down_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mxfp8_down_proj_bwd_eq_skeleton]; unfold cc0_mxfp8_down_proj_bwd_skel
  simp only [k0_part579_eq_skeleton, k0_part578_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton]
  unfold Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2 | sl_exact hc3 | sl_exact hc4 | sl_exact hc5)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

/-! ## The proof data and the body obligation -/

/-- The output windows' contents are not stated. -/
def forgets : Fin 11 → Bool := fun w => decide (7 ≤ w.val)

/-- The arrays as the region finds them, each input block left in place, the outputs' contents not stated. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => win0_5.fill (grid0.coords t) (fun _ => 0#8) (iblk m c 5 t)
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region's. -/
theorem A_eq (c : Dev nD) (w : Fin cfg0.W) : (dats m 0 c).A w = V m c (Pipeline.arrRef spec0 w) := by
  dsimp only [dats]

/-- Each input block is left in place. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = win0_5.fill (grid0.coords t) (fun _ => 0#8) (iblk m c 5 t) := by dsimp only [dats]
theorem after_6 (c : Dev nD) (t : Fin cfg0.N) : (dats m 0 c).after 6 t = iblk m c 6 t := by dsimp only [dats]

/-- Each input's staging buffer holds its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_6 (c : Dev nD) (t : Fin cfg0.N) (d) : (dats m 0 c).before 6 t d = iblk m c 6 t :=
  before0_6_of m (dats m 0 c) (A_eq m c 6) (after_6 m c) t d
/-- the sixth input's only where its block lies in the array. -/
theorem before_5 (c : Dev nD) (t : Fin cfg0.N) (d) : (dats m 0 c).before 5 t d = win0_5.fill (grid0.coords t) d (iblk m c 5 t) :=
  ((dats m 0 c).before_in_eq_fetched 5 rfl (fun _ => rfl)
    (fun t t' h => by
      show (fun a => Pipeline.Clip.of (cc0_transform_5 (grid0.coords t) a) (S3584x128.size a) (S3584x592.size a)) = fun a => Pipeline.Clip.of (cc0_transform_5 (grid0.coords t') a) (S3584x128.size a) (S3584x592.size a)
      rw [show cc0_transform_5 (grid0.coords t) = cc0_transform_5 (grid0.coords t') from h])
    (fun t => by rw [after_5]; refine (win0_5.cut_fill _ _ _).trans ?_; unfold Dat.blockOf iblk; rw [A_eq]; try rfl) t d).trans
    (by unfold Dat.fetched Dat.blockOf iblk; rw [A_eq]; try rfl)

/-- The body at a point: from the buffers of `Held` to the same buffers. -/
theorem run_at (c : Dev nD) (t : Fin cfg0.N) (d5 : Vec F S3584x128 .i8) (E : Set ℕ) (K : PUnit → sProp 𝕄) :
    iprop(Held c (ms0 t) (ms1 t) (ms2 t) (ms3 t) (ms4 t) (ms5 t) (ms6 t) (ms7 t) (ms8 t) (ms9 t) (ms10 t) sc0 sc1 sc2 sc3 (iblk m c 0 t) (iblk m c 1 t) (iblk m c 2 t) (iblk m c 3 t) (iblk m c 4 t) (win0_5.fill (grid0.coords t) d5 (iblk m c 5 t)) (iblk m c 6 t)
        ∗ (Held c (ms0 t) (ms1 t) (ms2 t) (ms3 t) (ms4 t) (ms5 t) (ms6 t) (ms7 t) (ms8 t) (ms9 t) (ms10 t) sc0 sc1 sc2 sc3 (iblk m c 0 t) (iblk m c 1 t) (iblk m c 2 t) (iblk m c 3 t) (iblk m c 4 t) (win0_5.fill (grid0.coords t) d5 (iblk m c 5 t)) (iblk m c 6 t) -∗ K ⟨⟩))
      ⊢ wp frame (wpE (defs₀ (F := F)) Variants.none c none) E (bodyAt0 t) K := by
  have hN : t.val < 112 := lt_of_lt_of_eq t.isLt (show cfg0.N = 112 from N_0)
  have n0 (h : ¬(t.val = 0)) : ¬br0 (grid0.coords t) := fun h' => h ((hbr0 t).mp h')
  have n1 (h : ¬(t.val < 38 ∧ t.val % 2 = 1)) : ¬br1 (grid0.coords t) := fun h' => h ((hbr1 t).mp h')
  have n2 (h : ¬((1 ≤ t.val ∧ t.val < 38) ∧ t.val % 2 = 0)) : ¬br2 (grid0.coords t) := fun h' => h ((hbr2 t).mp h')
  have n3 (h : ¬(t.val = 37)) : ¬br3 (grid0.coords t) := fun h' => h ((hbr3 t).mp h')
  have n4 (h : ¬(38 ≤ t.val ∧ t.val % 2 = 0)) : ¬br4 (grid0.coords t) := fun h' => h ((hbr4 t).mp h')
  have n5 (h : ¬(38 ≤ t.val ∧ t.val % 2 = 1)) : ¬br5 (grid0.coords t) := fun h' => h ((hbr5 t).mp h')
  unfold bodyAt0
  by_cases hA : 38 ≤ t.val
  · by_cases hp : t.val % 2 = 0
    · exact run_U c _ _ _ _ _ _ _ _ _ _ _ _ _ _ _ _ _ _ _ _ _ _ _ _ _ _ _ _ _ _ _ (n0 (by omega)) (n1 (by omega)) (n2 (by omega)) (n3 (by omega)) ((hbr4 t).mpr ⟨by omega, by omega⟩) (n5 (by omega)) _ _ _ _ _ _ _ E K
    · exact run_V c _ _ _ _ _ _ _ _ _ _ _ _ _ _ _ _ _ _ _ _ _ _ _ _ _ _ _ _ _ _ _ (n0 (by omega)) (n1 (by omega)) (n2 (by omega)) (n3 (by omega)) (n4 (by omega)) ((hbr5 t).mpr ⟨by omega, by omega⟩) _ _ _ _ _ _ _ E K
  · by_cases hp : t.val % 2 = 0
    · by_cases h0 : t.val = 0
      · exact run_N c _ _ _ _ _ _ _ _ _ _ _ _ _ _ _ _ _ _ _ _ _ _ _ _ _ _ _ _ _ _ _ ((hbr0 t).mpr (by omega)) (n1 (by omega)) (n2 (by omega)) (n3 (by omega)) (n4 (by omega)) (n5 (by omega)) _ _ _ _ _ _ _ E K
      · exact run_E c _ _ _ _ _ _ _ _ _ _ _ _ _ _ _ _ _ _ _ _ _ _ _ _ _ _ _ _ _ _ _ (n0 (by omega)) (n1 (by omega)) ((hbr2 t).mpr ⟨⟨by omega, by omega⟩, by omega⟩) (n3 (by omega)) (n4 (by omega)) (n5 (by omega)) _ _ _ _ _ _ _ E K
    · by_cases h0 : t.val = 37
      · exact run_Q c _ _ _ _ _ _ _ _ _ _ _ _ _ _ _ _ _ _ _ _ _ _ _ _ _ _ _ _ _ _ _ (n0 (by omega)) ((hbr1 t).mpr ⟨by omega, by omega⟩) (n2 (by omega)) ((hbr3 t).mpr (by omega)) (n4 (by omega)) (n5 (by omega)) _ _ _ _ _ _ _ E K
      · exact run_O c _ _ _ _ _ _ _ _ _ _ _ _ _ _ _ _ _ _ _ _ _ _ _ _ _ _ _ _ _ _ _ (n0 (by omega)) ((hbr1 t).mpr ⟨by omega, by omega⟩) (n2 (by omega)) (n3 (by omega)) (n4 (by omega)) (n5 (by omega)) _ _ _ _ _ _ _ E K

/-- What the body is called with at point `t` -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d))

/-- No input window is idle. -/
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl

set_option maxHeartbeats 2000000 in
/-- The body's triple at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA_scratch]
  rw [show (dats m 0 c).leaves 0 t = owns (c : Thread nD τ) (ms0 t) fullShare ((dats m 0 c).after 0 t) from by
      unfold Dat.leaves; rw [live_0 t, show cfg0.loose 0 = false from rfl], after_0]
  rw [show (dats m 0 c).leaves 1 t = owns (c : Thread nD τ) (ms1 t) fullShare ((dats m 0 c).after 1 t) from by
      unfold Dat.leaves; rw [live_1 t, show cfg0.loose 1 = false from rfl], after_1]
  rw [show (dats m 0 c).leaves 2 t = owns (c : Thread nD τ) (ms2 t) fullShare ((dats m 0 c).after 2 t) from by
      unfold Dat.leaves; rw [live_2 t, show cfg0.loose 2 = false from rfl], after_2]
  rw [show (dats m 0 c).leaves 3 t = owns (c : Thread nD τ) (ms3 t) fullShare ((dats m 0 c).after 3 t) from by
      unfold Dat.leaves; rw [live_3 t, show cfg0.loose 3 = false from rfl], after_3]
  rw [show (dats m 0 c).leaves 4 t = owns (c : Thread nD τ) (ms4 t) fullShare ((dats m 0 c).after 4 t) from by
      unfold Dat.leaves; rw [live_4 t, show cfg0.loose 4 = false from rfl], after_4]
  rw [show (dats m 0 c).leaves 5 t = iprop(∃ d, owns (c : Thread nD τ) (ms5 t) fullShare (win0_5.fill (grid0.coords t) d (win0_5.cut (grid0.coords t) ((dats m 0 c).after 5 t)))) from by
      unfold Dat.leaves; rw [live_5 t, show cfg0.loose 5 = true from rfl]; rfl, after_5]
  simp only [show win0_5.cut (grid0.coords t) (win0_5.fill (grid0.coords t) (fun _ => 0#8) (iblk m c 5 t)) = iblk m c 5 t from win0_5.cut_fill _ _ _]
  rw [show (dats m 0 c).leaves 6 t = owns (c : Thread nD τ) (ms6 t) fullShare ((dats m 0 c).after 6 t) from by
      unfold Dat.leaves; rw [live_6 t, show cfg0.loose 6 = false from rfl], after_6]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_at m c t d5 Set.univ _)
  isplitl [H0 H1 H2 H3 H4 H5 H6 H7 H8 H9 H10 HS0 HS1 HS2 HS3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iexact HS3
  iintro ⟨H0, H1, H2, H3, H4, H5, H6, H7, H8, H9, H10, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexact H6
  isplitl [H7]; · iexact H7
  isplitl [H8]; · iexact H8
  isplitl [H9]; · iexact H9
  iexact H10

/-- The body table's row at point `t` is the body at that point. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : Pipeline.BodyObligationLoose (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
/-- The launch runs, and every semaphore counter ends at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := body_obligation m) (hshare := fun c => (dats m 0 c).share_full fun _ => rfl)
    (howed := fun _ _ => rfl) (V := V m) (hmain := hmain m Variants.none) (hA := A_eq m) (hΦ := fun _ _ => rfl)

/-- The frame of `Kernel`, at any float semantics: it runs, its arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
      ⟨(Pipeline.RDat.FramePost.arr_in h.1 c 0 rfl).trans ((A_eq m c 0).trans (V_main_arg0 m c)),
       (Pipeline.RDat.FramePost.arr_in h.1 c 1 rfl).trans ((A_eq m c 1).trans (V_main_arg1 m c)),
       ((h.1 c).2 main_arg2 (Pipeline.mem_restRefs_of main_arg2 (by decide) (by decide))).trans (V_main_arg2 m c),
       (Pipeline.RDat.FramePost.arr_in h.1 c 3 rfl).trans ((A_eq m c 3).trans (V_main_arg3 m c)),
       (Pipeline.RDat.FramePost.arr_in h.1 c 4 rfl).trans ((A_eq m c 4).trans (V_main_arg4 m c)),
       (Pipeline.RDat.FramePost.arr_in h.1 c 5 rfl).trans ((A_eq m c 5).trans (V_main_arg5 m c)),
       (Pipeline.RDat.FramePost.arr_in h.1 c 6 rfl).trans ((A_eq m c 6).trans (V_main_arg6 m c))⟩, h.2⟩) (run_main m ρ)

end Cert.Kernel.Gen

end
-- ==== Proof.IdealPoints.lean ====
module

public import proofs.«01_k».proof.Proof.Gen.KernelIdeal.Frame
public import proofs.«01_k».proof.Proof.Gen.KernelIdeal.Skeleton
public import Idealize.ShloMosaic.Lib.Claim

@[expose] public section

/-! The points of the grid of `KernelIdeal`: which branches of the body run there, and where they load and store. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions of the body, over the points -/

/-- The conditions of the body's six branches at the grid coordinates `i`. -/
abbrev br0 (i : grid0.Coords) : Prop := (Scalar.cmpi .ne (Scalar.extui (Scalar.cmpi .eq (BitVec.ofNat 32 (i 0).val) 0#32)) 0#32) = 1#1
abbrev br1 (i : grid0.Coords) : Prop := k0_cond2 i = 1#1
abbrev br2 (i : grid0.Coords) : Prop := k0_cond3 i = 1#1
abbrev br3 (i : grid0.Coords) : Prop := (Scalar.cmpi .ne (Scalar.extui (Scalar.cmpi .eq (BitVec.ofNat 32 (i 0).val) 37#32)) 0#32) = 1#1
abbrev br4 (i : grid0.Coords) : Prop := k0_cond5 i = 1#1
abbrev br5 (i : grid0.Coords) : Prop := k0_cond6 i = 1#1

/-- The first branch runs at the first point, -/
theorem hbr0 : ∀ t : Fin cfg0.N, br0 (grid0.coords t) ↔ t.val = 0 :=
  (by decide +kernel : ∀ t : Fin grid0.N, br0 (grid0.coords t) ↔ t.val = 0)
/-- the second at the odd points of the first phase, -/
theorem hbr1 : ∀ t : Fin cfg0.N, br1 (grid0.coords t) ↔ t.val < 38 ∧ t.val % 2 = 1 :=
  (by decide +kernel : ∀ t : Fin grid0.N, br1 (grid0.coords t) ↔ t.val < 38 ∧ t.val % 2 = 1)
/-- the third at its even points after the first, -/
theorem hbr2 : ∀ t : Fin cfg0.N, br2 (grid0.coords t) ↔ (1 ≤ t.val ∧ t.val < 38) ∧ t.val % 2 = 0 :=
  (by decide +kernel : ∀ t : Fin grid0.N, br2 (grid0.coords t) ↔ (1 ≤ t.val ∧ t.val < 38) ∧ t.val % 2 = 0)
/-- the fourth at the last point of the first phase, -/
theorem hbr3 : ∀ t : Fin cfg0.N, br3 (grid0.coords t) ↔ t.val = 37 :=
  (by decide +kernel : ∀ t : Fin grid0.N, br3 (grid0.coords t) ↔ t.val = 37)
/-- the fifth at the even points of the second phase -/
theorem hbr4 : ∀ t : Fin cfg0.N, br4 (grid0.coords t) ↔ 38 ≤ t.val ∧ t.val % 2 = 0 :=
  (by decide +kernel : ∀ t : Fin grid0.N, br4 (grid0.coords t) ↔ 38 ≤ t.val ∧ t.val % 2 = 0)
/-- and the sixth at its odd points. -/
theorem hbr5 : ∀ t : Fin cfg0.N, br5 (grid0.coords t) ↔ 38 ≤ t.val ∧ t.val % 2 = 1 :=
  (by decide +kernel : ∀ t : Fin grid0.N, br5 (grid0.coords t) ↔ 38 ≤ t.val ∧ t.val % 2 = 1)

/-! ## The offsets of the stores into the transposed copy and of the loads of the sum, in closed form -/

theorem off1_eq : ∀ i : grid0.Coords, k0_off1 i = ![128 * min ((i 0).val - 1) 27, 0] := by decide +kernel
instance closedOff1 (i : grid0.Coords) : ClosedOff (k0_off1 i) := ⟨![128 * min ((i 0).val - 1) 27, 0], off1_eq i⟩
theorem off2_eq : ∀ i : grid0.Coords, k0_off2 i = ![128 * min ((i 0).val - 1) 27, 128] := by decide +kernel
instance closedOff2 (i : grid0.Coords) : ClosedOff (k0_off2 i) := ⟨![128 * min ((i 0).val - 1) 27, 128], off2_eq i⟩
theorem off3_eq : ∀ i : grid0.Coords, k0_off3 i = ![128 * min ((i 0).val - 1) 27, 256] := by decide +kernel
instance closedOff3 (i : grid0.Coords) : ClosedOff (k0_off3 i) := ⟨![128 * min ((i 0).val - 1) 27, 256], off3_eq i⟩
theorem off4_eq : ∀ i : grid0.Coords, k0_off4 i = ![128 * min ((i 0).val - 1) 27, 384] := by decide +kernel
instance closedOff4 (i : grid0.Coords) : ClosedOff (k0_off4 i) := ⟨![128 * min ((i 0).val - 1) 27, 384], off4_eq i⟩
theorem off5_eq : ∀ i : grid0.Coords, k0_off5 i = ![128 * min ((i 0).val - 1) 27, 512] := by decide +kernel
instance closedOff5 (i : grid0.Coords) : ClosedOff (k0_off5 i) := ⟨![128 * min ((i 0).val - 1) 27, 512], off5_eq i⟩
theorem off6_eq : ∀ i : grid0.Coords, k0_off6 i = ![128 * min ((i 0).val - 1) 27, 640] := by decide +kernel
instance closedOff6 (i : grid0.Coords) : ClosedOff (k0_off6 i) := ⟨![128 * min ((i 0).val - 1) 27, 640], off6_eq i⟩
theorem off7_eq : ∀ i : grid0.Coords, k0_off7 i = ![128 * min ((i 0).val - 1) 27, 768] := by decide +kernel
instance closedOff7 (i : grid0.Coords) : ClosedOff (k0_off7 i) := ⟨![128 * min ((i 0).val - 1) 27, 768], off7_eq i⟩
theorem off8_eq : ∀ i : grid0.Coords, k0_off8 i = ![128 * min ((i 0).val - 1) 27, 896] := by decide +kernel
instance closedOff8 (i : grid0.Coords) : ClosedOff (k0_off8 i) := ⟨![128 * min ((i 0).val - 1) 27, 896], off8_eq i⟩
theorem off9_eq : ∀ i : grid0.Coords, k0_off9 i = ![128 * min ((i 0).val - 1) 27, 1024] := by decide +kernel
instance closedOff9 (i : grid0.Coords) : ClosedOff (k0_off9 i) := ⟨![128 * min ((i 0).val - 1) 27, 1024], off9_eq i⟩
theorem off10_eq : ∀ i : grid0.Coords, k0_off10 i = ![128 * min ((i 0).val - 1) 27, 1152] := by decide +kernel
instance closedOff10 (i : grid0.Coords) : ClosedOff (k0_off10 i) := ⟨![128 * min ((i 0).val - 1) 27, 1152], off10_eq i⟩
theorem off11_eq : ∀ i : grid0.Coords, k0_off11 i = ![128 * min ((i 0).val - 1) 27, 1280] := by decide +kernel
instance closedOff11 (i : grid0.Coords) : ClosedOff (k0_off11 i) := ⟨![128 * min ((i 0).val - 1) 27, 1280], off11_eq i⟩
theorem off12_eq : ∀ i : grid0.Coords, k0_off12 i = ![128 * min ((i 0).val - 1) 27, 1408] := by decide +kernel
instance closedOff12 (i : grid0.Coords) : ClosedOff (k0_off12 i) := ⟨![128 * min ((i 0).val - 1) 27, 1408], off12_eq i⟩
theorem off13_eq : ∀ i : grid0.Coords, k0_off13 i = ![128 * min ((i 0).val - 1) 27, 0] := by decide +kernel
instance closedOff13 (i : grid0.Coords) : ClosedOff (k0_off13 i) := ⟨![128 * min ((i 0).val - 1) 27, 0], off13_eq i⟩
theorem off14_eq : ∀ i : grid0.Coords, k0_off14 i = ![128 * min ((i 0).val - 1) 27, 128] := by decide +kernel
instance closedOff14 (i : grid0.Coords) : ClosedOff (k0_off14 i) := ⟨![128 * min ((i 0).val - 1) 27, 128], off14_eq i⟩
theorem off15_eq : ∀ i : grid0.Coords, k0_off15 i = ![128 * min ((i 0).val - 1) 27, 256] := by decide +kernel
instance closedOff15 (i : grid0.Coords) : ClosedOff (k0_off15 i) := ⟨![128 * min ((i 0).val - 1) 27, 256], off15_eq i⟩
theorem off16_eq : ∀ i : grid0.Coords, k0_off16 i = ![128 * min ((i 0).val - 1) 27, 384] := by decide +kernel
instance closedOff16 (i : grid0.Coords) : ClosedOff (k0_off16 i) := ⟨![128 * min ((i 0).val - 1) 27, 384], off16_eq i⟩
theorem off17_eq : ∀ i : grid0.Coords, k0_off17 i = ![128 * min ((i 0).val - 1) 27, 512] := by decide +kernel
instance closedOff17 (i : grid0.Coords) : ClosedOff (k0_off17 i) := ⟨![128 * min ((i 0).val - 1) 27, 512], off17_eq i⟩
theorem off18_eq : ∀ i : grid0.Coords, k0_off18 i = ![128 * min ((i 0).val - 1) 27, 640] := by decide +kernel
instance closedOff18 (i : grid0.Coords) : ClosedOff (k0_off18 i) := ⟨![128 * min ((i 0).val - 1) 27, 640], off18_eq i⟩
theorem off19_eq : ∀ i : grid0.Coords, k0_off19 i = ![128 * min ((i 0).val - 1) 27, 768] := by decide +kernel
instance closedOff19 (i : grid0.Coords) : ClosedOff (k0_off19 i) := ⟨![128 * min ((i 0).val - 1) 27, 768], off19_eq i⟩
theorem off20_eq : ∀ i : grid0.Coords, k0_off20 i = ![128 * min ((i 0).val - 1) 27, 896] := by decide +kernel
instance closedOff20 (i : grid0.Coords) : ClosedOff (k0_off20 i) := ⟨![128 * min ((i 0).val - 1) 27, 896], off20_eq i⟩
theorem off21_eq : ∀ i : grid0.Coords, k0_off21 i = ![128 * min ((i 0).val - 1) 27, 1024] := by decide +kernel
instance closedOff21 (i : grid0.Coords) : ClosedOff (k0_off21 i) := ⟨![128 * min ((i 0).val - 1) 27, 1024], off21_eq i⟩
theorem off22_eq : ∀ i : grid0.Coords, k0_off22 i = ![128 * min ((i 0).val - 1) 27, 1152] := by decide +kernel
instance closedOff22 (i : grid0.Coords) : ClosedOff (k0_off22 i) := ⟨![128 * min ((i 0).val - 1) 27, 1152], off22_eq i⟩
theorem off23_eq : ∀ i : grid0.Coords, k0_off23 i = ![128 * min ((i 0).val - 1) 27, 1280] := by decide +kernel
instance closedOff23 (i : grid0.Coords) : ClosedOff (k0_off23 i) := ⟨![128 * min ((i 0).val - 1) 27, 1280], off23_eq i⟩
theorem off24_eq : ∀ i : grid0.Coords, k0_off24 i = ![128 * min ((i 0).val - 1) 27, 1408] := by decide +kernel
instance closedOff24 (i : grid0.Coords) : ClosedOff (k0_off24 i) := ⟨![128 * min ((i 0).val - 1) 27, 1408], off24_eq i⟩
theorem off25_eq : ∀ i : grid0.Coords, k0_off25 i = ![32 * min ((i 0).val - 38) 47, 0] := by decide +kernel
instance closedOff25 (i : grid0.Coords) : ClosedOff (k0_off25 i) := ⟨![32 * min ((i 0).val - 38) 47, 0], off25_eq i⟩
theorem off26_eq : ∀ i : grid0.Coords, k0_off26 i = ![32 * min ((i 0).val - 38) 47, 128] := by decide +kernel
instance closedOff26 (i : grid0.Coords) : ClosedOff (k0_off26 i) := ⟨![32 * min ((i 0).val - 38) 47, 128], off26_eq i⟩
theorem off27_eq : ∀ i : grid0.Coords, k0_off27 i = ![32 * min ((i 0).val - 38) 47, 256] := by decide +kernel
instance closedOff27 (i : grid0.Coords) : ClosedOff (k0_off27 i) := ⟨![32 * min ((i 0).val - 38) 47, 256], off27_eq i⟩
theorem off28_eq : ∀ i : grid0.Coords, k0_off28 i = ![32 * min ((i 0).val - 38) 47, 384] := by decide +kernel
instance closedOff28 (i : grid0.Coords) : ClosedOff (k0_off28 i) := ⟨![32 * min ((i 0).val - 38) 47, 384], off28_eq i⟩
theorem off29_eq : ∀ i : grid0.Coords, k0_off29 i = ![32 * min ((i 0).val - 38) 47, 512] := by decide +kernel
instance closedOff29 (i : grid0.Coords) : ClosedOff (k0_off29 i) := ⟨![32 * min ((i 0).val - 38) 47, 512], off29_eq i⟩
theorem off30_eq : ∀ i : grid0.Coords, k0_off30 i = ![32 * min ((i 0).val - 38) 47, 640] := by decide +kernel
instance closedOff30 (i : grid0.Coords) : ClosedOff (k0_off30 i) := ⟨![32 * min ((i 0).val - 38) 47, 640], off30_eq i⟩
theorem off31_eq : ∀ i : grid0.Coords, k0_off31 i = ![32 * min ((i 0).val - 38) 47, 768] := by decide +kernel
instance closedOff31 (i : grid0.Coords) : ClosedOff (k0_off31 i) := ⟨![32 * min ((i 0).val - 38) 47, 768], off31_eq i⟩
theorem off32_eq : ∀ i : grid0.Coords, k0_off32 i = ![32 * min ((i 0).val - 38) 47, 896] := by decide +kernel
instance closedOff32 (i : grid0.Coords) : ClosedOff (k0_off32 i) := ⟨![32 * min ((i 0).val - 38) 47, 896], off32_eq i⟩
theorem off33_eq : ∀ i : grid0.Coords, k0_off33 i = ![32 * min ((i 0).val - 38) 47, 1024] := by decide +kernel
instance closedOff33 (i : grid0.Coords) : ClosedOff (k0_off33 i) := ⟨![32 * min ((i 0).val - 38) 47, 1024], off33_eq i⟩
theorem off34_eq : ∀ i : grid0.Coords, k0_off34 i = ![32 * min ((i 0).val - 38) 47, 1152] := by decide +kernel
instance closedOff34 (i : grid0.Coords) : ClosedOff (k0_off34 i) := ⟨![32 * min ((i 0).val - 38) 47, 1152], off34_eq i⟩
theorem off35_eq : ∀ i : grid0.Coords, k0_off35 i = ![32 * min ((i 0).val - 38) 47, 1280] := by decide +kernel
instance closedOff35 (i : grid0.Coords) : ClosedOff (k0_off35 i) := ⟨![32 * min ((i 0).val - 38) 47, 1280], off35_eq i⟩
theorem off36_eq : ∀ i : grid0.Coords, k0_off36 i = ![32 * min ((i 0).val - 38) 47, 1408] := by decide +kernel
instance closedOff36 (i : grid0.Coords) : ClosedOff (k0_off36 i) := ⟨![32 * min ((i 0).val - 38) 47, 1408], off36_eq i⟩
theorem off37_eq : ∀ i : grid0.Coords, k0_off37 i = ![32 * min ((i 0).val - 38) 47, 1536] := by decide +kernel
instance closedOff37 (i : grid0.Coords) : ClosedOff (k0_off37 i) := ⟨![32 * min ((i 0).val - 38) 47, 1536], off37_eq i⟩
theorem off38_eq : ∀ i : grid0.Coords, k0_off38 i = ![32 * min ((i 0).val - 38) 47, 1664] := by decide +kernel
instance closedOff38 (i : grid0.Coords) : ClosedOff (k0_off38 i) := ⟨![32 * min ((i 0).val - 38) 47, 1664], off38_eq i⟩
theorem off39_eq : ∀ i : grid0.Coords, k0_off39 i = ![32 * min ((i 0).val - 38) 47, 1792] := by decide +kernel
instance closedOff39 (i : grid0.Coords) : ClosedOff (k0_off39 i) := ⟨![32 * min ((i 0).val - 38) 47, 1792], off39_eq i⟩
theorem off40_eq : ∀ i : grid0.Coords, k0_off40 i = ![32 * min ((i 0).val - 38) 47, 1920] := by decide +kernel
instance closedOff40 (i : grid0.Coords) : ClosedOff (k0_off40 i) := ⟨![32 * min ((i 0).val - 38) 47, 1920], off40_eq i⟩
theorem off41_eq : ∀ i : grid0.Coords, k0_off41 i = ![32 * min ((i 0).val - 38) 47, 2048] := by decide +kernel
instance closedOff41 (i : grid0.Coords) : ClosedOff (k0_off41 i) := ⟨![32 * min ((i 0).val - 38) 47, 2048], off41_eq i⟩
theorem off42_eq : ∀ i : grid0.Coords, k0_off42 i = ![32 * min ((i 0).val - 38) 47, 2176] := by decide +kernel
instance closedOff42 (i : grid0.Coords) : ClosedOff (k0_off42 i) := ⟨![32 * min ((i 0).val - 38) 47, 2176], off42_eq i⟩
theorem off43_eq : ∀ i : grid0.Coords, k0_off43 i = ![32 * min ((i 0).val - 38) 47, 2304] := by decide +kernel
instance closedOff43 (i : grid0.Coords) : ClosedOff (k0_off43 i) := ⟨![32 * min ((i 0).val - 38) 47, 2304], off43_eq i⟩
theorem off44_eq : ∀ i : grid0.Coords, k0_off44 i = ![32 * min ((i 0).val - 38) 47, 2432] := by decide +kernel
instance closedOff44 (i : grid0.Coords) : ClosedOff (k0_off44 i) := ⟨![32 * min ((i 0).val - 38) 47, 2432], off44_eq i⟩
theorem off45_eq : ∀ i : grid0.Coords, k0_off45 i = ![32 * min ((i 0).val - 38) 47, 2560] := by decide +kernel
instance closedOff45 (i : grid0.Coords) : ClosedOff (k0_off45 i) := ⟨![32 * min ((i 0).val - 38) 47, 2560], off45_eq i⟩
theorem off46_eq : ∀ i : grid0.Coords, k0_off46 i = ![32 * min ((i 0).val - 38) 47, 2688] := by decide +kernel
instance closedOff46 (i : grid0.Coords) : ClosedOff (k0_off46 i) := ⟨![32 * min ((i 0).val - 38) 47, 2688], off46_eq i⟩
theorem off47_eq : ∀ i : grid0.Coords, k0_off47 i = ![32 * min ((i 0).val - 38) 47, 2816] := by decide +kernel
instance closedOff47 (i : grid0.Coords) : ClosedOff (k0_off47 i) := ⟨![32 * min ((i 0).val - 38) 47, 2816], off47_eq i⟩
theorem off48_eq : ∀ i : grid0.Coords, k0_off48 i = ![32 * min ((i 0).val - 38) 47, 2944] := by decide +kernel
instance closedOff48 (i : grid0.Coords) : ClosedOff (k0_off48 i) := ⟨![32 * min ((i 0).val - 38) 47, 2944], off48_eq i⟩
theorem off49_eq : ∀ i : grid0.Coords, k0_off49 i = ![32 * min ((i 0).val - 38) 47, 3072] := by decide +kernel
instance closedOff49 (i : grid0.Coords) : ClosedOff (k0_off49 i) := ⟨![32 * min ((i 0).val - 38) 47, 3072], off49_eq i⟩
theorem off50_eq : ∀ i : grid0.Coords, k0_off50 i = ![32 * min ((i 0).val - 38) 47, 3200] := by decide +kernel
instance closedOff50 (i : grid0.Coords) : ClosedOff (k0_off50 i) := ⟨![32 * min ((i 0).val - 38) 47, 3200], off50_eq i⟩
theorem off51_eq : ∀ i : grid0.Coords, k0_off51 i = ![32 * min ((i 0).val - 38) 47, 3328] := by decide +kernel
instance closedOff51 (i : grid0.Coords) : ClosedOff (k0_off51 i) := ⟨![32 * min ((i 0).val - 38) 47, 3328], off51_eq i⟩
theorem off52_eq : ∀ i : grid0.Coords, k0_off52 i = ![32 * min ((i 0).val - 38) 47, 3456] := by decide +kernel
instance closedOff52 (i : grid0.Coords) : ClosedOff (k0_off52 i) := ⟨![32 * min ((i 0).val - 38) 47, 3456], off52_eq i⟩
theorem off53_eq : ∀ i : grid0.Coords, k0_off53 i = ![32 * min ((i 0).val - 38) 47, 0] := by decide +kernel
instance closedOff53 (i : grid0.Coords) : ClosedOff (k0_off53 i) := ⟨![32 * min ((i 0).val - 38) 47, 0], off53_eq i⟩
theorem off54_eq : ∀ i : grid0.Coords, k0_off54 i = ![32 * min ((i 0).val - 38) 47, 128] := by decide +kernel
instance closedOff54 (i : grid0.Coords) : ClosedOff (k0_off54 i) := ⟨![32 * min ((i 0).val - 38) 47, 128], off54_eq i⟩
theorem off55_eq : ∀ i : grid0.Coords, k0_off55 i = ![32 * min ((i 0).val - 38) 47, 256] := by decide +kernel
instance closedOff55 (i : grid0.Coords) : ClosedOff (k0_off55 i) := ⟨![32 * min ((i 0).val - 38) 47, 256], off55_eq i⟩
theorem off56_eq : ∀ i : grid0.Coords, k0_off56 i = ![32 * min ((i 0).val - 38) 47, 384] := by decide +kernel
instance closedOff56 (i : grid0.Coords) : ClosedOff (k0_off56 i) := ⟨![32 * min ((i 0).val - 38) 47, 384], off56_eq i⟩
theorem off57_eq : ∀ i : grid0.Coords, k0_off57 i = ![32 * min ((i 0).val - 38) 47, 512] := by decide +kernel
instance closedOff57 (i : grid0.Coords) : ClosedOff (k0_off57 i) := ⟨![32 * min ((i 0).val - 38) 47, 512], off57_eq i⟩
theorem off58_eq : ∀ i : grid0.Coords, k0_off58 i = ![32 * min ((i 0).val - 38) 47, 640] := by decide +kernel
instance closedOff58 (i : grid0.Coords) : ClosedOff (k0_off58 i) := ⟨![32 * min ((i 0).val - 38) 47, 640], off58_eq i⟩
theorem off59_eq : ∀ i : grid0.Coords, k0_off59 i = ![32 * min ((i 0).val - 38) 47, 768] := by decide +kernel
instance closedOff59 (i : grid0.Coords) : ClosedOff (k0_off59 i) := ⟨![32 * min ((i 0).val - 38) 47, 768], off59_eq i⟩
theorem off60_eq : ∀ i : grid0.Coords, k0_off60 i = ![32 * min ((i 0).val - 38) 47, 896] := by decide +kernel
instance closedOff60 (i : grid0.Coords) : ClosedOff (k0_off60 i) := ⟨![32 * min ((i 0).val - 38) 47, 896], off60_eq i⟩
theorem off61_eq : ∀ i : grid0.Coords, k0_off61 i = ![32 * min ((i 0).val - 38) 47, 1024] := by decide +kernel
instance closedOff61 (i : grid0.Coords) : ClosedOff (k0_off61 i) := ⟨![32 * min ((i 0).val - 38) 47, 1024], off61_eq i⟩
theorem off62_eq : ∀ i : grid0.Coords, k0_off62 i = ![32 * min ((i 0).val - 38) 47, 1152] := by decide +kernel
instance closedOff62 (i : grid0.Coords) : ClosedOff (k0_off62 i) := ⟨![32 * min ((i 0).val - 38) 47, 1152], off62_eq i⟩
theorem off63_eq : ∀ i : grid0.Coords, k0_off63 i = ![32 * min ((i 0).val - 38) 47, 1280] := by decide +kernel
instance closedOff63 (i : grid0.Coords) : ClosedOff (k0_off63 i) := ⟨![32 * min ((i 0).val - 38) 47, 1280], off63_eq i⟩
theorem off64_eq : ∀ i : grid0.Coords, k0_off64 i = ![32 * min ((i 0).val - 38) 47, 1408] := by decide +kernel
instance closedOff64 (i : grid0.Coords) : ClosedOff (k0_off64 i) := ⟨![32 * min ((i 0).val - 38) 47, 1408], off64_eq i⟩
theorem off65_eq : ∀ i : grid0.Coords, k0_off65 i = ![32 * min ((i 0).val - 38) 47, 1536] := by decide +kernel
instance closedOff65 (i : grid0.Coords) : ClosedOff (k0_off65 i) := ⟨![32 * min ((i 0).val - 38) 47, 1536], off65_eq i⟩
theorem off66_eq : ∀ i : grid0.Coords, k0_off66 i = ![32 * min ((i 0).val - 38) 47, 1664] := by decide +kernel
instance closedOff66 (i : grid0.Coords) : ClosedOff (k0_off66 i) := ⟨![32 * min ((i 0).val - 38) 47, 1664], off66_eq i⟩
theorem off67_eq : ∀ i : grid0.Coords, k0_off67 i = ![32 * min ((i 0).val - 38) 47, 1792] := by decide +kernel
instance closedOff67 (i : grid0.Coords) : ClosedOff (k0_off67 i) := ⟨![32 * min ((i 0).val - 38) 47, 1792], off67_eq i⟩
theorem off68_eq : ∀ i : grid0.Coords, k0_off68 i = ![32 * min ((i 0).val - 38) 47, 1920] := by decide +kernel
instance closedOff68 (i : grid0.Coords) : ClosedOff (k0_off68 i) := ⟨![32 * min ((i 0).val - 38) 47, 1920], off68_eq i⟩
theorem off69_eq : ∀ i : grid0.Coords, k0_off69 i = ![32 * min ((i 0).val - 38) 47, 2048] := by decide +kernel
instance closedOff69 (i : grid0.Coords) : ClosedOff (k0_off69 i) := ⟨![32 * min ((i 0).val - 38) 47, 2048], off69_eq i⟩
theorem off70_eq : ∀ i : grid0.Coords, k0_off70 i = ![32 * min ((i 0).val - 38) 47, 2176] := by decide +kernel
instance closedOff70 (i : grid0.Coords) : ClosedOff (k0_off70 i) := ⟨![32 * min ((i 0).val - 38) 47, 2176], off70_eq i⟩
theorem off71_eq : ∀ i : grid0.Coords, k0_off71 i = ![32 * min ((i 0).val - 38) 47, 2304] := by decide +kernel
instance closedOff71 (i : grid0.Coords) : ClosedOff (k0_off71 i) := ⟨![32 * min ((i 0).val - 38) 47, 2304], off71_eq i⟩
theorem off72_eq : ∀ i : grid0.Coords, k0_off72 i = ![32 * min ((i 0).val - 38) 47, 2432] := by decide +kernel
instance closedOff72 (i : grid0.Coords) : ClosedOff (k0_off72 i) := ⟨![32 * min ((i 0).val - 38) 47, 2432], off72_eq i⟩
theorem off73_eq : ∀ i : grid0.Coords, k0_off73 i = ![32 * min ((i 0).val - 38) 47, 2560] := by decide +kernel
instance closedOff73 (i : grid0.Coords) : ClosedOff (k0_off73 i) := ⟨![32 * min ((i 0).val - 38) 47, 2560], off73_eq i⟩
theorem off74_eq : ∀ i : grid0.Coords, k0_off74 i = ![32 * min ((i 0).val - 38) 47, 2688] := by decide +kernel
instance closedOff74 (i : grid0.Coords) : ClosedOff (k0_off74 i) := ⟨![32 * min ((i 0).val - 38) 47, 2688], off74_eq i⟩
theorem off75_eq : ∀ i : grid0.Coords, k0_off75 i = ![32 * min ((i 0).val - 38) 47, 2816] := by decide +kernel
instance closedOff75 (i : grid0.Coords) : ClosedOff (k0_off75 i) := ⟨![32 * min ((i 0).val - 38) 47, 2816], off75_eq i⟩
theorem off76_eq : ∀ i : grid0.Coords, k0_off76 i = ![32 * min ((i 0).val - 38) 47, 2944] := by decide +kernel
instance closedOff76 (i : grid0.Coords) : ClosedOff (k0_off76 i) := ⟨![32 * min ((i 0).val - 38) 47, 2944], off76_eq i⟩
theorem off77_eq : ∀ i : grid0.Coords, k0_off77 i = ![32 * min ((i 0).val - 38) 47, 3072] := by decide +kernel
instance closedOff77 (i : grid0.Coords) : ClosedOff (k0_off77 i) := ⟨![32 * min ((i 0).val - 38) 47, 3072], off77_eq i⟩
theorem off78_eq : ∀ i : grid0.Coords, k0_off78 i = ![32 * min ((i 0).val - 38) 47, 3200] := by decide +kernel
instance closedOff78 (i : grid0.Coords) : ClosedOff (k0_off78 i) := ⟨![32 * min ((i 0).val - 38) 47, 3200], off78_eq i⟩
theorem off79_eq : ∀ i : grid0.Coords, k0_off79 i = ![32 * min ((i 0).val - 38) 47, 3328] := by decide +kernel
instance closedOff79 (i : grid0.Coords) : ClosedOff (k0_off79 i) := ⟨![32 * min ((i 0).val - 38) 47, 3328], off79_eq i⟩
theorem off80_eq : ∀ i : grid0.Coords, k0_off80 i = ![32 * min ((i 0).val - 38) 47, 3456] := by decide +kernel
instance closedOff80 (i : grid0.Coords) : ClosedOff (k0_off80 i) := ⟨![32 * min ((i 0).val - 38) 47, 3456], off80_eq i⟩

/-- The staging buffers at point `t`, each a whole buffer. -/
abbrev ms0 (t : Fin cfg0.N) : Memref sig .tc .vmem S1536x512 .bf16 := win0_0.stage (cfg0.slots t 0)
abbrev ms1 (t : Fin cfg0.N) : Memref sig .tc .vmem S1536x256 .bf16 := win0_1.stage (cfg0.slots t 1)
abbrev ms2 (t : Fin cfg0.N) : Memref sig .tc .vmem S1536x128 .fp8e4m3 := win0_2.stage (cfg0.slots t 2)
abbrev ms3 (t : Fin cfg0.N) : Memref sig .tc .vmem S4x12x128 .i8 := win0_3.stage (cfg0.slots t 3)
abbrev ms4 (t : Fin cfg0.N) : Memref sig .tc .vmem S3584x512 .fp8e4m3 := win0_4.stage (cfg0.slots t 4)
abbrev ms5 (t : Fin cfg0.N) : Memref sig .tc .vmem S3584x128 .i8 := win0_5.stage (cfg0.slots t 5)
abbrev ms6 (t : Fin cfg0.N) : Memref sig .tc .vmem S32x3584 .bf16 := win0_6.stage (cfg0.slots t 6)
abbrev ms7 (t : Fin cfg0.N) : Memref sig .tc .vmem S32x3584 .bf16 := win0_7.stage (cfg0.slots t 7)
abbrev ms8 (t : Fin cfg0.N) : Memref sig .tc .vmem S3584x256 .f32 := win0_8.stage (cfg0.slots t 8)
abbrev ms9 (t : Fin cfg0.N) : Memref sig .tc .vmem S32x3584 .fp8e4m3 := win0_9.stage (cfg0.slots t 9)
abbrev ms10 (t : Fin cfg0.N) : Memref sig .tc .vmem S32x112 .i8 := win0_10.stage (cfg0.slots t 10)
/-- The scratch buffers. -/
abbrev sc0 : Memref sig .tc .vmem S1536x3584 .f32 := Memref.whole cc0_scratch0
abbrev sc1 : Memref sig .tc .vmem S3584x1536 .bf16 := Memref.whole cc0_scratch1
abbrev sc2 : Memref sig .tc .vmem S1536x512 .bf16 := Memref.whole cc0_scratch2
abbrev sc3 : Memref sig .tc .vmem S1536x512 .bf16 := Memref.whole cc0_scratch3

/-- What the region keeps beside the windows: the scratch buffers at some contents and the generator register. -/
theorem PhiA_scratch (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

end Cert.KernelIdeal.Gen

end
-- ==== Proof.IdealStage.lean ====
module

public import proofs.«01_k».proof.Proof.IdealPoints
public import Idealize.ShloMosaic.Lib.Claim
public import Idealize.ShloMosaic.Lib.WritesUnit
public import Idealize.ShloMosaic.Lib.VecWindow
public import Idealize.ShloMosaic.Lib.BitcastPair
public import Idealize.ShloMosaic.Lib.Pointwise

@[expose] public section

/-! What one point of the first phase stores: 128 columns of the dequantised `x`, transposed. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The power of two that a scale code stands for: its eight bits as the exponent field of a bf16. -/
def scl (s : BitVec 8) : F .bf16 := FloatOps.ofBits .bf16 (s.setWidth 16 <<< 7)

/-- One dequantised value of the staged 128 columns: row `p`, column `r`. -/
def cell (x1 : Vec F S1536x128 .fp8e4m3) (x2 : Vec F S4x12x128 .i8) (p : Fin 1536) (r : Fin 128) : F .bf16 :=
  FloatOps.mulf (FloatOps.extf .bf16 bitsLt_fp8e4m3_bf16 (x1 (ix2 p r)))
    (scl (x2 (ix3 ⟨p.val / 384, by omega⟩ ⟨p.val % 384 / 32, by omega⟩ r)))

/-- A batch's scale codes, each at the exponent field of both halves of a word. -/
def word (v : Vec F S1x12x128 .i8) : IVec S12x128 32 :=
  ori (shli (extui 32 (shapeCast S12x128 v shapeCasts_S1x12x128_S12x128) natLt_8_32) (broadcast S12x128 7#32))
    (shli (extui 32 (shapeCast S12x128 v shapeCasts_S1x12x128_S12x128) natLt_8_32) (broadcast S12x128 23#32))

/-- One block of 32 rows, dequantised by row `off` of the scale words. -/
def piece (off : Fin 2 → ℕ) (h : S12x128.Slices off S1x128) (w : IVec S12x128 32) (v : Vec F S32x128 .fp8e4m3) : FVec F S32x128 .bf16 :=
  mulf (extf .bf16 (shapeCast S32x128 v shapeCasts_S32x128_S32x128 : FVec F S32x128 .fp8e4m3) bitsLt_fp8e4m3_bf16)
    (bitcastToFloat .bf16 (bitcast S32x128 16 (broadcastTo S16x128 (shapeCast S1x128 (extractStridedSlice S1x128 off w h) shapeCasts_S1x128_S1x128) broadcasts_S1x128_S16x128) bitcasts_S16x128_w32_S32x128_w16))

/-- Each row of the scale words is a row of them. -/
theorem slices_row : ∀ k : Fin 12, S12x128.Slices ![k.val, 0] S1x128 := by decide

/-- The twelve blocks of a batch, one below the other. -/
def cat (w : IVec S12x128 32) (v : Fin 12 → Vec F S32x128 .fp8e4m3) : FVec F S384x128 .bf16 :=
  concatenate S384x128 0 (List.ofFn fun k : Fin 12 => ⟨S32x128, piece ![k.val, 0] (slices_row k) w (v k)⟩)
    concatenates_S32x128_S32x128_S32x128_S32x128_S32x128_S32x128_S32x128_S32x128_S32x128_S32x128_S32x128_S32x128_S384x128_d0

/-- 128 rows of a batch, transposed. -/
def turned (off : Fin 2 → ℕ) (h : S384x128.Slices off S128x128) (x : FVec F S384x128 .bf16) : FVec F S128x128 .bf16 :=
  shapeCast S128x128 (transpose S128x128 [1, 0] (extractStridedSlice S128x128 off x h) transposes_S128x128_p1_0_S128x128) shapeCasts_S128x128_S128x128

theorem word_apply (v : Vec F S1x12x128 .i8) (k : Fin 12) (r : Fin 128) :
    word v (ix2 k r) = ((v (ix3 0 k r)).setWidth 32 <<< 7) ||| ((v (ix3 0 k r)).setWidth 32 <<< 23) := by
  unfold word
  pointwise
  rfl

theorem half_lo (s : BitVec 8) (p : ℕ) (hp : p < 2) :
    ((s.setWidth 32 <<< 7) ||| (s.setWidth 32 <<< 23)).extractLsb' (16 * p) 16 = s.setWidth 16 <<< 7 := by
  obtain rfl | rfl : p = 0 ∨ p = 1 := by omega
  all_goals revert s; decide +kernel

theorem piece_apply (k : Fin 12) (h : S12x128.Slices ![k.val, 0] S1x128) (s : Vec F S1x12x128 .i8) (v : Vec F S32x128 .fp8e4m3) (p : Fin 32) (r : Fin 128) :
    piece ![k.val, 0] h (word s) v (ix2 p r)
      = FloatOps.mulf (FloatOps.extf .bf16 bitsLt_fp8e4m3_bf16 (v (ix2 p r))) (scl (s (ix3 0 k r))) := by
  unfold piece scl
  pointwise
  refine congrArg _ (congrArg _ ?_)
  rw [bitcast_32_16]
  refine Eq.trans (congrArg (fun w : BitVec 32 => w.extractLsb' _ 16) (Eq.trans ?_ (word_apply s k r))) (half_lo _ _ (Nat.mod_lt _ (by decide)))
  simp only [broadcastTo, extractStridedSlice]
  refine congrArg (word s) (funext fun a => ?_)
  match a with
  | ⟨0, _⟩ => rfl
  | ⟨1, _⟩ => exact Fin.ext (Nat.zero_add r.val)

theorem cat_apply (s : Vec F S1x12x128 .i8) (v : Fin 12 → Vec F S32x128 .fp8e4m3) (q : Fin 384) (r : Fin 128) :
    cat (word s) v (ix2 q r)
      = FloatOps.mulf (FloatOps.extf .bf16 bitsLt_fp8e4m3_bf16 (v ⟨q.val / 32, by omega⟩ (ix2 ⟨q.val % 32, by omega⟩ r)))
          (scl (s (ix3 0 ⟨q.val / 32, by omega⟩ r))) := by
  rw [← piece_apply _ (slices_row _)]
  exact concatenate_ofFn_apply (t := S384x128) (s₁ := S32x128) (0 : Fin 2) (fun k : Fin 12 => piece ![k.val, 0] (slices_row k) (word s) (v k)) _ rfl 32 rfl (ix2 q r) ⟨q.val / 32, by omega⟩ rfl (ix2 ⟨q.val % 32, by omega⟩ r) rfl
    (fun b hb => by
      match b with
      | ⟨0, _⟩ => exact absurd rfl hb
      | ⟨1, _⟩ => rfl)

theorem turned_apply (o : ℕ) (h : S384x128.Slices ![o, 0] S128x128) (x : FVec F S384x128 .bf16) (ho : o + 128 ≤ 384) (r c : Fin 128) :
    turned ![o, 0] h x (ix2 r c) = x (ix2 ⟨o + c.val, by omega⟩ r) := by
  unfold turned
  pointwise

/-- The transposed 128 rows from row `o` of batch `b`: dequantised values of the staged columns. -/
theorem turned_cat_apply {x1 : Vec F S1536x128 .fp8e4m3} {x2 : Vec F S4x12x128 .i8} {s : Vec F S1x12x128 .i8} {v : Fin 12 → Vec F S32x128 .fp8e4m3}
    (b : Fin 4) (hs : ∀ k r, s (ix3 0 k r) = x2 (ix3 b k r))
    (hv : ∀ (k : Fin 12) (p : Fin 32) r, v k (ix2 p r) = x1 (ix2 ⟨384 * b.val + 32 * k.val + p.val, by omega⟩ r))
    (o : ℕ) (h : S384x128.Slices ![o, 0] S128x128) (ho : o + 128 ≤ 384) (r c : Fin 128) :
    turned ![o, 0] h (cat (word s) v) (ix2 r c) = cell x1 x2 ⟨384 * b.val + o + c.val, by omega⟩ r := by
  rw [turned_apply _ _ _ ho, cat_apply, hs, hv]
  unfold cell
  refine congrArg₂ _ (congrArg _ (congrArg x1 (congrArg (ix2 · r) (Fin.ext ?_)))) (congrArg scl (congrArg x2 (congrArg₂ (ix3 · · r) (Fin.ext ?_) (Fin.ext ?_))))
  · show 384 * b.val + 32 * ((o + c.val) / 32) + (o + c.val) % 32 = 384 * b.val + o + c.val
    omega
  · show b.val = (384 * b.val + o + c.val) / 384
    omega
  · show (o + c.val) / 32 = (384 * b.val + o + c.val) % 384 / 32
    omega

end Cert.KernelIdeal.Gen

end
-- ==== Proof.IdealWiden.lean ====
module

public import proofs.«01_k».proof.Proof.IdealStage

@[expose] public section

/-! The dequantised block of `w` that one point of the first phase multiplies by: codes widened and multiplied by the powers of two of their groups of 32 columns. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The place of a block's first group of 32 columns among the eight that share a staged block of scale codes. -/
def firstOf (a : BitVec 32) : Fin 8 := ⟨((a - 1#32) &&& 7#32).toNat, by
  rw [BitVec.toNat_and]; exact Nat.lt_succ_of_le Nat.and_le_right⟩

/-- The dequantised block of `w`: each code times the power of two of its group. -/
def wDeq (a : BitVec 32) (x5 : Vec F S3584x512 .fp8e4m3) (x6 : Vec F S3584x128 .i8) : Vec F S3584x512 .bf16 := fun y =>
  FloatOps.mulf (FloatOps.extf .bf16 bitsLt_fp8e4m3_bf16 (x5 y))
    (scl (x6 (ix2 (y 0) ⟨16 * (firstOf a).val + (y 1).val / 32, by have : (y 1).val < 512 := (y 1).isLt; have := (firstOf a).isLt; omega⟩)))

/-- The scale codes of 32 rows, each at the exponent field of a half word, the halves of two rows in one word. -/
def wWord (s : Vec F S32x128 .i8) : IVec S16x128 32 :=
  bitcast S16x128 32 (trunci 16 (shli (extui 32 s natLt_8_32) (broadcast S32x128 7#32)) natLt_16_32) bitcasts_S32x128_w16_S16x128_w32

/-- The column of the scale of each lane of a tile, `o` the tile's first group. -/
def wCol (a o : BitVec 32) : IVec S16x128 32 :=
  let u : IVec S16x128 32 := addi (broadcast S16x128 (Scalar.addi (Scalar.muli (Scalar.andi (Scalar.subi a 1#32) 7#32) 16#32) o))
    (shrsi (iota .tc S16x128 32 [1] iota_S16x128_d1_w32) (broadcast S16x128 5#32))
  shapeCast S16x128 (shapeCast S16x128x1 (select (cmpi .slt u (broadcast S16x128 0#32)) (addi u (broadcast S16x128 128#32)) u) shapeCasts_S16x128_S16x128x1) shapeCasts_S16x128x1_S16x128

/-- A tile of 32 rows and 128 columns, dequantised. -/
def wTile (a o : BitVec 32) (s : Vec F S32x128 .i8) (w : Vec F S32x128 .fp8e4m3) : FVec F S32x128 .bf16 :=
  mulf (extf .bf16 w bitsLt_fp8e4m3_bf16)
    (bitcastToFloat .bf16 (bitcast S32x128 16 (dynamicGather 1 (wWord s) (wCol a o)) bitcasts_S16x128_w32_S32x128_w16))

/-- Four tiles side by side. -/
def wStrip (a : BitVec 32) (s : Vec F S32x128 .i8) (w : Fin 4 → Vec F S32x128 .fp8e4m3) : FVec F S32x512 .bf16 :=
  concatenate S32x512 1 (List.ofFn fun j : Fin 4 => ⟨S32x128, wTile a (![0#32, 4#32, 8#32, 12#32] j) s (w j)⟩)
    concatenates_S32x128_S32x128_S32x128_S32x128_S32x512_d1

/-- Sixteen strips one below the other. -/
def wTall (a : BitVec 32) (s : Fin 16 → Vec F S32x128 .i8) (w : Fin 16 → Fin 4 → Vec F S32x128 .fp8e4m3) : FVec F S512x512 .bf16 :=
  concatenate S512x512 0 (List.ofFn fun r : Fin 16 => ⟨S32x512, wStrip a (s r) (w r)⟩)
    concatenates_S32x512_S32x512_S32x512_S32x512_S32x512_S32x512_S32x512_S32x512_S32x512_S32x512_S32x512_S32x512_S32x512_S32x512_S32x512_S32x512_S512x512_d0

/-- The column of a lane's scale, over the eight first groups, the four tiles and the 128 lanes. -/
theorem col_word (k : Fin 8) (j : Fin 4) (r : Fin 128) :
    (Scalar.select (IntOp.cmpi .slt (IntOp.addi (Scalar.addi (Scalar.muli (BitVec.ofNat 32 k.val) 16#32) (![0#32, 4#32, 8#32, 12#32] j)) (IntOp.shrsi .vector (BitVec.ofNat 32 r.val) 5#32)) 0#32)
      (IntOp.addi (IntOp.addi (Scalar.addi (Scalar.muli (BitVec.ofNat 32 k.val) 16#32) (![0#32, 4#32, 8#32, 12#32] j)) (IntOp.shrsi .vector (BitVec.ofNat 32 r.val) 5#32)) 128#32)
      (IntOp.addi (Scalar.addi (Scalar.muli (BitVec.ofNat 32 k.val) 16#32) (![0#32, 4#32, 8#32, 12#32] j)) (IntOp.shrsi .vector (BitVec.ofNat 32 r.val) 5#32))).toNat % 128
      = 16 * k.val + 4 * j.val + r.val / 32 := by
  revert k j r; decide +kernel

theorem firstOf_word (a : BitVec 32) : Scalar.andi (Scalar.subi a 1#32) 7#32 = BitVec.ofNat 32 (firstOf a).val := by
  unfold firstOf
  exact ((BitVec.ofNat_toNat _ _).trans (BitVec.setWidth_eq _)).symm

theorem wCol_apply (a : BitVec 32) (j : Fin 4) (q : Fin 16) (r : Fin 128) :
    (wCol a (![0#32, 4#32, 8#32, 12#32] j) (ix2 q r)).toNat % 128 = 16 * (firstOf a).val + 4 * j.val + r.val / 32 := by
  refine Eq.trans ?_ (col_word (firstOf a) j r)
  unfold wCol
  pointwise
  rw [← firstOf_word]

/-- One scale code at the exponent field of a half word. -/
theorem half_word (s : BitVec 8) : ((s.setWidth 32) <<< (7#32).toNat).setWidth 16 = s.setWidth 16 <<< 7 := by
  revert s; decide +kernel

theorem pick (x y : BitVec 16) (p : ℕ) (hp : p < 2) : (x ++ y).extractLsb' (16 * p) 16 = if p = 0 then y else x := by
  obtain rfl | rfl : p = 0 ∨ p = 1 := by omega
  · refine BitVec.eq_of_getLsbD_eq fun i hi => ?_; rw [BitVec.getLsbD_extractLsb', BitVec.getLsbD_append]; simp [hi]
  · refine BitVec.eq_of_getLsbD_eq fun i hi => ?_; rw [BitVec.getLsbD_extractLsb', BitVec.getLsbD_append]; simp [hi]

/-- The scale codes of 32 rows as half words. -/
def wHalf (s : Vec F S32x128 .i8) : IVec S32x128 16 := trunci 16 (shli (extui 32 s natLt_8_32) (broadcast S32x128 7#32)) natLt_16_32

theorem wHalf_apply (s : Vec F S32x128 .i8) (p : Fin 32) (r : Fin 128) : wHalf s (ix2 p r) = (s (ix2 p r)).setWidth 16 <<< 7 := by
  rw [← half_word]
  unfold wHalf
  pointwise
  rfl

theorem wWord_apply (s : Vec F S32x128 .i8) (q : Fin 16) (r : Fin 128) :
    wWord s (ix2 q r) = ((s (ix2 ⟨2 * q.val + 1, by omega⟩ r)).setWidth 16 <<< 7) ++ ((s (ix2 ⟨2 * q.val, by omega⟩ r)).setWidth 16 <<< 7) := by
  rw [← wHalf_apply, ← wHalf_apply]
  refine (bitcast_16_32 (wHalf s) bitcasts_S32x128_w16_S16x128_w32 (ix2 q r)).trans ?_
  refine congrArg₂ (· ++ ·) (congrArg (wHalf s) (funext fun a => ?_)) (congrArg (wHalf s) (funext fun a => ?_))
  · match a with
    | ⟨0, _⟩ => rfl
    | ⟨1, _⟩ => rfl
  · match a with
    | ⟨0, _⟩ => rfl
    | ⟨1, _⟩ => rfl

theorem wTile_apply (a : BitVec 32) (j : Fin 4) (s : Vec F S32x128 .i8) (w : Vec F S32x128 .fp8e4m3) (p : Fin 32) (r : Fin 128) :
    wTile a (![0#32, 4#32, 8#32, 12#32] j) s w (ix2 p r) = FloatOps.mulf (FloatOps.extf .bf16 bitsLt_fp8e4m3_bf16 (w (ix2 p r)))
      (scl (s (ix2 p ⟨16 * (firstOf a).val + 4 * j.val + r.val / 32, by have := (firstOf a).isLt; omega⟩))) := by
  unfold wTile scl
  pointwise
  refine congrArg _ (congrArg _ ?_)
  rw [bitcast_32_16]
  have e : dynamicGather 1 (wWord s) (wCol a (![0#32, 4#32, 8#32, 12#32] j)) (ix2 (⟨p.val / 2, by omega⟩ : Fin 16) r)
      = wWord s (ix2 ⟨p.val / 2, by omega⟩ ⟨16 * (firstOf a).val + 4 * j.val + r.val / 32, by have := (firstOf a).isLt; omega⟩) := by
    unfold dynamicGather
    refine congrArg (wWord s) (funext fun b => ?_)
    match b with
    | ⟨0, _⟩ => rfl
    | ⟨1, _⟩ => exact Fin.ext (wCol_apply a j ⟨p.val / 2, by omega⟩ r)
  refine Eq.trans (congrArg (fun w : BitVec 32 => w.extractLsb' (16 * (p.val % 2)) 16) (Eq.trans ?_ (e.trans (wWord_apply s _ _)))) ?_
  · refine congrArg _ (funext fun b => ?_)
    match b with
    | ⟨0, _⟩ => rfl
    | ⟨1, _⟩ => rfl
  · rw [pick _ _ _ (Nat.mod_lt _ (by decide))]
    split
    · refine congrArg (fun n : Fin 32 => (s (ix2 n _)).setWidth 16 <<< 7) (Fin.ext ?_)
      show 2 * (p.val / 2) = p.val
      omega
    · refine congrArg (fun n : Fin 32 => (s (ix2 n _)).setWidth 16 <<< 7) (Fin.ext ?_)
      show 2 * (p.val / 2) + 1 = p.val
      omega

theorem wStrip_apply (a : BitVec 32) (s : Vec F S32x128 .i8) (w : Fin 4 → Vec F S32x128 .fp8e4m3) (p : Fin 32) (q : Fin 512) :
    wStrip a s w (ix2 p q) = FloatOps.mulf (FloatOps.extf .bf16 bitsLt_fp8e4m3_bf16 (w ⟨q.val / 128, by omega⟩ (ix2 p ⟨q.val % 128, by omega⟩)))
      (scl (s (ix2 p ⟨16 * (firstOf a).val + q.val / 32, by have := (firstOf a).isLt; omega⟩))) := by
  have e : wStrip a s w (ix2 p q) = wTile a (![0#32, 4#32, 8#32, 12#32] ⟨q.val / 128, by omega⟩) s (w ⟨q.val / 128, by omega⟩) (ix2 p ⟨q.val % 128, by omega⟩) :=
    concatenate_ofFn_apply (t := S32x512) (s₁ := S32x128) (1 : Fin 2) (fun j : Fin 4 => wTile a (![0#32, 4#32, 8#32, 12#32] j) s (w j)) _ rfl 128 rfl (ix2 p q) ⟨q.val / 128, by omega⟩ rfl (ix2 p ⟨q.val % 128, by omega⟩) rfl
      (fun b hb => by
        match b with
        | ⟨0, _⟩ => rfl
        | ⟨1, _⟩ => exact absurd rfl hb)
  rw [e, wTile_apply]
  refine congrArg _ (congrArg (fun n : Fin 128 => scl (s (ix2 p n))) (Fin.ext ?_))
  show 16 * (firstOf a).val + 4 * (q.val / 128) + q.val % 128 / 32 = 16 * (firstOf a).val + q.val / 32
  omega

theorem wTall_apply (a : BitVec 32) (s : Fin 16 → Vec F S32x128 .i8) (w : Fin 16 → Fin 4 → Vec F S32x128 .fp8e4m3) (p q : Fin 512) :
    wTall a s w (ix2 p q) = FloatOps.mulf (FloatOps.extf .bf16 bitsLt_fp8e4m3_bf16 (w ⟨p.val / 32, by omega⟩ ⟨q.val / 128, by omega⟩ (ix2 ⟨p.val % 32, by omega⟩ ⟨q.val % 128, by omega⟩)))
      (scl (s ⟨p.val / 32, by omega⟩ (ix2 ⟨p.val % 32, by omega⟩ ⟨16 * (firstOf a).val + q.val / 32, by have := (firstOf a).isLt; omega⟩))) := by
  rw [← wStrip_apply]
  exact concatenate_ofFn_apply (t := S512x512) (s₁ := S32x512) (0 : Fin 2) (fun r : Fin 16 => wStrip a (s r) (w r)) _ rfl 32 rfl (ix2 p q) ⟨p.val / 32, by omega⟩ rfl (ix2 ⟨p.val % 32, by omega⟩ q) rfl
    (fun b hb => by
      match b with
      | ⟨0, _⟩ => exact absurd rfl hb
      | ⟨1, _⟩ => rfl)

/-- Rows `512 * n` onwards of a block of `w`. -/
def wrow (n : Fin 7) (x5 : Vec F S3584x512 .bf16) : Vec F S512x512 .bf16 :=
  fun j => x5 (ix2 ⟨512 * n.val + (j 0).val, by have : (j 0).val < 512 := (j 0).isLt; omega⟩ (j 1))

/-- Sixteen strips of the staged codes and scale codes are 512 rows of the dequantised block. -/
theorem wTall_eq (a : BitVec 32) (k : Fin 7) (x5 : Vec F S3584x512 .fp8e4m3) (x6 : Vec F S3584x128 .i8) (s : Fin 16 → Vec F S32x128 .i8) (w : Fin 16 → Fin 4 → Vec F S32x128 .fp8e4m3)
    (hs : ∀ r p c, s r (ix2 p c) = x6 (ix2 ⟨512 * k.val + 32 * r.val + p.val, by omega⟩ c))
    (hw : ∀ r j p c, w r j (ix2 p c) = x5 (ix2 ⟨512 * k.val + 32 * r.val + p.val, by omega⟩ ⟨128 * j.val + c.val, by omega⟩)) :
    wTall a s w = wrow k (wDeq a x5 x6) := by
  funext y
  obtain ⟨p, q, rfl⟩ : ∃ p q : Fin 512, y = ix2 p q := ⟨y 0, y 1, eq_ix2 y⟩
  rw [wTall_apply, hs, hw]
  unfold wrow wDeq
  refine congrArg₂ _ (congrArg _ (congrArg x5 (congrArg₂ ix2 (Fin.ext ?_) (Fin.ext ?_)))) (congrArg scl (congrArg x6 (congrArg₂ ix2 (Fin.ext ?_) rfl)))
  · show 512 * k.val + 32 * (p.val / 32) + p.val % 32 = 512 * k.val + p.val
    omega
  · show 128 * (q.val / 128) + q.val % 128 = q.val
    omega
  · show 512 * k.val + 32 * (p.val / 32) + p.val % 32 = 512 * k.val + p.val
    omega

end Cert.KernelIdeal.Gen

end
-- ==== Proof.IdealQuant.lean ====
module

public import proofs.«01_k».proof.Proof.Gen.KernelIdeal.Skeleton
public import Idealize.ShloMosaic.Lib.Claim

@[expose] public section

/-! The quantiser of the first output, as the body of `KernelIdeal` computes it on tiles of 32 rows and 128 columns: four tiles at a time, sixteen groups of 32 columns per row. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The lane of each element of a tile. -/
def laneV : IVec S32x128 32 := iota .tc S32x128 32 [1] iota_S32x128_d1_w32

/-- A tile filled with one number. -/
def fillV (n : BitVec 32) : IVec S32x128 32 := broadcast S32x128 n

/-- Two tiles merged into one: at the lanes without the bit `b` the combination of two lanes of `x`, at those with it of `y`. -/
def mergeV (b c : BitVec 32) (x y : FVec F S32x128 .f32) : FVec F S32x128 .f32 :=
  maximumf (select (cmpi .eq (andi laneV (fillV b)) (fillV 0#32)) x (dynamicRotate 1 b none y rotates_S32x128_d1))
    (select (cmpi .eq (andi laneV (fillV b)) (fillV 0#32)) (dynamicRotate 1 c none x rotates_S32x128_d1) y)

/-- The larger of a lane and the one that a rotation brings there. -/
def foldV (c : BitVec 32) (x : FVec F S32x128 .f32) : FVec F S32x128 .f32 := maximumf x (dynamicRotate 1 c none x rotates_S32x128_d1)

/-- The largest magnitude of each group of 32 columns of four tiles: of tile `j`, group `g` at lane `32 g + 16 (j mod 2) + 8 (j / 2)`. -/
def maxV (t0 t1 t2 t3 : FVec F S32x128 .f32) : FVec F S32x128 .f32 :=
  foldV 127#32 (foldV 126#32 (foldV 124#32 (mergeV 8#32 120#32 (mergeV 16#32 112#32 (absf t0) (absf t1)) (mergeV 16#32 112#32 (absf t2) (absf t3)))))

/-- One step of the search for the exponent field of `x`: the bit `b` is kept where `x` is not below the float with that field. -/
def bitV (x : FVec F S32x128 .f32) (b : BitVec 32) (e : IVec S32x128 32) : IVec S32x128 32 :=
  select (cmpf .oge x (bitcastToFloat .f32 (shli (addi e (fillV b)) (fillV 23#32)))) (addi e (fillV b)) e

/-- The exponent field of `x`, found bit by bit. -/
def searchV (x : FVec F S32x128 .f32) : IVec S32x128 32 :=
  bitV x 1#32 (bitV x 2#32 (bitV x 4#32 (bitV x 8#32 (bitV x 16#32 (bitV x 32#32 (bitV x 64#32 (bitV x 128#32 (fillV 0#32))))))))

/-- The exponent field of the inverse scale, from the largest magnitude. -/
def invV (a : FVec F S32x128 .f32) : IVec S32x128 32 :=
  let e := searchV (minimumf (mulf a (broadcast S32x128 (Scalar.ofBits .f32 0x3B124925#32 : F .f32))) (broadcast S32x128 (Scalar.ofBits .f32 0x7B800000#32 : F .f32)))
  select (cmpi .eq e (fillV 0#32)) (fillV 127#32) (subi (fillV 253#32) e)

/-- The exponent fields of the inverse scales of four tiles. -/
def quadV (t0 t1 t2 t3 : FVec F S32x128 .f32) : IVec S32x128 32 := invV (maxV t0 t1 t2 t3)

/-- A lane index, a negative one counted from the end. -/
def wrapV (l : IVec S32x128 32) : IVec S32x128 32 :=
  shapeCast S32x128 (shapeCast S32x128x1 (select (cmpi .slt l (fillV 0#32)) (addi l (fillV 128#32)) l) shapeCasts_S32x128_S32x128x1) shapeCasts_S32x128x1_S32x128

/-- The lane that holds the value of an element's group. -/
def groupV (a b : BitVec 32) : IVec S32x128 32 := addi (addi (muli (fillV 32#32) (shrsi laneV (fillV 5#32))) (fillV a)) (fillV b)

/-- The codes of a tile: its elements times the inverse scale of their group, clipped. -/
def codeV (a b : BitVec 32) (t : FVec F S32x128 .f32) (e : IVec S32x128 32) : FVec F S32x128 .fp8e4m3 :=
  truncf .fp8e4m3 (minimumf (broadcast S32x128 (Scalar.ofBits .f32 0x43E00000#32 : F .f32)) (maximumf (broadcast S32x128 (Scalar.ofBits .f32 0xC3E00000#32 : F .f32))
    (mulf t (bitcastToFloat .f32 (shli (dynamicGather 1 e (wrapV (groupV a b))) (fillV 23#32)))))) bitsLt_fp8e4m3_f32

/-- The lane that holds the value of the group whose scale code belongs at a lane. -/
def scaleLaneV : IVec S32x128 32 :=
  let n : IVec S32x128 32 := andi laneV (fillV 15#32)
  let j : IVec S32x128 32 := shrsi n (fillV 2#32)
  addi (addi (muli (fillV 32#32) (andi n (fillV 3#32))) (muli (fillV 16#32) (andi j (fillV 1#32)))) (muli (fillV 8#32) (shrsi j (fillV 1#32)))

/-- Sixteen scale codes put in their place in the row. -/
def placeV (q : BitVec 32) (e s : IVec S32x128 32) : IVec S32x128 32 :=
  select (cmpi .eq (shrsi laneV (fillV 4#32)) (fillV q)) (dynamicGather 1 (subi (fillV 254#32) e) (wrapV scaleLaneV)) s

/-- The scale codes of 32 rows. -/
def scaleV (e0 e1 e2 e3 e4 e5 e6 : IVec S32x128 32) : IVec S32x112 8 :=
  trunci 8 (extractStridedSlice S32x112 ![0, 0] (placeV 6#32 e6 (placeV 5#32 e5 (placeV 4#32 e4 (placeV 3#32 e3 (placeV 2#32 e2 (placeV 1#32 e1 (placeV 0#32 e0 (fillV 0#32)))))))) slices_S32x128_o0_0_S32x112) natLt_8_32

/-- The backward GELU of one value: the sum at that place times the derivative at the activation. -/
def geluF1 (g : F .f32) (h : F .bf16) : F .f32 :=
  let x : F .f32 := FloatOps.extf .f32 bitsLt_bf16_f32 h
  let t : F .f32 := FloatOps.tanh (FloatOps.mulf (Scalar.ofBits .f32 0x3F4C422A#32) (FloatOps.addf x (FloatOps.mulf (Scalar.ofBits .f32 0x3D372713#32) (FloatOps.mulf (FloatOps.mulf x x) x))))
  FloatOps.mulf g (FloatOps.addf
    (FloatOps.mulf (Scalar.ofBits .f32 0x3F000000#32) (FloatOps.addf (Scalar.ofBits .f32 0x3F800000#32) t))
    (FloatOps.mulf (FloatOps.mulf (FloatOps.mulf (FloatOps.mulf (Scalar.ofBits .f32 0x3F000000#32) x)
      (FloatOps.subf (Scalar.ofBits .f32 0x3F800000#32) (FloatOps.mulf t t))) (Scalar.ofBits .f32 0x3F4C422A#32))
      (FloatOps.addf (Scalar.ofBits .f32 0x3F800000#32) (FloatOps.mulf (FloatOps.mulf (Scalar.ofBits .f32 0x3E095D4F#32) x) x))))

/-- The same over a tile of 32 rows and 128 columns, as the body computes it. -/
def geluF (g : FVec F S32x128 .f32) (h : FVec F S32x128 .bf16) : FVec F S32x128 .f32 :=
  let x : FVec F S32x128 .f32 := extf .f32 h bitsLt_bf16_f32
  let t : FVec F S32x128 .f32 := tanh (mulf (broadcast S32x128 (Scalar.ofBits .f32 0x3F4C422A#32 : F .f32)) (addf x (mulf (broadcast S32x128 (Scalar.ofBits .f32 0x3D372713#32 : F .f32)) (mulf (mulf x x) x))))
  mulf g (addf
    (mulf (broadcast S32x128 (Scalar.ofBits .f32 0x3F000000#32 : F .f32)) (addf (broadcast S32x128 (Scalar.ofBits .f32 0x3F800000#32 : F .f32)) t))
    (mulf (mulf (mulf (mulf (broadcast S32x128 (Scalar.ofBits .f32 0x3F000000#32 : F .f32)) x)
      (subf (broadcast S32x128 (Scalar.ofBits .f32 0x3F800000#32 : F .f32)) (mulf t t))) (broadcast S32x128 (Scalar.ofBits .f32 0x3F4C422A#32 : F .f32)))
      (addf (broadcast S32x128 (Scalar.ofBits .f32 0x3F800000#32 : F .f32)) (mulf (mulf (broadcast S32x128 (Scalar.ofBits .f32 0x3E095D4F#32 : F .f32)) x) x))))

theorem geluF_apply (g : FVec F S32x128 .f32) (h : FVec F S32x128 .bf16) (j : S32x128.Idx) : geluF g h j = geluF1 (g j) (h j) := rfl

/-- The same rounded to bf16. -/
def gelu1 (g : F .f32) (h : F .bf16) : F .bf16 := FloatOps.truncf .bf16 bitsLt_bf16_f32 (geluF1 g h)
def geluV (g : FVec F S32x128 .f32) (h : FVec F S32x128 .bf16) : FVec F S32x128 .bf16 := truncf .bf16 (geluF g h) bitsLt_bf16_f32

theorem geluV_apply (g : FVec F S32x128 .f32) (h : FVec F S32x128 .bf16) (j : S32x128.Idx) : geluV g h j = gelu1 (g j) (h j) := rfl

end Cert.KernelIdeal.Gen

end
-- ==== Proof.IdealStores.lean ====
module

public import proofs.«01_k».proof.Proof.IdealWiden
public import proofs.«01_k».proof.Proof.IdealQuant

@[expose] public section

/-! What the branches of the body of `KernelIdeal` leave in the buffers: a block of columns of the transposed copy, a step of the sum of the first product, a block of the first output and of its codes and scale codes, seven products of the second output. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the branches leave -/

/-- The transposed copy with its rows of block `col` filled from the staged columns. -/
def fillXt (col : ℕ) (x1 : Vec F S1536x128 .fp8e4m3) (x2 : Vec F S4x12x128 .i8) (x4 : Vec F S3584x1536 .bf16) : Vec F S3584x1536 .bf16 :=
  fun y => if (y 0).val / 128 = col then cell x1 x2 (y 1) ⟨(y 0).val % 128, Nat.mod_lt _ (by decide)⟩ else x4 y

/-- A double buffer with its first 256 columns replaced by the staged block. -/
def putBlk (x0 : Vec F S1536x256 .bf16) (x5 : Vec F S1536x512 .bf16) : Vec F S1536x512 .bf16 :=
  fun y => if h : (y 1).val < 256 then x0 (ix2 (y 0) ⟨(y 1).val, h⟩) else x5 y

/-- Rows `512 * kt` onwards of the transposed copy. -/
def rows512 (kt : Fin 7) (x4 : Vec F S3584x1536 .bf16) : Vec F S512x1536 .bf16 :=
  fun j => x4 (ix2 ⟨512 * kt.val + (j 0).val, by have : (j 0).val < 512 := (j 0).isLt; omega⟩ (j 1))

/-- The first 256 columns of a double buffer. -/
def cols256 (x5 : Vec F S1536x512 .bf16) : Vec F S1536x256 .bf16 :=
  fun j => x5 (ix2 (j 0) ⟨(j 1).val, by have : (j 1).val < 256 := (j 1).isLt; omega⟩)

/-- The seven products of the second phase, one below the other. -/
def prod (x4 : Vec F S3584x1536 .bf16) (x5 : Vec F S1536x512 .bf16) : Vec F S3584x256 .f32 :=
  fun y => k0_pay2085 (rows512 ⟨(y 0).val / 512, by have : (y 0).val < 3584 := (y 0).isLt; omega⟩ x4) (cols256 x5)
    (ix2 ⟨(y 0).val % 512, Nat.mod_lt _ (by decide)⟩ (y 1))

/-- Columns `512 * kt` onwards of the running sum. -/
def gcol (kt : Fin 7) (x9 : Vec F S1536x3584 .f32) : Vec F S1536x512 .f32 :=
  fun j => x9 (ix2 (j 0) ⟨512 * kt.val + (j 1).val, by have : (j 1).val < 512 := (j 1).isLt; omega⟩)

/-- 512 columns of the sum with one product added. -/
def gAdd (g : FVec F S1536x512 .f32) (cur : FVec F S1536x512 .bf16) (w : FVec F S512x512 .bf16) : FVec F S1536x512 .f32 :=
  shapeCast S1536x512 (addf g (matmul dot_S1536x512_S512x512_S1536x512_1_1_0_0_n_n none cur w (constant S1536x512 .f32 0x00000000#32))) shapeCasts_S1536x512_S1536x512

/-- The running sum after one more block: seven products, each added to its 512 columns. -/
def gStep (x9 : Vec F S1536x3584 .f32) (cur : Vec F S1536x512 .bf16) (x5 : Vec F S3584x512 .bf16) : Vec F S1536x3584 .f32 :=
  fun y => gAdd (gcol ⟨(y 1).val / 512, by have : (y 1).val < 3584 := (y 1).isLt; omega⟩ x9) cur
    (wrow ⟨(y 1).val / 512, by have : (y 1).val < 3584 := (y 1).isLt; omega⟩ x5) (ix2 (y 0) ⟨(y 1).val % 512, Nat.mod_lt _ (by decide)⟩)

/-- Tile `j` of the rows `32 * r` onwards of the sum, and of a block of the activation. -/
def gtile (r : ℕ) (j : Fin 28) (x9 : Vec F S1536x3584 .f32) : Vec F S32x128 .f32 :=
  fun y => x9 (ix2 ⟨32 * min r 47 + (y 0).val, by have : (y 0).val < 32 := (y 0).isLt; omega⟩ ⟨128 * j.val + (y 1).val, by have : (y 1).val < 128 := (y 1).isLt; omega⟩)
def htile (j : Fin 28) (x6 : Vec F S32x3584 .bf16) : Vec F S32x128 .bf16 :=
  fun y => x6 (ix2 (y 0) ⟨128 * j.val + (y 1).val, by have : (y 1).val < 128 := (y 1).isLt; omega⟩)

/-- The backward GELU of one of those tiles, in f32. -/
def tileF (r : ℕ) (j : Fin 28) (x9 : Vec F S1536x3584 .f32) (x6 : Vec F S32x3584 .bf16) : FVec F S32x128 .f32 := geluF (gtile r j x9) (htile j x6)

/-- The exponent fields of the inverse scales of four consecutive tiles. -/
def quadAt (q : Fin 7) (r : ℕ) (x9 : Vec F S1536x3584 .f32) (x6 : Vec F S32x3584 .bf16) : IVec S32x128 32 :=
  quadV (tileF r ⟨4 * q.val, by omega⟩ x9 x6) (tileF r ⟨4 * q.val + 1, by omega⟩ x9 x6) (tileF r ⟨4 * q.val + 2, by omega⟩ x9 x6) (tileF r ⟨4 * q.val + 3, by omega⟩ x9 x6)

/-- The codes of tile `n`. -/
def codeAt (n : Fin 28) (r : ℕ) (x9 : Vec F S1536x3584 .f32) (x6 : Vec F S32x3584 .bf16) : FVec F S32x128 .fp8e4m3 :=
  codeV (BitVec.ofNat 32 (16 * (n.val % 2))) (BitVec.ofNat 32 (8 * (n.val % 4 / 2))) (tileF r n x9 x6) (quadAt ⟨n.val / 4, by omega⟩ r x9 x6)

/-- The block of codes of the first output. -/
def codesB (r : ℕ) (x9 : Vec F S1536x3584 .f32) (x6 : Vec F S32x3584 .bf16) : Vec F S32x3584 .fp8e4m3 :=
  fun y => codeAt ⟨(y 1).val / 128, by have : (y 1).val < 3584 := (y 1).isLt; omega⟩ r x9 x6 (ix2 (y 0) ⟨(y 1).val % 128, Nat.mod_lt _ (by decide)⟩)

/-- The block of scale codes of the first output. -/
def scalesB (r : ℕ) (x9 : Vec F S1536x3584 .f32) (x6 : Vec F S32x3584 .bf16) : Vec F S32x112 .i8 :=
  scaleV (quadAt 0 r x9 x6) (quadAt 1 r x9 x6) (quadAt 2 r x9 x6) (quadAt 3 r x9 x6) (quadAt 4 r x9 x6) (quadAt 5 r x9 x6) (quadAt 6 r x9 x6)

/-- The block of the first output: the backward GELU of 32 rows. -/
def dhB (r : ℕ) (x9 : Vec F S1536x3584 .f32) (x6 : Vec F S32x3584 .bf16) : Vec F S32x3584 .bf16 :=
  fun y => gelu1 (x9 (ix2 ⟨32 * min r 47 + (y 0).val, by have : (y 0).val < 32 := (y 0).isLt; omega⟩ (y 1))) (x6 y)

/-! ## The stores read back -/

set_option maxHeartbeats 1000000 in
/-- Twelve stores side by side fill a row block of the transposed copy. -/
theorem read_fill (v : View sig .tc .vmem S3584x1536 .bf16) (f : v.ty.Contents (Elt F)) (col : ℕ) (hcol : col < 28)
    {x1 : Vec F S1536x128 .fp8e4m3} {x2 : Vec F S4x12x128 .i8}
    {o1 : Fin 2 → ℕ} (e1 : o1 = ![128 * col, 0]) (i1 : ∀ a, o1 a + S128x128.size a ≤ S3584x1536.size a) (w1 : Vec F S128x128 .bf16) (h1 : ∀ r c : Fin 128, w1 (ix2 r c) = cell x1 x2 ⟨0 + c.val, by omega⟩ r)
    {o2 : Fin 2 → ℕ} (e2 : o2 = ![128 * col, 128]) (i2 : ∀ a, o2 a + S128x128.size a ≤ S3584x1536.size a) (w2 : Vec F S128x128 .bf16) (h2 : ∀ r c : Fin 128, w2 (ix2 r c) = cell x1 x2 ⟨128 + c.val, by omega⟩ r)
    {o3 : Fin 2 → ℕ} (e3 : o3 = ![128 * col, 256]) (i3 : ∀ a, o3 a + S128x128.size a ≤ S3584x1536.size a) (w3 : Vec F S128x128 .bf16) (h3 : ∀ r c : Fin 128, w3 (ix2 r c) = cell x1 x2 ⟨256 + c.val, by omega⟩ r)
    {o4 : Fin 2 → ℕ} (e4 : o4 = ![128 * col, 384]) (i4 : ∀ a, o4 a + S128x128.size a ≤ S3584x1536.size a) (w4 : Vec F S128x128 .bf16) (h4 : ∀ r c : Fin 128, w4 (ix2 r c) = cell x1 x2 ⟨384 + c.val, by omega⟩ r)
    {o5 : Fin 2 → ℕ} (e5 : o5 = ![128 * col, 512]) (i5 : ∀ a, o5 a + S128x128.size a ≤ S3584x1536.size a) (w5 : Vec F S128x128 .bf16) (h5 : ∀ r c : Fin 128, w5 (ix2 r c) = cell x1 x2 ⟨512 + c.val, by omega⟩ r)
    {o6 : Fin 2 → ℕ} (e6 : o6 = ![128 * col, 640]) (i6 : ∀ a, o6 a + S128x128.size a ≤ S3584x1536.size a) (w6 : Vec F S128x128 .bf16) (h6 : ∀ r c : Fin 128, w6 (ix2 r c) = cell x1 x2 ⟨640 + c.val, by omega⟩ r)
    {o7 : Fin 2 → ℕ} (e7 : o7 = ![128 * col, 768]) (i7 : ∀ a, o7 a + S128x128.size a ≤ S3584x1536.size a) (w7 : Vec F S128x128 .bf16) (h7 : ∀ r c : Fin 128, w7 (ix2 r c) = cell x1 x2 ⟨768 + c.val, by omega⟩ r)
    {o8 : Fin 2 → ℕ} (e8 : o8 = ![128 * col, 896]) (i8 : ∀ a, o8 a + S128x128.size a ≤ S3584x1536.size a) (w8 : Vec F S128x128 .bf16) (h8 : ∀ r c : Fin 128, w8 (ix2 r c) = cell x1 x2 ⟨896 + c.val, by omega⟩ r)
    {o9 : Fin 2 → ℕ} (e9 : o9 = ![128 * col, 1024]) (i9 : ∀ a, o9 a + S128x128.size a ≤ S3584x1536.size a) (w9 : Vec F S128x128 .bf16) (h9 : ∀ r c : Fin 128, w9 (ix2 r c) = cell x1 x2 ⟨1024 + c.val, by omega⟩ r)
    {o10 : Fin 2 → ℕ} (e10 : o10 = ![128 * col, 1152]) (i10 : ∀ a, o10 a + S128x128.size a ≤ S3584x1536.size a) (w10 : Vec F S128x128 .bf16) (h10 : ∀ r c : Fin 128, w10 (ix2 r c) = cell x1 x2 ⟨1152 + c.val, by omega⟩ r)
    {o11 : Fin 2 → ℕ} (e11 : o11 = ![128 * col, 1280]) (i11 : ∀ a, o11 a + S128x128.size a ≤ S3584x1536.size a) (w11 : Vec F S128x128 .bf16) (h11 : ∀ r c : Fin 128, w11 (ix2 r c) = cell x1 x2 ⟨1280 + c.val, by omega⟩ r)
    {o12 : Fin 2 → ℕ} (e12 : o12 = ![128 * col, 1408]) (i12 : ∀ a, o12 a + S128x128.size a ≤ S3584x1536.size a) (w12 : Vec F S128x128 .bf16) (h12 : ∀ r c : Fin 128, w12 (ix2 r c) = cell x1 x2 ⟨1408 + c.val, by omega⟩ r)
    : v.read (Elt F) (v.writes (Elt F) f [⟨Rect.unit o12 S128x128.size i12, w12⟩, ⟨Rect.unit o11 S128x128.size i11, w11⟩, ⟨Rect.unit o10 S128x128.size i10, w10⟩, ⟨Rect.unit o9 S128x128.size i9, w9⟩, ⟨Rect.unit o8 S128x128.size i8, w8⟩, ⟨Rect.unit o7 S128x128.size i7, w7⟩, ⟨Rect.unit o6 S128x128.size i6, w6⟩, ⟨Rect.unit o5 S128x128.size i5, w5⟩, ⟨Rect.unit o4 S128x128.size i4, w4⟩, ⟨Rect.unit o3 S128x128.size i3, w3⟩, ⟨Rect.unit o2 S128x128.size i2, w2⟩, ⟨Rect.unit o1 S128x128.size i1, w1⟩]) = fillXt col x1 x2 (v.read (Elt F) f) := by
  have ok : ∀ (n : ℕ) (hn : n ≤ 1408) (o : Fin 2 → ℕ) (e : o = ![128 * col, n]) (inb : ∀ a, o a + S128x128.size a ≤ S3584x1536.size a) (w : Vec F S128x128 .bf16) (h : ∀ r c : Fin 128, w (ix2 r c) = cell x1 x2 ⟨n + c.val, by omega⟩ r) (x : S128x128.Idx),
      w x = (fun y : S3584x1536.Idx => cell x1 x2 (y 1) ⟨(y 0).val % 128, Nat.mod_lt _ (by decide)⟩) ((Rect.unit (s := S3584x1536) o S128x128.size inb).emb x) := by
    intro n hn o e inb w h x
    subst e
    obtain ⟨r, c, rfl⟩ : ∃ (r c : Fin 128), x = ix2 r c := ⟨x 0, x 1, eq_ix2 x⟩
    rw [h]
    refine congrArg₂ (cell x1 x2) (Fin.ext ?_) (Fin.ext ?_)
    · show n + c.val = n + 1 * c.val
      omega
    · show r.val = (128 * col + 1 * r.val) % 128
      omega
  have near : ∀ (n : ℕ) (o : Fin 2 → ℕ) (e : o = ![128 * col, n]) (inb : ∀ a, o a + S128x128.size a ≤ S3584x1536.size a) {y : S3584x1536.Idx} (hm : y ∈ (Rect.unit (s := S3584x1536) o S128x128.size inb).set), (y 0).val / 128 = col := by
    intro n o e inb y hm
    subst e
    have hz := Rect.mem_set_unit.mp hm 0
    have h1 : 128 * col ≤ (y 0).val := hz.1
    have h2 : (y 0).val < 128 * col + 128 := hz.2
    omega
  funext y
  have hy0 : (y 0).val < 3584 := (y 0).isLt
  have hy1 : (y 1).val < 1536 := (y 1).isLt
  unfold fillXt
  by_cases hc : (y 0).val / 128 = col
  · rw [if_pos hc]
    refine View.read_writes_apply_of_pieces v f (fun y => cell x1 x2 (y 1) ⟨(y 0).val % 128, Nat.mod_lt _ (by decide)⟩) _ ?_ y ?_
    · intro p hp
      simp only [List.mem_cons, List.not_mem_nil, or_false] at hp
      rcases hp with rfl | rfl | rfl | rfl | rfl | rfl | rfl | rfl | rfl | rfl | rfl | rfl
      · exact ok 1408 (by decide) o12 e12 i12 w12 h12
      · exact ok 1280 (by decide) o11 e11 i11 w11 h11
      · exact ok 1152 (by decide) o10 e10 i10 w10 h10
      · exact ok 1024 (by decide) o9 e9 i9 w9 h9
      · exact ok 896 (by decide) o8 e8 i8 w8 h8
      · exact ok 768 (by decide) o7 e7 i7 w7 h7
      · exact ok 640 (by decide) o6 e6 i6 w6 h6
      · exact ok 512 (by decide) o5 e5 i5 w5 h5
      · exact ok 384 (by decide) o4 e4 i4 w4 h4
      · exact ok 256 (by decide) o3 e3 i3 w3 h3
      · exact ok 128 (by decide) o2 e2 i2 w2 h2
      · exact ok 0 (by decide) o1 e1 i1 w1 h1
    · simp only [List.exists_mem_cons_iff, List.not_mem_nil, false_and, exists_false, or_false, Rect.mem_set_unit, Fin.forall_fin_two, e1, e2, e3, e4, e5, e6, e7, e8, e9, e10, e11, e12]
      simp only [Matrix.cons_val_zero, Matrix.cons_val_one]
      omega
  · rw [if_neg hc]
    refine View.read_writes_apply_of_forall_not_mem v f y _ ?_
    intro p hp hm
    simp only [List.mem_cons, List.not_mem_nil, or_false] at hp
    rcases hp with rfl | rfl | rfl | rfl | rfl | rfl | rfl | rfl | rfl | rfl | rfl | rfl
    · exact hc (near 1408 o12 e12 i12 hm)
    · exact hc (near 1280 o11 e11 i11 hm)
    · exact hc (near 1152 o10 e10 i10 hm)
    · exact hc (near 1024 o9 e9 i9 hm)
    · exact hc (near 896 o8 e8 i8 hm)
    · exact hc (near 768 o7 e7 i7 hm)
    · exact hc (near 640 o6 e6 i6 hm)
    · exact hc (near 512 o5 e5 i5 hm)
    · exact hc (near 384 o4 e4 i4 hm)
    · exact hc (near 256 o3 e3 i3 hm)
    · exact hc (near 128 o2 e2 i2 hm)
    · exact hc (near 0 o1 e1 i1 hm)

set_option maxHeartbeats 1000000 in
/-- Seven stores one below the other fill the staged output block. -/
theorem read_prod (v : View sig .tc .vmem S3584x256 .f32) (f : v.ty.Contents (Elt F)) (x4 : Vec F S3584x1536 .bf16) (x5 : Vec F S1536x512 .bf16)
    (i0 : ∀ a, (![0, 0] : Fin 2 → ℕ) a + S512x256.size a ≤ S3584x256.size a) (w0 : Vec F S512x256 .f32) (h0 : w0 = k0_pay2085 (rows512 0 x4) (cols256 x5))
    (i1 : ∀ a, (![512, 0] : Fin 2 → ℕ) a + S512x256.size a ≤ S3584x256.size a) (w1 : Vec F S512x256 .f32) (h1 : w1 = k0_pay2085 (rows512 1 x4) (cols256 x5))
    (i2 : ∀ a, (![1024, 0] : Fin 2 → ℕ) a + S512x256.size a ≤ S3584x256.size a) (w2 : Vec F S512x256 .f32) (h2 : w2 = k0_pay2085 (rows512 2 x4) (cols256 x5))
    (i3 : ∀ a, (![1536, 0] : Fin 2 → ℕ) a + S512x256.size a ≤ S3584x256.size a) (w3 : Vec F S512x256 .f32) (h3 : w3 = k0_pay2085 (rows512 3 x4) (cols256 x5))
    (i4 : ∀ a, (![2048, 0] : Fin 2 → ℕ) a + S512x256.size a ≤ S3584x256.size a) (w4 : Vec F S512x256 .f32) (h4 : w4 = k0_pay2085 (rows512 4 x4) (cols256 x5))
    (i5 : ∀ a, (![2560, 0] : Fin 2 → ℕ) a + S512x256.size a ≤ S3584x256.size a) (w5 : Vec F S512x256 .f32) (h5 : w5 = k0_pay2085 (rows512 5 x4) (cols256 x5))
    (i6 : ∀ a, (![3072, 0] : Fin 2 → ℕ) a + S512x256.size a ≤ S3584x256.size a) (w6 : Vec F S512x256 .f32) (h6 : w6 = k0_pay2085 (rows512 6 x4) (cols256 x5))
    : v.read (Elt F) (v.writes (Elt F) f [⟨Rect.unit ![3072, 0] S512x256.size i6, w6⟩, ⟨Rect.unit ![2560, 0] S512x256.size i5, w5⟩, ⟨Rect.unit ![2048, 0] S512x256.size i4, w4⟩, ⟨Rect.unit ![1536, 0] S512x256.size i3, w3⟩, ⟨Rect.unit ![1024, 0] S512x256.size i2, w2⟩, ⟨Rect.unit ![512, 0] S512x256.size i1, w1⟩, ⟨Rect.unit ![0, 0] S512x256.size i0, w0⟩]) = prod x4 x5 := by
  have ok : ∀ (n : Fin 7) (inb : ∀ a, (![512 * n.val, 0] : Fin 2 → ℕ) a + S512x256.size a ≤ S3584x256.size a) (x : S512x256.Idx),
      k0_pay2085 (rows512 n x4) (cols256 x5) x = prod x4 x5 ((Rect.unit (s := S3584x256) ![512 * n.val, 0] S512x256.size inb).emb x) := by
    intro n inb x
    have hx : (x 0).val < 512 := (x 0).isLt
    unfold prod
    have e0 : (((Rect.unit (s := S3584x256) ![512 * n.val, 0] S512x256.size inb).emb x) 0).val = 512 * n.val + 1 * (x 0).val := rfl
    have e1 : (((Rect.unit (s := S3584x256) ![512 * n.val, 0] S512x256.size inb).emb x) 1).val = 0 + 1 * (x 1).val := rfl
    refine Eq.trans (congrArg _ (eq_ix2 x)) ?_
    refine congr (congrArg (fun k => k0_pay2085 (rows512 k x4) (cols256 x5)) (Fin.ext ?_)) (congrArg₂ ix2 (Fin.ext ?_) (Fin.ext ?_))
    · simp only [e0]; omega
    · simp only [e0]; omega
    · rw [e1]; omega
  funext y
  have hy0 : (y 0).val < 3584 := (y 0).isLt
  have hy1 : (y 1).val < 256 := (y 1).isLt
  refine View.read_writes_apply_of_pieces v f (prod x4 x5) _ ?_ y ?_
  · intro p hp
    simp only [List.mem_cons, List.not_mem_nil, or_false] at hp
    rcases hp with rfl | rfl | rfl | rfl | rfl | rfl | rfl
    · intro x; exact (congrFun h6 x).trans (ok 6 i6 x)
    · intro x; exact (congrFun h5 x).trans (ok 5 i5 x)
    · intro x; exact (congrFun h4 x).trans (ok 4 i4 x)
    · intro x; exact (congrFun h3 x).trans (ok 3 i3 x)
    · intro x; exact (congrFun h2 x).trans (ok 2 i2 x)
    · intro x; exact (congrFun h1 x).trans (ok 1 i1 x)
    · intro x; exact (congrFun h0 x).trans (ok 0 i0 x)
  · simp only [List.exists_mem_cons_iff, List.not_mem_nil, false_and, exists_false, or_false, Rect.mem_set_unit, Fin.forall_fin_two]
    simp only [Matrix.cons_val_zero, Matrix.cons_val_one]
    omega

/-- One store fills the first 256 columns of a double buffer. -/
theorem read_put (v : View sig .tc .vmem S1536x512 .bf16) (f : v.ty.Contents (Elt F)) (x0 : Vec F S1536x256 .bf16)
    (inb : ∀ a, (![0, 0] : Fin 2 → ℕ) a + S1536x256.size a ≤ S1536x512.size a) (w : Vec F S1536x256 .bf16) (hw : w = x0) :
    v.read (Elt F) (v.writes (Elt F) f [⟨Rect.unit ![0, 0] S1536x256.size inb, w⟩]) = putBlk x0 (v.read (Elt F) f) := by
  subst hw
  funext y
  have hy0 : (y 0).val < 1536 := (y 0).isLt
  unfold putBlk
  by_cases h : (y 1).val < 256
  · rw [dif_pos h]
    refine View.read_writes_cons_unit_of_mem v f inb w [] y (ix2 (y 0) ⟨(y 1).val, h⟩) rfl fun a => ?_
    match a with
    | ⟨0, _⟩ => exact (Nat.zero_add _).symm
    | ⟨1, _⟩ => exact (Nat.zero_add _).symm
  · rw [dif_neg h]
    refine (View.read_writes_cons_unit_of_not_mem v f inb w [] y rfl 1 (Or.inr ?_)).trans rfl
    show 0 + 256 ≤ (y 1).val
    omega

set_option maxHeartbeats 1000000 in
/-- Seven stores side by side fill the running sum. -/
theorem read_sum (v : View sig .tc .vmem S1536x3584 .f32) (f : v.ty.Contents (Elt F)) (x9 : Vec F S1536x3584 .f32) (cur : Vec F S1536x512 .bf16) (x5 : Vec F S3584x512 .bf16)
    (i0 : ∀ a, (![0, 0] : Fin 2 → ℕ) a + S1536x512.size a ≤ S1536x3584.size a) (w0 : Vec F S1536x512 .f32) (h0 : w0 = gAdd (gcol 0 x9) cur (wrow 0 x5))
    (i1 : ∀ a, (![0, 512] : Fin 2 → ℕ) a + S1536x512.size a ≤ S1536x3584.size a) (w1 : Vec F S1536x512 .f32) (h1 : w1 = gAdd (gcol 1 x9) cur (wrow 1 x5))
    (i2 : ∀ a, (![0, 1024] : Fin 2 → ℕ) a + S1536x512.size a ≤ S1536x3584.size a) (w2 : Vec F S1536x512 .f32) (h2 : w2 = gAdd (gcol 2 x9) cur (wrow 2 x5))
    (i3 : ∀ a, (![0, 1536] : Fin 2 → ℕ) a + S1536x512.size a ≤ S1536x3584.size a) (w3 : Vec F S1536x512 .f32) (h3 : w3 = gAdd (gcol 3 x9) cur (wrow 3 x5))
    (i4 : ∀ a, (![0, 2048] : Fin 2 → ℕ) a + S1536x512.size a ≤ S1536x3584.size a) (w4 : Vec F S1536x512 .f32) (h4 : w4 = gAdd (gcol 4 x9) cur (wrow 4 x5))
    (i5 : ∀ a, (![0, 2560] : Fin 2 → ℕ) a + S1536x512.size a ≤ S1536x3584.size a) (w5 : Vec F S1536x512 .f32) (h5 : w5 = gAdd (gcol 5 x9) cur (wrow 5 x5))
    (i6 : ∀ a, (![0, 3072] : Fin 2 → ℕ) a + S1536x512.size a ≤ S1536x3584.size a) (w6 : Vec F S1536x512 .f32) (h6 : w6 = gAdd (gcol 6 x9) cur (wrow 6 x5))
    : v.read (Elt F) (v.writes (Elt F) f [⟨Rect.unit ![0, 3072] S1536x512.size i6, w6⟩, ⟨Rect.unit ![0, 2560] S1536x512.size i5, w5⟩, ⟨Rect.unit ![0, 2048] S1536x512.size i4, w4⟩, ⟨Rect.unit ![0, 1536] S1536x512.size i3, w3⟩, ⟨Rect.unit ![0, 1024] S1536x512.size i2, w2⟩, ⟨Rect.unit ![0, 512] S1536x512.size i1, w1⟩, ⟨Rect.unit ![0, 0] S1536x512.size i0, w0⟩]) = gStep x9 cur x5 := by
  have ok : ∀ (n : Fin 7) (inb : ∀ a, (![0, 512 * n.val] : Fin 2 → ℕ) a + S1536x512.size a ≤ S1536x3584.size a) (x : S1536x512.Idx),
      gAdd (gcol n x9) cur (wrow n x5) x = gStep x9 cur x5 ((Rect.unit (s := S1536x3584) ![0, 512 * n.val] S1536x512.size inb).emb x) := by
    intro n inb x
    have hx : (x 1).val < 512 := (x 1).isLt
    unfold gStep
    have e0 : (((Rect.unit (s := S1536x3584) ![0, 512 * n.val] S1536x512.size inb).emb x) 0).val = 0 + 1 * (x 0).val := rfl
    have e1 : (((Rect.unit (s := S1536x3584) ![0, 512 * n.val] S1536x512.size inb).emb x) 1).val = 512 * n.val + 1 * (x 1).val := rfl
    refine Eq.trans (congrArg _ (eq_ix2 x)) ?_
    refine congr (congrArg (fun k => gAdd (gcol k x9) cur (wrow k x5)) (Fin.ext ?_)) (congrArg₂ ix2 (Fin.ext ?_) (Fin.ext ?_))
    · simp only [e1]; omega
    · rw [e0]; omega
    · simp only [e1]; omega
  funext y
  have hy0 : (y 0).val < 1536 := (y 0).isLt
  have hy1 : (y 1).val < 3584 := (y 1).isLt
  refine View.read_writes_apply_of_pieces v f (gStep x9 cur x5) _ ?_ y ?_
  · intro p hp
    simp only [List.mem_cons, List.not_mem_nil, or_false] at hp
    rcases hp with rfl | rfl | rfl | rfl | rfl | rfl | rfl
    · intro x; exact (congrFun h6 x).trans (ok 6 i6 x)
    · intro x; exact (congrFun h5 x).trans (ok 5 i5 x)
    · intro x; exact (congrFun h4 x).trans (ok 4 i4 x)
    · intro x; exact (congrFun h3 x).trans (ok 3 i3 x)
    · intro x; exact (congrFun h2 x).trans (ok 2 i2 x)
    · intro x; exact (congrFun h1 x).trans (ok 1 i1 x)
    · intro x; exact (congrFun h0 x).trans (ok 0 i0 x)
  · simp only [List.exists_mem_cons_iff, List.not_mem_nil, false_and, exists_false, or_false, Rect.mem_set_unit, Fin.forall_fin_two]
    simp only [Matrix.cons_val_zero, Matrix.cons_val_one]
    omega

set_option maxHeartbeats 1000000 in
/-- Seven stores one below the other copy a staged block. -/
theorem read_copy (v : View sig .tc .vmem S1536x512 .bf16) (f : v.ty.Contents (Elt F)) (x1 : Vec F S1536x512 .bf16)
    (i0 : ∀ a, (![0, 0] : Fin 2 → ℕ) a + S192x512.size a ≤ S1536x512.size a) (w0 : Vec F S192x512 .bf16) (h0 : w0 = fun j => x1 ((Rect.unit (s := S1536x512) ![0, 0] S192x512.size i0).emb j))
    (i1 : ∀ a, (![192, 0] : Fin 2 → ℕ) a + S224x512.size a ≤ S1536x512.size a) (w1 : Vec F S224x512 .bf16) (h1 : w1 = fun j => x1 ((Rect.unit (s := S1536x512) ![192, 0] S224x512.size i1).emb j))
    (i2 : ∀ a, (![416, 0] : Fin 2 → ℕ) a + S224x512.size a ≤ S1536x512.size a) (w2 : Vec F S224x512 .bf16) (h2 : w2 = fun j => x1 ((Rect.unit (s := S1536x512) ![416, 0] S224x512.size i2).emb j))
    (i3 : ∀ a, (![640, 0] : Fin 2 → ℕ) a + S224x512.size a ≤ S1536x512.size a) (w3 : Vec F S224x512 .bf16) (h3 : w3 = fun j => x1 ((Rect.unit (s := S1536x512) ![640, 0] S224x512.size i3).emb j))
    (i4 : ∀ a, (![864, 0] : Fin 2 → ℕ) a + S224x512.size a ≤ S1536x512.size a) (w4 : Vec F S224x512 .bf16) (h4 : w4 = fun j => x1 ((Rect.unit (s := S1536x512) ![864, 0] S224x512.size i4).emb j))
    (i5 : ∀ a, (![1088, 0] : Fin 2 → ℕ) a + S224x512.size a ≤ S1536x512.size a) (w5 : Vec F S224x512 .bf16) (h5 : w5 = fun j => x1 ((Rect.unit (s := S1536x512) ![1088, 0] S224x512.size i5).emb j))
    (i6 : ∀ a, (![1312, 0] : Fin 2 → ℕ) a + S224x512.size a ≤ S1536x512.size a) (w6 : Vec F S224x512 .bf16) (h6 : w6 = fun j => x1 ((Rect.unit (s := S1536x512) ![1312, 0] S224x512.size i6).emb j))
    : v.read (Elt F) (v.writes (Elt F) f [⟨Rect.unit ![1312, 0] S224x512.size i6, w6⟩, ⟨Rect.unit ![1088, 0] S224x512.size i5, w5⟩, ⟨Rect.unit ![864, 0] S224x512.size i4, w4⟩, ⟨Rect.unit ![640, 0] S224x512.size i3, w3⟩, ⟨Rect.unit ![416, 0] S224x512.size i2, w2⟩, ⟨Rect.unit ![192, 0] S224x512.size i1, w1⟩, ⟨Rect.unit ![0, 0] S192x512.size i0, w0⟩]) = x1 := by
  funext y
  have hy0 : (y 0).val < 1536 := (y 0).isLt
  have hy1 : (y 1).val < 512 := (y 1).isLt
  refine View.read_writes_apply_of_pieces v f x1 _ ?_ y ?_
  · intro p hp
    simp only [List.mem_cons, List.not_mem_nil, or_false] at hp
    rcases hp with rfl | rfl | rfl | rfl | rfl | rfl | rfl
    · intro x; exact congrFun h6 x
    · intro x; exact congrFun h5 x
    · intro x; exact congrFun h4 x
    · intro x; exact congrFun h3 x
    · intro x; exact congrFun h2 x
    · intro x; exact congrFun h1 x
    · intro x; exact congrFun h0 x
  · simp only [List.exists_mem_cons_iff, List.not_mem_nil, false_and, exists_false, or_false, Rect.mem_set_unit, Fin.forall_fin_two]
    simp only [Matrix.cons_val_zero, Matrix.cons_val_one]
    omega

set_option maxHeartbeats 2000000 in
/-- Twenty-eight stores side by side fill the staged block of the first output. -/
theorem read_dh (v : View sig .tc .vmem S32x3584 .bf16) (f : v.ty.Contents (Elt F)) (r : ℕ) (x9 : Vec F S1536x3584 .f32) (x6 : Vec F S32x3584 .bf16)
    (i0 : ∀ a, (![0, 0] : Fin 2 → ℕ) a + S32x128.size a ≤ S32x3584.size a) (w0 : Vec F S32x128 .bf16) (h0 : w0 = geluV (gtile r 0 x9) (htile 0 x6))
    (i1 : ∀ a, (![0, 128] : Fin 2 → ℕ) a + S32x128.size a ≤ S32x3584.size a) (w1 : Vec F S32x128 .bf16) (h1 : w1 = geluV (gtile r 1 x9) (htile 1 x6))
    (i2 : ∀ a, (![0, 256] : Fin 2 → ℕ) a + S32x128.size a ≤ S32x3584.size a) (w2 : Vec F S32x128 .bf16) (h2 : w2 = geluV (gtile r 2 x9) (htile 2 x6))
    (i3 : ∀ a, (![0, 384] : Fin 2 → ℕ) a + S32x128.size a ≤ S32x3584.size a) (w3 : Vec F S32x128 .bf16) (h3 : w3 = geluV (gtile r 3 x9) (htile 3 x6))
    (i4 : ∀ a, (![0, 512] : Fin 2 → ℕ) a + S32x128.size a ≤ S32x3584.size a) (w4 : Vec F S32x128 .bf16) (h4 : w4 = geluV (gtile r 4 x9) (htile 4 x6))
    (i5 : ∀ a, (![0, 640] : Fin 2 → ℕ) a + S32x128.size a ≤ S32x3584.size a) (w5 : Vec F S32x128 .bf16) (h5 : w5 = geluV (gtile r 5 x9) (htile 5 x6))
    (i6 : ∀ a, (![0, 768] : Fin 2 → ℕ) a + S32x128.size a ≤ S32x3584.size a) (w6 : Vec F S32x128 .bf16) (h6 : w6 = geluV (gtile r 6 x9) (htile 6 x6))
    (i7 : ∀ a, (![0, 896] : Fin 2 → ℕ) a + S32x128.size a ≤ S32x3584.size a) (w7 : Vec F S32x128 .bf16) (h7 : w7 = geluV (gtile r 7 x9) (htile 7 x6))
    (i8 : ∀ a, (![0, 1024] : Fin 2 → ℕ) a + S32x128.size a ≤ S32x3584.size a) (w8 : Vec F S32x128 .bf16) (h8 : w8 = geluV (gtile r 8 x9) (htile 8 x6))
    (i9 : ∀ a, (![0, 1152] : Fin 2 → ℕ) a + S32x128.size a ≤ S32x3584.size a) (w9 : Vec F S32x128 .bf16) (h9 : w9 = geluV (gtile r 9 x9) (htile 9 x6))
    (i10 : ∀ a, (![0, 1280] : Fin 2 → ℕ) a + S32x128.size a ≤ S32x3584.size a) (w10 : Vec F S32x128 .bf16) (h10 : w10 = geluV (gtile r 10 x9) (htile 10 x6))
    (i11 : ∀ a, (![0, 1408] : Fin 2 → ℕ) a + S32x128.size a ≤ S32x3584.size a) (w11 : Vec F S32x128 .bf16) (h11 : w11 = geluV (gtile r 11 x9) (htile 11 x6))
    (i12 : ∀ a, (![0, 1536] : Fin 2 → ℕ) a + S32x128.size a ≤ S32x3584.size a) (w12 : Vec F S32x128 .bf16) (h12 : w12 = geluV (gtile r 12 x9) (htile 12 x6))
    (i13 : ∀ a, (![0, 1664] : Fin 2 → ℕ) a + S32x128.size a ≤ S32x3584.size a) (w13 : Vec F S32x128 .bf16) (h13 : w13 = geluV (gtile r 13 x9) (htile 13 x6))
    (i14 : ∀ a, (![0, 1792] : Fin 2 → ℕ) a + S32x128.size a ≤ S32x3584.size a) (w14 : Vec F S32x128 .bf16) (h14 : w14 = geluV (gtile r 14 x9) (htile 14 x6))
    (i15 : ∀ a, (![0, 1920] : Fin 2 → ℕ) a + S32x128.size a ≤ S32x3584.size a) (w15 : Vec F S32x128 .bf16) (h15 : w15 = geluV (gtile r 15 x9) (htile 15 x6))
    (i16 : ∀ a, (![0, 2048] : Fin 2 → ℕ) a + S32x128.size a ≤ S32x3584.size a) (w16 : Vec F S32x128 .bf16) (h16 : w16 = geluV (gtile r 16 x9) (htile 16 x6))
    (i17 : ∀ a, (![0, 2176] : Fin 2 → ℕ) a + S32x128.size a ≤ S32x3584.size a) (w17 : Vec F S32x128 .bf16) (h17 : w17 = geluV (gtile r 17 x9) (htile 17 x6))
    (i18 : ∀ a, (![0, 2304] : Fin 2 → ℕ) a + S32x128.size a ≤ S32x3584.size a) (w18 : Vec F S32x128 .bf16) (h18 : w18 = geluV (gtile r 18 x9) (htile 18 x6))
    (i19 : ∀ a, (![0, 2432] : Fin 2 → ℕ) a + S32x128.size a ≤ S32x3584.size a) (w19 : Vec F S32x128 .bf16) (h19 : w19 = geluV (gtile r 19 x9) (htile 19 x6))
    (i20 : ∀ a, (![0, 2560] : Fin 2 → ℕ) a + S32x128.size a ≤ S32x3584.size a) (w20 : Vec F S32x128 .bf16) (h20 : w20 = geluV (gtile r 20 x9) (htile 20 x6))
    (i21 : ∀ a, (![0, 2688] : Fin 2 → ℕ) a + S32x128.size a ≤ S32x3584.size a) (w21 : Vec F S32x128 .bf16) (h21 : w21 = geluV (gtile r 21 x9) (htile 21 x6))
    (i22 : ∀ a, (![0, 2816] : Fin 2 → ℕ) a + S32x128.size a ≤ S32x3584.size a) (w22 : Vec F S32x128 .bf16) (h22 : w22 = geluV (gtile r 22 x9) (htile 22 x6))
    (i23 : ∀ a, (![0, 2944] : Fin 2 → ℕ) a + S32x128.size a ≤ S32x3584.size a) (w23 : Vec F S32x128 .bf16) (h23 : w23 = geluV (gtile r 23 x9) (htile 23 x6))
    (i24 : ∀ a, (![0, 3072] : Fin 2 → ℕ) a + S32x128.size a ≤ S32x3584.size a) (w24 : Vec F S32x128 .bf16) (h24 : w24 = geluV (gtile r 24 x9) (htile 24 x6))
    (i25 : ∀ a, (![0, 3200] : Fin 2 → ℕ) a + S32x128.size a ≤ S32x3584.size a) (w25 : Vec F S32x128 .bf16) (h25 : w25 = geluV (gtile r 25 x9) (htile 25 x6))
    (i26 : ∀ a, (![0, 3328] : Fin 2 → ℕ) a + S32x128.size a ≤ S32x3584.size a) (w26 : Vec F S32x128 .bf16) (h26 : w26 = geluV (gtile r 26 x9) (htile 26 x6))
    (i27 : ∀ a, (![0, 3456] : Fin 2 → ℕ) a + S32x128.size a ≤ S32x3584.size a) (w27 : Vec F S32x128 .bf16) (h27 : w27 = geluV (gtile r 27 x9) (htile 27 x6))
    : v.read (Elt F) (v.writes (Elt F) f [⟨Rect.unit ![0, 3456] S32x128.size i27, w27⟩, ⟨Rect.unit ![0, 3328] S32x128.size i26, w26⟩, ⟨Rect.unit ![0, 3200] S32x128.size i25, w25⟩, ⟨Rect.unit ![0, 3072] S32x128.size i24, w24⟩, ⟨Rect.unit ![0, 2944] S32x128.size i23, w23⟩, ⟨Rect.unit ![0, 2816] S32x128.size i22, w22⟩, ⟨Rect.unit ![0, 2688] S32x128.size i21, w21⟩, ⟨Rect.unit ![0, 2560] S32x128.size i20, w20⟩, ⟨Rect.unit ![0, 2432] S32x128.size i19, w19⟩, ⟨Rect.unit ![0, 2304] S32x128.size i18, w18⟩, ⟨Rect.unit ![0, 2176] S32x128.size i17, w17⟩, ⟨Rect.unit ![0, 2048] S32x128.size i16, w16⟩, ⟨Rect.unit ![0, 1920] S32x128.size i15, w15⟩, ⟨Rect.unit ![0, 1792] S32x128.size i14, w14⟩, ⟨Rect.unit ![0, 1664] S32x128.size i13, w13⟩, ⟨Rect.unit ![0, 1536] S32x128.size i12, w12⟩, ⟨Rect.unit ![0, 1408] S32x128.size i11, w11⟩, ⟨Rect.unit ![0, 1280] S32x128.size i10, w10⟩, ⟨Rect.unit ![0, 1152] S32x128.size i9, w9⟩, ⟨Rect.unit ![0, 1024] S32x128.size i8, w8⟩, ⟨Rect.unit ![0, 896] S32x128.size i7, w7⟩, ⟨Rect.unit ![0, 768] S32x128.size i6, w6⟩, ⟨Rect.unit ![0, 640] S32x128.size i5, w5⟩, ⟨Rect.unit ![0, 512] S32x128.size i4, w4⟩, ⟨Rect.unit ![0, 384] S32x128.size i3, w3⟩, ⟨Rect.unit ![0, 256] S32x128.size i2, w2⟩, ⟨Rect.unit ![0, 128] S32x128.size i1, w1⟩, ⟨Rect.unit ![0, 0] S32x128.size i0, w0⟩]) = dhB r x9 x6 := by
  have ok : ∀ (n : Fin 28) (inb : ∀ a, (![0, 128 * n.val] : Fin 2 → ℕ) a + S32x128.size a ≤ S32x3584.size a) (x : S32x128.Idx),
      geluV (gtile r n x9) (htile n x6) x = dhB r x9 x6 ((Rect.unit (s := S32x3584) ![0, 128 * n.val] S32x128.size inb).emb x) := by
    intro n inb x
    rw [geluV_apply]
    unfold dhB gtile htile
    have e0 : (((Rect.unit (s := S32x3584) ![0, 128 * n.val] S32x128.size inb).emb x) 0).val = 0 + 1 * (x 0).val := rfl
    have e1 : (((Rect.unit (s := S32x3584) ![0, 128 * n.val] S32x128.size inb).emb x) 1).val = 128 * n.val + 1 * (x 1).val := rfl
    refine congrArg₂ gelu1 (congrArg x9 (congrArg₂ ix2 (Fin.ext ?_) (Fin.ext ?_))) (congrArg x6 (funext fun a => Fin.ext ?_))
    · simp only [e0]; omega
    · simp only [e1]; omega
    · match a with
      | ⟨0, _⟩ => show (x 0).val = 0 + 1 * (x 0).val; omega
      | ⟨1, _⟩ => show 128 * n.val + (x 1).val = 128 * n.val + 1 * (x 1).val; omega
  funext y
  have hy0 : (y 0).val < 32 := (y 0).isLt
  have hy1 : (y 1).val < 3584 := (y 1).isLt
  refine View.read_writes_apply_of_pieces v f (dhB r x9 x6) _ ?_ y ?_
  · intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl
    · intro x; exact (congrFun h27 x).trans (ok 27 i27 x)
    · intro x; exact (congrFun h26 x).trans (ok 26 i26 x)
    · intro x; exact (congrFun h25 x).trans (ok 25 i25 x)
    · intro x; exact (congrFun h24 x).trans (ok 24 i24 x)
    · intro x; exact (congrFun h23 x).trans (ok 23 i23 x)
    · intro x; exact (congrFun h22 x).trans (ok 22 i22 x)
    · intro x; exact (congrFun h21 x).trans (ok 21 i21 x)
    · intro x; exact (congrFun h20 x).trans (ok 20 i20 x)
    · intro x; exact (congrFun h19 x).trans (ok 19 i19 x)
    · intro x; exact (congrFun h18 x).trans (ok 18 i18 x)
    · intro x; exact (congrFun h17 x).trans (ok 17 i17 x)
    · intro x; exact (congrFun h16 x).trans (ok 16 i16 x)
    · intro x; exact (congrFun h15 x).trans (ok 15 i15 x)
    · intro x; exact (congrFun h14 x).trans (ok 14 i14 x)
    · intro x; exact (congrFun h13 x).trans (ok 13 i13 x)
    · intro x; exact (congrFun h12 x).trans (ok 12 i12 x)
    · intro x; exact (congrFun h11 x).trans (ok 11 i11 x)
    · intro x; exact (congrFun h10 x).trans (ok 10 i10 x)
    · intro x; exact (congrFun h9 x).trans (ok 9 i9 x)
    · intro x; exact (congrFun h8 x).trans (ok 8 i8 x)
    · intro x; exact (congrFun h7 x).trans (ok 7 i7 x)
    · intro x; exact (congrFun h6 x).trans (ok 6 i6 x)
    · intro x; exact (congrFun h5 x).trans (ok 5 i5 x)
    · intro x; exact (congrFun h4 x).trans (ok 4 i4 x)
    · intro x; exact (congrFun h3 x).trans (ok 3 i3 x)
    · intro x; exact (congrFun h2 x).trans (ok 2 i2 x)
    · intro x; exact (congrFun h1 x).trans (ok 1 i1 x)
    · intro x; exact (congrFun h0 x).trans (ok 0 i0 x)
  · simp only [List.exists_mem_cons_iff, List.not_mem_nil, false_and, exists_false, or_false, Rect.mem_set_unit, Fin.forall_fin_two]
    simp only [Matrix.cons_val_zero, Matrix.cons_val_one]
    omega

set_option maxHeartbeats 2000000 in
/-- Twenty-eight stores side by side fill the staged block of codes. -/
theorem read_codes (v : View sig .tc .vmem S32x3584 .fp8e4m3) (f : v.ty.Contents (Elt F)) (r : ℕ) (x9 : Vec F S1536x3584 .f32) (x6 : Vec F S32x3584 .bf16)
    (i0 : ∀ a, (![0, 0] : Fin 2 → ℕ) a + S32x128.size a ≤ S32x3584.size a) (w0 : Vec F S32x128 .fp8e4m3) (h0 : w0 = codeAt 0 r x9 x6)
    (i1 : ∀ a, (![0, 128] : Fin 2 → ℕ) a + S32x128.size a ≤ S32x3584.size a) (w1 : Vec F S32x128 .fp8e4m3) (h1 : w1 = codeAt 1 r x9 x6)
    (i2 : ∀ a, (![0, 256] : Fin 2 → ℕ) a + S32x128.size a ≤ S32x3584.size a) (w2 : Vec F S32x128 .fp8e4m3) (h2 : w2 = codeAt 2 r x9 x6)
    (i3 : ∀ a, (![0, 384] : Fin 2 → ℕ) a + S32x128.size a ≤ S32x3584.size a) (w3 : Vec F S32x128 .fp8e4m3) (h3 : w3 = codeAt 3 r x9 x6)
    (i4 : ∀ a, (![0, 512] : Fin 2 → ℕ) a + S32x128.size a ≤ S32x3584.size a) (w4 : Vec F S32x128 .fp8e4m3) (h4 : w4 = codeAt 4 r x9 x6)
    (i5 : ∀ a, (![0, 640] : Fin 2 → ℕ) a + S32x128.size a ≤ S32x3584.size a) (w5 : Vec F S32x128 .fp8e4m3) (h5 : w5 = codeAt 5 r x9 x6)
    (i6 : ∀ a, (![0, 768] : Fin 2 → ℕ) a + S32x128.size a ≤ S32x3584.size a) (w6 : Vec F S32x128 .fp8e4m3) (h6 : w6 = codeAt 6 r x9 x6)
    (i7 : ∀ a, (![0, 896] : Fin 2 → ℕ) a + S32x128.size a ≤ S32x3584.size a) (w7 : Vec F S32x128 .fp8e4m3) (h7 : w7 = codeAt 7 r x9 x6)
    (i8 : ∀ a, (![0, 1024] : Fin 2 → ℕ) a + S32x128.size a ≤ S32x3584.size a) (w8 : Vec F S32x128 .fp8e4m3) (h8 : w8 = codeAt 8 r x9 x6)
    (i9 : ∀ a, (![0, 1152] : Fin 2 → ℕ) a + S32x128.size a ≤ S32x3584.size a) (w9 : Vec F S32x128 .fp8e4m3) (h9 : w9 = codeAt 9 r x9 x6)
    (i10 : ∀ a, (![0, 1280] : Fin 2 → ℕ) a + S32x128.size a ≤ S32x3584.size a) (w10 : Vec F S32x128 .fp8e4m3) (h10 : w10 = codeAt 10 r x9 x6)
    (i11 : ∀ a, (![0, 1408] : Fin 2 → ℕ) a + S32x128.size a ≤ S32x3584.size a) (w11 : Vec F S32x128 .fp8e4m3) (h11 : w11 = codeAt 11 r x9 x6)
    (i12 : ∀ a, (![0, 1536] : Fin 2 → ℕ) a + S32x128.size a ≤ S32x3584.size a) (w12 : Vec F S32x128 .fp8e4m3) (h12 : w12 = codeAt 12 r x9 x6)
    (i13 : ∀ a, (![0, 1664] : Fin 2 → ℕ) a + S32x128.size a ≤ S32x3584.size a) (w13 : Vec F S32x128 .fp8e4m3) (h13 : w13 = codeAt 13 r x9 x6)
    (i14 : ∀ a, (![0, 1792] : Fin 2 → ℕ) a + S32x128.size a ≤ S32x3584.size a) (w14 : Vec F S32x128 .fp8e4m3) (h14 : w14 = codeAt 14 r x9 x6)
    (i15 : ∀ a, (![0, 1920] : Fin 2 → ℕ) a + S32x128.size a ≤ S32x3584.size a) (w15 : Vec F S32x128 .fp8e4m3) (h15 : w15 = codeAt 15 r x9 x6)
    (i16 : ∀ a, (![0, 2048] : Fin 2 → ℕ) a + S32x128.size a ≤ S32x3584.size a) (w16 : Vec F S32x128 .fp8e4m3) (h16 : w16 = codeAt 16 r x9 x6)
    (i17 : ∀ a, (![0, 2176] : Fin 2 → ℕ) a + S32x128.size a ≤ S32x3584.size a) (w17 : Vec F S32x128 .fp8e4m3) (h17 : w17 = codeAt 17 r x9 x6)
    (i18 : ∀ a, (![0, 2304] : Fin 2 → ℕ) a + S32x128.size a ≤ S32x3584.size a) (w18 : Vec F S32x128 .fp8e4m3) (h18 : w18 = codeAt 18 r x9 x6)
    (i19 : ∀ a, (![0, 2432] : Fin 2 → ℕ) a + S32x128.size a ≤ S32x3584.size a) (w19 : Vec F S32x128 .fp8e4m3) (h19 : w19 = codeAt 19 r x9 x6)
    (i20 : ∀ a, (![0, 2560] : Fin 2 → ℕ) a + S32x128.size a ≤ S32x3584.size a) (w20 : Vec F S32x128 .fp8e4m3) (h20 : w20 = codeAt 20 r x9 x6)
    (i21 : ∀ a, (![0, 2688] : Fin 2 → ℕ) a + S32x128.size a ≤ S32x3584.size a) (w21 : Vec F S32x128 .fp8e4m3) (h21 : w21 = codeAt 21 r x9 x6)
    (i22 : ∀ a, (![0, 2816] : Fin 2 → ℕ) a + S32x128.size a ≤ S32x3584.size a) (w22 : Vec F S32x128 .fp8e4m3) (h22 : w22 = codeAt 22 r x9 x6)
    (i23 : ∀ a, (![0, 2944] : Fin 2 → ℕ) a + S32x128.size a ≤ S32x3584.size a) (w23 : Vec F S32x128 .fp8e4m3) (h23 : w23 = codeAt 23 r x9 x6)
    (i24 : ∀ a, (![0, 3072] : Fin 2 → ℕ) a + S32x128.size a ≤ S32x3584.size a) (w24 : Vec F S32x128 .fp8e4m3) (h24 : w24 = codeAt 24 r x9 x6)
    (i25 : ∀ a, (![0, 3200] : Fin 2 → ℕ) a + S32x128.size a ≤ S32x3584.size a) (w25 : Vec F S32x128 .fp8e4m3) (h25 : w25 = codeAt 25 r x9 x6)
    (i26 : ∀ a, (![0, 3328] : Fin 2 → ℕ) a + S32x128.size a ≤ S32x3584.size a) (w26 : Vec F S32x128 .fp8e4m3) (h26 : w26 = codeAt 26 r x9 x6)
    (i27 : ∀ a, (![0, 3456] : Fin 2 → ℕ) a + S32x128.size a ≤ S32x3584.size a) (w27 : Vec F S32x128 .fp8e4m3) (h27 : w27 = codeAt 27 r x9 x6)
    : v.read (Elt F) (v.writes (Elt F) f [⟨Rect.unit ![0, 3456] S32x128.size i27, w27⟩, ⟨Rect.unit ![0, 3328] S32x128.size i26, w26⟩, ⟨Rect.unit ![0, 3200] S32x128.size i25, w25⟩, ⟨Rect.unit ![0, 3072] S32x128.size i24, w24⟩, ⟨Rect.unit ![0, 2944] S32x128.size i23, w23⟩, ⟨Rect.unit ![0, 2816] S32x128.size i22, w22⟩, ⟨Rect.unit ![0, 2688] S32x128.size i21, w21⟩, ⟨Rect.unit ![0, 2560] S32x128.size i20, w20⟩, ⟨Rect.unit ![0, 2432] S32x128.size i19, w19⟩, ⟨Rect.unit ![0, 2304] S32x128.size i18, w18⟩, ⟨Rect.unit ![0, 2176] S32x128.size i17, w17⟩, ⟨Rect.unit ![0, 2048] S32x128.size i16, w16⟩, ⟨Rect.unit ![0, 1920] S32x128.size i15, w15⟩, ⟨Rect.unit ![0, 1792] S32x128.size i14, w14⟩, ⟨Rect.unit ![0, 1664] S32x128.size i13, w13⟩, ⟨Rect.unit ![0, 1536] S32x128.size i12, w12⟩, ⟨Rect.unit ![0, 1408] S32x128.size i11, w11⟩, ⟨Rect.unit ![0, 1280] S32x128.size i10, w10⟩, ⟨Rect.unit ![0, 1152] S32x128.size i9, w9⟩, ⟨Rect.unit ![0, 1024] S32x128.size i8, w8⟩, ⟨Rect.unit ![0, 896] S32x128.size i7, w7⟩, ⟨Rect.unit ![0, 768] S32x128.size i6, w6⟩, ⟨Rect.unit ![0, 640] S32x128.size i5, w5⟩, ⟨Rect.unit ![0, 512] S32x128.size i4, w4⟩, ⟨Rect.unit ![0, 384] S32x128.size i3, w3⟩, ⟨Rect.unit ![0, 256] S32x128.size i2, w2⟩, ⟨Rect.unit ![0, 128] S32x128.size i1, w1⟩, ⟨Rect.unit ![0, 0] S32x128.size i0, w0⟩]) = codesB r x9 x6 := by
  have ok : ∀ (n : Fin 28) (inb : ∀ a, (![0, 128 * n.val] : Fin 2 → ℕ) a + S32x128.size a ≤ S32x3584.size a) (x : S32x128.Idx),
      codeAt n r x9 x6 x = codesB r x9 x6 ((Rect.unit (s := S32x3584) ![0, 128 * n.val] S32x128.size inb).emb x) := by
    intro n inb x
    have hx : (x 1).val < 128 := (x 1).isLt
    unfold codesB
    have e0 : (((Rect.unit (s := S32x3584) ![0, 128 * n.val] S32x128.size inb).emb x) 0).val = 0 + 1 * (x 0).val := rfl
    have e1 : (((Rect.unit (s := S32x3584) ![0, 128 * n.val] S32x128.size inb).emb x) 1).val = 128 * n.val + 1 * (x 1).val := rfl
    refine Eq.trans (congrArg _ (eq_ix2 x)) ?_
    refine congr (congrArg (fun k => codeAt k r x9 x6) (Fin.ext ?_)) (congrArg₂ ix2 (Fin.ext ?_) (Fin.ext ?_))
    · simp only [e1]; omega
    · rw [e0]; omega
    · simp only [e1]; omega
  funext y
  have hy0 : (y 0).val < 32 := (y 0).isLt
  have hy1 : (y 1).val < 3584 := (y 1).isLt
  refine View.read_writes_apply_of_pieces v f (codesB r x9 x6) _ ?_ y ?_
  · intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl
    · intro x; exact (congrFun h27 x).trans (ok 27 i27 x)
    · intro x; exact (congrFun h26 x).trans (ok 26 i26 x)
    · intro x; exact (congrFun h25 x).trans (ok 25 i25 x)
    · intro x; exact (congrFun h24 x).trans (ok 24 i24 x)
    · intro x; exact (congrFun h23 x).trans (ok 23 i23 x)
    · intro x; exact (congrFun h22 x).trans (ok 22 i22 x)
    · intro x; exact (congrFun h21 x).trans (ok 21 i21 x)
    · intro x; exact (congrFun h20 x).trans (ok 20 i20 x)
    · intro x; exact (congrFun h19 x).trans (ok 19 i19 x)
    · intro x; exact (congrFun h18 x).trans (ok 18 i18 x)
    · intro x; exact (congrFun h17 x).trans (ok 17 i17 x)
    · intro x; exact (congrFun h16 x).trans (ok 16 i16 x)
    · intro x; exact (congrFun h15 x).trans (ok 15 i15 x)
    · intro x; exact (congrFun h14 x).trans (ok 14 i14 x)
    · intro x; exact (congrFun h13 x).trans (ok 13 i13 x)
    · intro x; exact (congrFun h12 x).trans (ok 12 i12 x)
    · intro x; exact (congrFun h11 x).trans (ok 11 i11 x)
    · intro x; exact (congrFun h10 x).trans (ok 10 i10 x)
    · intro x; exact (congrFun h9 x).trans (ok 9 i9 x)
    · intro x; exact (congrFun h8 x).trans (ok 8 i8 x)
    · intro x; exact (congrFun h7 x).trans (ok 7 i7 x)
    · intro x; exact (congrFun h6 x).trans (ok 6 i6 x)
    · intro x; exact (congrFun h5 x).trans (ok 5 i5 x)
    · intro x; exact (congrFun h4 x).trans (ok 4 i4 x)
    · intro x; exact (congrFun h3 x).trans (ok 3 i3 x)
    · intro x; exact (congrFun h2 x).trans (ok 2 i2 x)
    · intro x; exact (congrFun h1 x).trans (ok 1 i1 x)
    · intro x; exact (congrFun h0 x).trans (ok 0 i0 x)
  · simp only [List.exists_mem_cons_iff, List.not_mem_nil, false_and, exists_false, or_false, Rect.mem_set_unit, Fin.forall_fin_two]
    simp only [Matrix.cons_val_zero, Matrix.cons_val_one]
    omega

/-- One store over a whole buffer. -/
theorem read_whole {s : Shape} {e : EltTy} (v : View sig .tc .vmem s e) (f : v.ty.Contents (Elt F)) {o : Fin s.rank → ℕ} (ho : ∀ a, o a = 0)
    (inb : ∀ a, o a + s.size a ≤ s.size a) (w x : s.Idx → Elt F e) (hw : w = x) :
    v.read (Elt F) (v.writes (Elt F) f [⟨Rect.unit o s.size inb, w⟩]) = x := by
  subst hw
  funext y
  exact View.read_writes_cons_unit_of_mem v f inb w [] y y rfl fun a => by rw [ho a]; exact (Nat.zero_add _).symm

/-- The scale codes of a batch, and a block of 32 rows of codes, as the body loads them. -/
abbrev ld3 (arg3 : Memref sig .tc .vmem S4x12x128 .i8) (harg3 : arg3.IsWhole) (x2 : Vec F S4x12x128 .i8) (b : Fin 4) : Vec F S1x12x128 .i8 :=
  View.readAt (Elt F) arg3.view (Rect.unit (s := S4x12x128) ![b.val, 0, 0] S1x12x128.size (by revert b; decide)).toLoadRect (harg3.unread x2)
abbrev ld2 (arg2 : Memref sig .tc .vmem S1536x128 .fp8e4m3) (harg2 : arg2.IsWhole) (x1 : Vec F S1536x128 .fp8e4m3) (b : Fin 4) (k : Fin 12) : Vec F S32x128 .fp8e4m3 :=
  View.readAt (Elt F) arg2.view (Rect.unit (s := S1536x128) ![384 * b.val + 32 * k.val, 0] S32x128.size (by revert b k; decide)).toLoadRect (harg2.unread x1)

/-- What a store of the first phase writes: dequantised values of the staged columns, transposed. -/
theorem pay_ok (arg2 : Memref sig .tc .vmem S1536x128 .fp8e4m3) (harg2 : arg2.IsWhole) (arg3 : Memref sig .tc .vmem S4x12x128 .i8) (harg3 : arg3.IsWhole)
    (x1 : Vec F S1536x128 .fp8e4m3) (x2 : Vec F S4x12x128 .i8) (b : Fin 4) (o : ℕ) (h : S384x128.Slices ![o, 0] S128x128) (ho : o + 128 ≤ 384) (r c : Fin 128) :
    turned ![o, 0] h (cat (word (ld3 arg3 harg3 x2 b)) (ld2 arg2 harg2 x1 b)) (ix2 r c) = cell x1 x2 ⟨384 * b.val + o + c.val, by omega⟩ r := by
  refine turned_cat_apply b (fun k r => ?_) (fun k p r => ?_) o h ho r c
  · unfold ld3
    rw [View.readAt_unit _ _ _ rfl (by revert b; decide), harg3.read_unread]
    refine congrArg x2 (funext fun a => Fin.ext ?_)
    match a with
    | ⟨0, _⟩ => rfl
    | ⟨1, _⟩ => show 0 + 1 * k.val = k.val; omega
    | ⟨2, _⟩ => show 0 + 1 * r.val = r.val; omega
  · unfold ld2
    rw [View.readAt_unit _ _ _ rfl (by revert b k; decide), harg2.read_unread]
    refine congrArg x1 (funext fun a => Fin.ext ?_)
    match a with
    | ⟨0, _⟩ => show 384 * b.val + 32 * k.val + 1 * p.val = 384 * b.val + 32 * k.val + p.val; omega
    | ⟨1, _⟩ => show 0 + 1 * r.val = r.val; omega

/-- What the second phase loads of the transposed copy and of a double buffer. -/
theorem rows_eq (arg5 : Memref sig .tc .vmem S3584x1536 .bf16) (harg5 : arg5.IsWhole) (x4 : Vec F S3584x1536 .bf16) (kt : Fin 7)
    (inb : ∀ a : Fin 2, (![512 * kt.val, 0] : Fin 2 → ℕ) a + S512x1536.size a ≤ S3584x1536.size a) :
    View.readAt (Elt F) arg5.view (Rect.unit (s := S3584x1536) ![512 * kt.val, 0] S512x1536.size inb).toLoadRect (harg5.unread x4) = rows512 kt x4 := by
  rw [View.readAt_unit _ _ _ rfl inb, harg5.read_unread]
  funext j
  refine congrArg x4 (funext fun a => Fin.ext ?_)
  match a with
  | ⟨0, _⟩ => show 512 * kt.val + 1 * (j 0).val = 512 * kt.val + (j 0).val; omega
  | ⟨1, _⟩ => show 0 + 1 * (j 1).val = (j 1).val; omega
theorem cols_eq (arg6 : Memref sig .tc .vmem S1536x512 .bf16) (harg6 : arg6.IsWhole) (x5 : Vec F S1536x512 .bf16)
    (inb : ∀ a : Fin 2, (![0, 0] : Fin 2 → ℕ) a + S1536x256.size a ≤ S1536x512.size a) :
    View.readAt (Elt F) arg6.view (Rect.unit (s := S1536x512) ![0, 0] S1536x256.size inb).toLoadRect (harg6.unread x5) = cols256 x5 := by
  rw [View.readAt_unit _ _ _ rfl inb, harg6.read_unread]
  funext j
  refine congrArg x5 (funext fun a => Fin.ext ?_)
  match a with
  | ⟨0, _⟩ => show 0 + 1 * (j 0).val = (j 0).val; omega
  | ⟨1, _⟩ => show 0 + 1 * (j 1).val = (j 1).val; omega
/-- A load of a whole buffer. -/
theorem whole_eq {s : Shape} {e : EltTy} (a : Memref sig .tc .vmem s e) (ha : a.IsWhole) (x : s.Idx → Elt F e) {o : Fin s.rank → ℕ} (ho : ∀ a, o a = 0)
    (inb : ∀ a, o a + s.size a ≤ s.size a) : View.readAt (Elt F) a.view (Rect.unit (s := s) o s.size inb).toLoadRect (ha.unread x) = x := by
  rw [View.readAt_unit _ _ _ rfl inb, ha.read_unread]
  funext j
  refine congrArg x (funext fun b => Fin.ext ?_)
  show o b + 1 * (j b).val = (j b).val
  rw [ho b]; omega
theorem zero2 : ∀ a : Fin 2, (![0, 0] : Fin 2 → ℕ) a = 0 := by decide

theorem s_in : ∀ (k : Fin 7) (r : Fin 16) (a : Fin 2), (![512 * k.val + 32 * r.val, 0] : Fin 2 → ℕ) a + S32x128.size a ≤ S3584x128.size a := by decide
theorem w_in : ∀ (k : Fin 7) (r : Fin 16) (j : Fin 4) (a : Fin 2), (![512 * k.val + 32 * r.val, 128 * j.val] : Fin 2 → ℕ) a + S32x128.size a ≤ S3584x512.size a := by decide

/-- What a store of the running sum writes. -/
theorem sum_ok (arg9 : Memref sig .tc .vmem S1536x3584 .f32) (harg9 : arg9.IsWhole) (arg11 : Memref sig .tc .vmem S1536x512 .bf16) (harg11 : arg11.IsWhole)
    (arg5 : Memref sig .tc .vmem S3584x512 .fp8e4m3) (harg5 : arg5.IsWhole) (arg6 : Memref sig .tc .vmem S3584x128 .i8) (harg6 : arg6.IsWhole)
    (x9 : Vec F S1536x3584 .f32) (x11 : Vec F S1536x512 .bf16) (x5 : Vec F S3584x512 .fp8e4m3) (x6 : Vec F S3584x128 .i8) (b : BitVec 32) (k : Fin 7)
    (i9 : ∀ a : Fin 2, (![0, 512 * k.val] : Fin 2 → ℕ) a + S1536x512.size a ≤ S1536x3584.size a) (i11 : ∀ a : Fin 2, (![0, 0] : Fin 2 → ℕ) a + S1536x512.size a ≤ S1536x512.size a) :
    gAdd (View.readAt (Elt F) arg9.view (Rect.unit (s := S1536x3584) ![0, 512 * k.val] S1536x512.size i9).toLoadRect (harg9.unread x9))
        (View.readAt (Elt F) arg11.view (Rect.unit (s := S1536x512) ![0, 0] S1536x512.size i11).toLoadRect (harg11.unread x11))
        (wTall b (fun r => View.readAt (Elt F) arg6.view (Rect.unit (s := S3584x128) ![512 * k.val + 32 * r.val, 0] S32x128.size (s_in k r)).toLoadRect (harg6.unread x6))
          (fun r j => View.readAt (Elt F) arg5.view (Rect.unit (s := S3584x512) ![512 * k.val + 32 * r.val, 128 * j.val] S32x128.size (w_in k r j)).toLoadRect (harg5.unread x5)))
      = gAdd (gcol k x9) x11 (wrow k (wDeq b x5 x6)) := by
  refine congr (congrArg₂ gAdd ?_ (whole_eq arg11 harg11 x11 zero2 i11)) (wTall_eq b k x5 x6 _ _ (fun r p c => ?_) (fun r j p c => ?_))
  · rw [View.readAt_unit _ _ _ rfl i9, harg9.read_unread]
    funext j
    refine congrArg x9 (funext fun a => Fin.ext ?_)
    match a with
    | ⟨0, _⟩ => show 0 + 1 * (j 0).val = (j 0).val; omega
    | ⟨1, _⟩ => show 512 * k.val + 1 * (j 1).val = 512 * k.val + (j 1).val; omega
  · rw [View.readAt_unit _ _ _ rfl (s_in k r), harg6.read_unread]
    refine congrArg x6 (funext fun a => Fin.ext ?_)
    match a with
    | ⟨0, _⟩ => show 512 * k.val + 32 * r.val + 1 * p.val = 512 * k.val + 32 * r.val + p.val; omega
    | ⟨1, _⟩ => show 0 + 1 * c.val = c.val; omega
  · rw [View.readAt_unit _ _ _ rfl (w_in k r j), harg5.read_unread]
    refine congrArg x5 (funext fun a => Fin.ext ?_)
    match a with
    | ⟨0, _⟩ => show 512 * k.val + 32 * r.val + 1 * p.val = 512 * k.val + 32 * r.val + p.val; omega
    | ⟨1, _⟩ => show 128 * j.val + 1 * c.val = 128 * j.val + c.val; omega

/-- What a store of the first output writes. -/
theorem gelu_ok (arg9 : Memref sig .tc .vmem S1536x3584 .f32) (harg9 : arg9.IsWhole) (arg6 : Memref sig .tc .vmem S32x3584 .bf16) (harg6 : arg6.IsWhole)
    (x9 : Vec F S1536x3584 .f32) (x6 : Vec F S32x3584 .bf16) (r : ℕ) (k : Fin 28) {o : Fin 2 → ℕ} (e : o = ![32 * min r 47, 128 * k.val])
    (i9 : ∀ a : Fin 2, o a + S32x128.size a ≤ S1536x3584.size a) (i6 : ∀ a : Fin 2, (![0, 128 * k.val] : Fin 2 → ℕ) a + S32x128.size a ≤ S32x3584.size a) :
    geluV (View.readAt (Elt F) arg9.view (Rect.unit (s := S1536x3584) o S32x128.size i9).toLoadRect (harg9.unread x9))
        (View.readAt (Elt F) arg6.view (Rect.unit (s := S32x3584) ![0, 128 * k.val] S32x128.size i6).toLoadRect (harg6.unread x6))
      = geluV (gtile r k x9) (htile k x6) := by
  subst e
  refine congrArg₂ geluV ?_ ?_
  · rw [View.readAt_unit _ _ _ rfl i9, harg9.read_unread]
    funext j
    refine congrArg x9 (funext fun a => Fin.ext ?_)
    match a with
    | ⟨0, _⟩ => show 32 * min r 47 + 1 * (j 0).val = 32 * min r 47 + (j 0).val; omega
    | ⟨1, _⟩ => show 128 * k.val + 1 * (j 1).val = 128 * k.val + (j 1).val; omega
  · rw [View.readAt_unit _ _ _ rfl i6, harg6.read_unread]
    funext j
    refine congrArg x6 (funext fun a => Fin.ext ?_)
    match a with
    | ⟨0, _⟩ => show 0 + 1 * (j 0).val = (j 0).val; omega
    | ⟨1, _⟩ => show 128 * k.val + 1 * (j 1).val = 128 * k.val + (j 1).val; omega

theorem g_in {r : ℕ} {k : Fin 28} {o : Fin 2 → ℕ} (e : o = ![32 * min r 47, 128 * k.val]) : ∀ a : Fin 2, o a + S32x128.size a ≤ S1536x3584.size a := by
  subst e
  intro a
  match a with
  | ⟨0, _⟩ => show 32 * min r 47 + 32 ≤ 1536; omega
  | ⟨1, _⟩ => show 128 * k.val + 128 ≤ 3584; omega
theorem h_in : ∀ (k : Fin 28) (a : Fin 2), (![0, 128 * k.val] : Fin 2 → ℕ) a + S32x128.size a ≤ S32x3584.size a := by decide

/-- A tile of the backward GELU from the loads of the body, -/
theorem tile_ok (arg9 : Memref sig .tc .vmem S1536x3584 .f32) (harg9 : arg9.IsWhole) (arg6 : Memref sig .tc .vmem S32x3584 .bf16) (harg6 : arg6.IsWhole)
    (x9 : Vec F S1536x3584 .f32) (x6 : Vec F S32x3584 .bf16) (r : ℕ) (k : Fin 28) {o : Fin 2 → ℕ} (e : o = ![32 * min r 47, 128 * k.val]) :
    geluF (View.readAt (Elt F) arg9.view (Rect.unit (s := S1536x3584) o S32x128.size (g_in e)).toLoadRect (harg9.unread x9))
        (View.readAt (Elt F) arg6.view (Rect.unit (s := S32x3584) ![0, 128 * k.val] S32x128.size (h_in k)).toLoadRect (harg6.unread x6))
      = tileF r k x9 x6 := by
  refine congrArg₂ geluF ?_ ?_
  · rw [View.readAt_unit _ _ _ rfl (g_in e), harg9.read_unread]
    subst e
    funext j
    refine congrArg x9 (funext fun a => Fin.ext ?_)
    match a with
    | ⟨0, _⟩ => show 32 * min r 47 + 1 * (j 0).val = 32 * min r 47 + (j 0).val; omega
    | ⟨1, _⟩ => show 128 * k.val + 1 * (j 1).val = 128 * k.val + (j 1).val; omega
  · rw [View.readAt_unit _ _ _ rfl (h_in k), harg6.read_unread]
    funext j
    refine congrArg x6 (funext fun a => Fin.ext ?_)
    match a with
    | ⟨0, _⟩ => show 0 + 1 * (j 0).val = (j 0).val; omega
    | ⟨1, _⟩ => show 128 * k.val + 1 * (j 1).val = 128 * k.val + (j 1).val; omega

/-- the exponent fields of four tiles, -/
theorem quad_ok {t0 t1 t2 t3 : FVec F S32x128 .f32} {x9 : Vec F S1536x3584 .f32} {x6 : Vec F S32x3584 .bf16} {r : ℕ} (q : Fin 7)
    (h0 : t0 = tileF r ⟨4 * q.val, by omega⟩ x9 x6) (h1 : t1 = tileF r ⟨4 * q.val + 1, by omega⟩ x9 x6)
    (h2 : t2 = tileF r ⟨4 * q.val + 2, by omega⟩ x9 x6) (h3 : t3 = tileF r ⟨4 * q.val + 3, by omega⟩ x9 x6) :
    quadV t0 t1 t2 t3 = quadAt q r x9 x6 := by subst h0 h1 h2 h3; rfl

/-- what a store of the codes writes, -/
theorem code_ok {t : FVec F S32x128 .f32} {e : IVec S32x128 32} {x9 : Vec F S1536x3584 .f32} {x6 : Vec F S32x3584 .bf16} {r : ℕ} (k : Fin 28)
    (ht : t = tileF r k x9 x6) (he : e = quadAt ⟨k.val / 4, by omega⟩ r x9 x6) :
    codeV (BitVec.ofNat 32 (16 * (k.val % 2))) (BitVec.ofNat 32 (8 * (k.val % 4 / 2))) t e = codeAt k r x9 x6 := by subst ht he; rfl

/-- and what the store of the scale codes writes. -/
theorem scale_ok {e0 e1 e2 e3 e4 e5 e6 : IVec S32x128 32} {x9 : Vec F S1536x3584 .f32} {x6 : Vec F S32x3584 .bf16} {r : ℕ}
    (h0 : e0 = quadAt 0 r x9 x6) (h1 : e1 = quadAt 1 r x9 x6) (h2 : e2 = quadAt 2 r x9 x6) (h3 : e3 = quadAt 3 r x9 x6)
    (h4 : e4 = quadAt 4 r x9 x6) (h5 : e5 = quadAt 5 r x9 x6) (h6 : e6 = quadAt 6 r x9 x6) :
    scaleV e0 e1 e2 e3 e4 e5 e6 = scalesB r x9 x6 := by subst h0 h1 h2 h3 h4 h5 h6; rfl

/-- What a store of a copy writes, at the buffer's first 256 columns, -/
theorem put_ok (a : Memref sig .tc .vmem S1536x256 .bf16) (ha : a.IsWhole) (x : Vec F S1536x256 .bf16)
    (inb : ∀ b, (![0, 0] : Fin 2 → ℕ) b + S1536x256.size b ≤ S1536x256.size b) :
    (shapeCast S1536x256 (View.readAt (Elt F) a.view (Rect.unit (s := S1536x256) ![0, 0] S1536x256.size inb).toLoadRect (ha.unread x) : FVec F S1536x256 .bf16) shapeCasts_S1536x256_S1536x256 : FVec F S1536x256 .bf16) = x := by
  exact (shapeCast_self _ _).trans <| whole_eq a ha x zero2 inb

/-- and over a whole buffer. -/
theorem all_ok (a : Memref sig .tc .vmem S1536x512 .bf16) (ha : a.IsWhole) (x : Vec F S1536x512 .bf16)
    (inb : ∀ b, (![0, 0] : Fin 2 → ℕ) b + S1536x512.size b ≤ S1536x512.size b) :
    (shapeCast S1536x512 (View.readAt (Elt F) a.view (Rect.unit (s := S1536x512) ![0, 0] S1536x512.size inb).toLoadRect (ha.unread x) : FVec F S1536x512 .bf16) shapeCasts_S1536x512_S1536x512 : FVec F S1536x512 .bf16) = x := by
  exact (shapeCast_self _ _).trans <| whole_eq a ha x zero2 inb

/-- What a store of a row copy writes. -/
theorem copy_S192x512 (a : Memref sig .tc .vmem S1536x512 .bf16) (ha : a.IsWhole) (x : Vec F S1536x512 .bf16) {o : Fin 2 → ℕ}
    (inb : ∀ b, o b + S192x512.size b ≤ S1536x512.size b) :
    (shapeCast S192x512 (View.readAt (Elt F) a.view (Rect.unit (s := S1536x512) o S192x512.size inb).toLoadRect (ha.unread x) : FVec F S192x512 .bf16) shapeCasts_S192x512_S192x512 : FVec F S192x512 .bf16)
      = fun j => x ((Rect.unit (s := S1536x512) o S192x512.size inb).emb j) := by
  refine (shapeCast_self _ _).trans ?_
  rw [View.readAt_unit _ _ _ rfl inb, ha.read_unread]
  rfl

/-- What a store of a row copy writes. -/
theorem copy_S224x512 (a : Memref sig .tc .vmem S1536x512 .bf16) (ha : a.IsWhole) (x : Vec F S1536x512 .bf16) {o : Fin 2 → ℕ}
    (inb : ∀ b, o b + S224x512.size b ≤ S1536x512.size b) :
    (shapeCast S224x512 (View.readAt (Elt F) a.view (Rect.unit (s := S1536x512) o S224x512.size inb).toLoadRect (ha.unread x) : FVec F S224x512 .bf16) shapeCasts_S224x512_S224x512 : FVec F S224x512 .bf16)
      = fun j => x ((Rect.unit (s := S1536x512) o S224x512.size inb).emb j) := by
  refine (shapeCast_self _ _).trans ?_
  rw [View.readAt_unit _ _ _ rfl inb, ha.read_unread]
  rfl

/-- The buffers the body is called with, at their contents. -/
abbrev Own (c : Dev nD) (arg1 : Memref sig .tc .vmem S1536x512 .bf16) (arg2 : Memref sig .tc .vmem S1536x256 .bf16) (arg3 : Memref sig .tc .vmem S1536x128 .fp8e4m3) (arg4 : Memref sig .tc .vmem S4x12x128 .i8) (arg5 : Memref sig .tc .vmem S3584x512 .fp8e4m3) (arg6 : Memref sig .tc .vmem S3584x128 .i8) (arg7 : Memref sig .tc .vmem S32x3584 .bf16) (arg8 : Memref sig .tc .vmem S32x3584 .bf16) (arg9 : Memref sig .tc .vmem S3584x256 .f32) (arg10 : Memref sig .tc .vmem S32x3584 .fp8e4m3) (arg11 : Memref sig .tc .vmem S32x112 .i8) (arg12 : Memref sig .tc .vmem S1536x3584 .f32) (arg13 : Memref sig .tc .vmem S3584x1536 .bf16) (arg14 : Memref sig .tc .vmem S1536x512 .bf16) (arg15 : Memref sig .tc .vmem S1536x512 .bf16)
    (x1 : Vec F S1536x512 .bf16) (x2 : Vec F S1536x256 .bf16) (x3 : Vec F S1536x128 .fp8e4m3) (x4 : Vec F S4x12x128 .i8) (x5 : Vec F S3584x512 .fp8e4m3) (x6 : Vec F S3584x128 .i8) (x7 : Vec F S32x3584 .bf16) (x8 : Vec F S32x3584 .bf16) (x9 : Vec F S3584x256 .f32) (x10 : Vec F S32x3584 .fp8e4m3) (x11 : Vec F S32x112 .i8) (x12 : Vec F S1536x3584 .f32) (x13 : Vec F S3584x1536 .bf16) (x14 : Vec F S1536x512 .bf16) (x15 : Vec F S1536x512 .bf16) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15)

end Cert.KernelIdeal.Gen

end
-- ==== Proof.IdealRunsFirst.lean ====
module

public import proofs.«01_k».proof.Proof.IdealStores

@[expose] public section

/-! The body of `KernelIdeal` at a point of the first phase: what it leaves in each buffer, as a function of what it finds. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point (the first branch runs): what it leaves. -/
theorem run_N (c : Dev nD) (i : grid0.Coords) (arg1 : Memref sig .tc .vmem S1536x512 .bf16) (harg1 : arg1.IsWhole) (arg2 : Memref sig .tc .vmem S1536x256 .bf16) (harg2 : arg2.IsWhole) (arg3 : Memref sig .tc .vmem S1536x128 .fp8e4m3) (harg3 : arg3.IsWhole) (arg4 : Memref sig .tc .vmem S4x12x128 .i8) (harg4 : arg4.IsWhole) (arg5 : Memref sig .tc .vmem S3584x512 .fp8e4m3) (harg5 : arg5.IsWhole) (arg6 : Memref sig .tc .vmem S3584x128 .i8) (harg6 : arg6.IsWhole) (arg7 : Memref sig .tc .vmem S32x3584 .bf16) (harg7 : arg7.IsWhole) (arg8 : Memref sig .tc .vmem S32x3584 .bf16) (harg8 : arg8.IsWhole) (arg9 : Memref sig .tc .vmem S3584x256 .f32) (harg9 : arg9.IsWhole) (arg10 : Memref sig .tc .vmem S32x3584 .fp8e4m3) (harg10 : arg10.IsWhole) (arg11 : Memref sig .tc .vmem S32x112 .i8) (harg11 : arg11.IsWhole) (arg12 : Memref sig .tc .vmem S1536x3584 .f32) (harg12 : arg12.IsWhole) (arg13 : Memref sig .tc .vmem S3584x1536 .bf16) (harg13 : arg13.IsWhole) (arg14 : Memref sig .tc .vmem S1536x512 .bf16) (harg14 : arg14.IsWhole) (arg15 : Memref sig .tc .vmem S1536x512 .bf16) (harg15 : arg15.IsWhole) (hc0 : br0 i) (hc1 : ¬br1 i) (hc2 : ¬br2 i) (hc3 : ¬br3 i) (hc4 : ¬br4 i) (hc5 : ¬br5 i)
    (x1 : Vec F S1536x512 .bf16) (x2 : Vec F S1536x256 .bf16) (x3 : Vec F S1536x128 .fp8e4m3) (x4 : Vec F S4x12x128 .i8) (x5 : Vec F S3584x512 .fp8e4m3) (x6 : Vec F S3584x128 .i8) (x7 : Vec F S32x3584 .bf16) (x8 : Vec F S32x3584 .bf16) (x9 : Vec F S3584x256 .f32) (x10 : Vec F S32x3584 .fp8e4m3) (x11 : Vec F S32x112 .i8) (x12 : Vec F S1536x3584 .f32) (x13 : Vec F S3584x1536 .bf16) (x14 : Vec F S1536x512 .bf16) (x15 : Vec F S1536x512 .bf16) (E : Set ℕ) (K : PUnit → sProp 𝕄) :
    iprop(Own c arg1 arg2 arg3 arg4 arg5 arg6 arg7 arg8 arg9 arg10 arg11 arg12 arg13 arg14 arg15 x1 x2 x3 x4 x5 x6 x7 x8 x9 x10 x11 x12 x13 x14 x15 ∗ (Own c arg1 arg2 arg3 arg4 arg5 arg6 arg7 arg8 arg9 arg10 arg11 arg12 arg13 arg14 arg15 x1 x2 x3 x4 x5 x6 x7 x8 x9 x10 x11 k0_pay2092 x13 x1 x15 -∗ K ⟨⟩))
      ⊢ wp frame (wpE (defs₀ (F := F)) Variants.none c none) E (cc0_mxfp8_down_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mxfp8_down_proj_bwd_eq_skeleton]; unfold cc0_mxfp8_down_proj_bwd_skel
  simp only [k0_part579_eq_skeleton]
  unfold Own owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2 | sl_exact hc3 | sl_exact hc4 | sl_exact hc5)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact read_whole _ _ zero2 _ _ _ rfl
  isplitl [H13]
  · iexists _; isplitr; swap; · iexact H13
    ipureintro; exact harg13.read_unread _
  isplitl [H14]
  · iexists _; isplitr; swap; · iexact H14
    ipureintro; exact read_whole _ _ zero2 _ _ _ (all_ok arg1 harg1 x1 _)
  iexists _; isplitr; swap; · iexact H15
  ipureintro; exact harg15.read_unread _

set_option maxHeartbeats 4000000 in
/-- The body at an odd point of the first phase (the second branch runs): what it leaves. -/
theorem run_O (c : Dev nD) (i : grid0.Coords) (arg1 : Memref sig .tc .vmem S1536x512 .bf16) (harg1 : arg1.IsWhole) (arg2 : Memref sig .tc .vmem S1536x256 .bf16) (harg2 : arg2.IsWhole) (arg3 : Memref sig .tc .vmem S1536x128 .fp8e4m3) (harg3 : arg3.IsWhole) (arg4 : Memref sig .tc .vmem S4x12x128 .i8) (harg4 : arg4.IsWhole) (arg5 : Memref sig .tc .vmem S3584x512 .fp8e4m3) (harg5 : arg5.IsWhole) (arg6 : Memref sig .tc .vmem S3584x128 .i8) (harg6 : arg6.IsWhole) (arg7 : Memref sig .tc .vmem S32x3584 .bf16) (harg7 : arg7.IsWhole) (arg8 : Memref sig .tc .vmem S32x3584 .bf16) (harg8 : arg8.IsWhole) (arg9 : Memref sig .tc .vmem S3584x256 .f32) (harg9 : arg9.IsWhole) (arg10 : Memref sig .tc .vmem S32x3584 .fp8e4m3) (harg10 : arg10.IsWhole) (arg11 : Memref sig .tc .vmem S32x112 .i8) (harg11 : arg11.IsWhole) (arg12 : Memref sig .tc .vmem S1536x3584 .f32) (harg12 : arg12.IsWhole) (arg13 : Memref sig .tc .vmem S3584x1536 .bf16) (harg13 : arg13.IsWhole) (arg14 : Memref sig .tc .vmem S1536x512 .bf16) (harg14 : arg14.IsWhole) (arg15 : Memref sig .tc .vmem S1536x512 .bf16) (harg15 : arg15.IsWhole) (hc0 : ¬br0 i) (hc1 : br1 i) (hc2 : ¬br2 i) (hc3 : ¬br3 i) (hc4 : ¬br4 i) (hc5 : ¬br5 i)
    (x1 : Vec F S1536x512 .bf16) (x2 : Vec F S1536x256 .bf16) (x3 : Vec F S1536x128 .fp8e4m3) (x4 : Vec F S4x12x128 .i8) (x5 : Vec F S3584x512 .fp8e4m3) (x6 : Vec F S3584x128 .i8) (x7 : Vec F S32x3584 .bf16) (x8 : Vec F S32x3584 .bf16) (x9 : Vec F S3584x256 .f32) (x10 : Vec F S32x3584 .fp8e4m3) (x11 : Vec F S32x112 .i8) (x12 : Vec F S1536x3584 .f32) (x13 : Vec F S3584x1536 .bf16) (x14 : Vec F S1536x512 .bf16) (x15 : Vec F S1536x512 .bf16) (E : Set ℕ) (K : PUnit → sProp 𝕄) :
    iprop(Own c arg1 arg2 arg3 arg4 arg5 arg6 arg7 arg8 arg9 arg10 arg11 arg12 arg13 arg14 arg15 x1 x2 x3 x4 x5 x6 x7 x8 x9 x10 x11 x12 x13 x14 x15 ∗ (Own c arg1 arg2 arg3 arg4 arg5 arg6 arg7 arg8 arg9 arg10 arg11 arg12 arg13 arg14 arg15 x1 x2 x3 x4 x5 x6 x7 x8 x9 x10 x11 (gStep x12 x14 (wDeq (BitVec.ofNat 32 (i 0).val) x5 x6)) (fillXt (min ((i 0).val - 1) 27) x3 x4 x13) x14 x1 -∗ K ⟨⟩))
      ⊢ wp frame (wpE (defs₀ (F := F)) Variants.none c none) E (cc0_mxfp8_down_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mxfp8_down_proj_bwd_eq_skeleton]; unfold cc0_mxfp8_down_proj_bwd_skel
  simp only [k0_part579_eq_skeleton, k0_part218_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part219_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part220_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part221_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton]
  unfold Own owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2 | sl_exact hc3 | sl_exact hc4 | sl_exact hc5)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact read_sum _ _ x12 x14 (wDeq (BitVec.ofNat 32 (i 0).val) x5 x6) _ _ (sum_ok arg12 harg12 arg14 harg14 arg5 harg5 arg6 harg6 x12 x14 x5 x6 (BitVec.ofNat 32 (i 0).val) 0 _ _) _ _ (sum_ok arg12 harg12 arg14 harg14 arg5 harg5 arg6 harg6 x12 x14 x5 x6 (BitVec.ofNat 32 (i 0).val) 1 _ _) _ _ (sum_ok arg12 harg12 arg14 harg14 arg5 harg5 arg6 harg6 x12 x14 x5 x6 (BitVec.ofNat 32 (i 0).val) 2 _ _) _ _ (sum_ok arg12 harg12 arg14 harg14 arg5 harg5 arg6 harg6 x12 x14 x5 x6 (BitVec.ofNat 32 (i 0).val) 3 _ _) _ _ (sum_ok arg12 harg12 arg14 harg14 arg5 harg5 arg6 harg6 x12 x14 x5 x6 (BitVec.ofNat 32 (i 0).val) 4 _ _) _ _ (sum_ok arg12 harg12 arg14 harg14 arg5 harg5 arg6 harg6 x12 x14 x5 x6 (BitVec.ofNat 32 (i 0).val) 5 _ _) _ _ (sum_ok arg12 harg12 arg14 harg14 arg5 harg5 arg6 harg6 x12 x14 x5 x6 (BitVec.ofNat 32 (i 0).val) 6 _ _)
  isplitl [H13]
  · iexists _; isplitr; swap; · iexact H13
    ipureintro; exact (read_fill _ _ (min ((i 0).val - 1) 27) (by omega) (off1_eq i) _ _ (pay_ok arg3 harg3 arg4 harg4 x3 x4 0 0 slices_S384x128_o0_0_S128x128 (by decide)) (off2_eq i) _ _ (pay_ok arg3 harg3 arg4 harg4 x3 x4 0 128 slices_S384x128_o128_0_S128x128 (by decide)) (off3_eq i) _ _ (pay_ok arg3 harg3 arg4 harg4 x3 x4 0 256 slices_S384x128_o256_0_S128x128 (by decide)) (off4_eq i) _ _ (pay_ok arg3 harg3 arg4 harg4 x3 x4 1 0 slices_S384x128_o0_0_S128x128 (by decide)) (off5_eq i) _ _ (pay_ok arg3 harg3 arg4 harg4 x3 x4 1 128 slices_S384x128_o128_0_S128x128 (by decide)) (off6_eq i) _ _ (pay_ok arg3 harg3 arg4 harg4 x3 x4 1 256 slices_S384x128_o256_0_S128x128 (by decide)) (off7_eq i) _ _ (pay_ok arg3 harg3 arg4 harg4 x3 x4 2 0 slices_S384x128_o0_0_S128x128 (by decide)) (off8_eq i) _ _ (pay_ok arg3 harg3 arg4 harg4 x3 x4 2 128 slices_S384x128_o128_0_S128x128 (by decide)) (off9_eq i) _ _ (pay_ok arg3 harg3 arg4 harg4 x3 x4 2 256 slices_S384x128_o256_0_S128x128 (by decide)) (off10_eq i) _ _ (pay_ok arg3 harg3 arg4 harg4 x3 x4 3 0 slices_S384x128_o0_0_S128x128 (by decide)) (off11_eq i) _ _ (pay_ok arg3 harg3 arg4 harg4 x3 x4 3 128 slices_S384x128_o128_0_S128x128 (by decide)) (off12_eq i) _ _ (pay_ok arg3 harg3 arg4 harg4 x3 x4 3 256 slices_S384x128_o256_0_S128x128 (by decide))).trans (congrArg (fillXt _ x3 x4) (harg13.read_unread _))
  isplitl [H14]
  · iexists _; isplitr; swap; · iexact H14
    ipureintro; exact harg14.read_unread _
  iexists _; isplitr; swap; · iexact H15
  ipureintro; exact read_copy _ _ x1 _ _ (copy_S192x512 arg1 harg1 x1 _) _ _ (copy_S224x512 arg1 harg1 x1 _) _ _ (copy_S224x512 arg1 harg1 x1 _) _ _ (copy_S224x512 arg1 harg1 x1 _) _ _ (copy_S224x512 arg1 harg1 x1 _) _ _ (copy_S224x512 arg1 harg1 x1 _) _ _ (copy_S224x512 arg1 harg1 x1 _)

set_option maxHeartbeats 4000000 in
/-- The body at the last point of the first phase (the second and fourth branches run): what it leaves. -/
theorem run_Q (c : Dev nD) (i : grid0.Coords) (arg1 : Memref sig .tc .vmem S1536x512 .bf16) (harg1 : arg1.IsWhole) (arg2 : Memref sig .tc .vmem S1536x256 .bf16) (harg2 : arg2.IsWhole) (arg3 : Memref sig .tc .vmem S1536x128 .fp8e4m3) (harg3 : arg3.IsWhole) (arg4 : Memref sig .tc .vmem S4x12x128 .i8) (harg4 : arg4.IsWhole) (arg5 : Memref sig .tc .vmem S3584x512 .fp8e4m3) (harg5 : arg5.IsWhole) (arg6 : Memref sig .tc .vmem S3584x128 .i8) (harg6 : arg6.IsWhole) (arg7 : Memref sig .tc .vmem S32x3584 .bf16) (harg7 : arg7.IsWhole) (arg8 : Memref sig .tc .vmem S32x3584 .bf16) (harg8 : arg8.IsWhole) (arg9 : Memref sig .tc .vmem S3584x256 .f32) (harg9 : arg9.IsWhole) (arg10 : Memref sig .tc .vmem S32x3584 .fp8e4m3) (harg10 : arg10.IsWhole) (arg11 : Memref sig .tc .vmem S32x112 .i8) (harg11 : arg11.IsWhole) (arg12 : Memref sig .tc .vmem S1536x3584 .f32) (harg12 : arg12.IsWhole) (arg13 : Memref sig .tc .vmem S3584x1536 .bf16) (harg13 : arg13.IsWhole) (arg14 : Memref sig .tc .vmem S1536x512 .bf16) (harg14 : arg14.IsWhole) (arg15 : Memref sig .tc .vmem S1536x512 .bf16) (harg15 : arg15.IsWhole) (hc0 : ¬br0 i) (hc1 : br1 i) (hc2 : ¬br2 i) (hc3 : br3 i) (hc4 : ¬br4 i) (hc5 : ¬br5 i)
    (x1 : Vec F S1536x512 .bf16) (x2 : Vec F S1536x256 .bf16) (x3 : Vec F S1536x128 .fp8e4m3) (x4 : Vec F S4x12x128 .i8) (x5 : Vec F S3584x512 .fp8e4m3) (x6 : Vec F S3584x128 .i8) (x7 : Vec F S32x3584 .bf16) (x8 : Vec F S32x3584 .bf16) (x9 : Vec F S3584x256 .f32) (x10 : Vec F S32x3584 .fp8e4m3) (x11 : Vec F S32x112 .i8) (x12 : Vec F S1536x3584 .f32) (x13 : Vec F S3584x1536 .bf16) (x14 : Vec F S1536x512 .bf16) (x15 : Vec F S1536x512 .bf16) (E : Set ℕ) (K : PUnit → sProp 𝕄) :
    iprop(Own c arg1 arg2 arg3 arg4 arg5 arg6 arg7 arg8 arg9 arg10 arg11 arg12 arg13 arg14 arg15 x1 x2 x3 x4 x5 x6 x7 x8 x9 x10 x11 x12 x13 x14 x15 ∗ (Own c arg1 arg2 arg3 arg4 arg5 arg6 arg7 arg8 arg9 arg10 arg11 arg12 arg13 arg14 arg15 x1 x2 x3 x4 x5 x6 x7 x8 x9 x10 x11 (gStep x12 x14 (wDeq (BitVec.ofNat 32 (i 0).val) x5 x6)) (fillXt (min ((i 0).val - 1) 27) x3 x4 x13) (putBlk x2 x14) x1 -∗ K ⟨⟩))
      ⊢ wp frame (wpE (defs₀ (F := F)) Variants.none c none) E (cc0_mxfp8_down_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mxfp8_down_proj_bwd_eq_skeleton]; unfold cc0_mxfp8_down_proj_bwd_skel
  simp only [k0_part579_eq_skeleton, k0_part218_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part219_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part220_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part221_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton]
  unfold Own owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2 | sl_exact hc3 | sl_exact hc4 | sl_exact hc5)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact read_sum _ _ x12 x14 (wDeq (BitVec.ofNat 32 (i 0).val) x5 x6) _ _ (sum_ok arg12 harg12 arg14 harg14 arg5 harg5 arg6 harg6 x12 x14 x5 x6 (BitVec.ofNat 32 (i 0).val) 0 _ _) _ _ (sum_ok arg12 harg12 arg14 harg14 arg5 harg5 arg6 harg6 x12 x14 x5 x6 (BitVec.ofNat 32 (i 0).val) 1 _ _) _ _ (sum_ok arg12 harg12 arg14 harg14 arg5 harg5 arg6 harg6 x12 x14 x5 x6 (BitVec.ofNat 32 (i 0).val) 2 _ _) _ _ (sum_ok arg12 harg12 arg14 harg14 arg5 harg5 arg6 harg6 x12 x14 x5 x6 (BitVec.ofNat 32 (i 0).val) 3 _ _) _ _ (sum_ok arg12 harg12 arg14 harg14 arg5 harg5 arg6 harg6 x12 x14 x5 x6 (BitVec.ofNat 32 (i 0).val) 4 _ _) _ _ (sum_ok arg12 harg12 arg14 harg14 arg5 harg5 arg6 harg6 x12 x14 x5 x6 (BitVec.ofNat 32 (i 0).val) 5 _ _) _ _ (sum_ok arg12 harg12 arg14 harg14 arg5 harg5 arg6 harg6 x12 x14 x5 x6 (BitVec.ofNat 32 (i 0).val) 6 _ _)
  isplitl [H13]
  · iexists _; isplitr; swap; · iexact H13
    ipureintro; exact (read_fill _ _ (min ((i 0).val - 1) 27) (by omega) (off1_eq i) _ _ (pay_ok arg3 harg3 arg4 harg4 x3 x4 0 0 slices_S384x128_o0_0_S128x128 (by decide)) (off2_eq i) _ _ (pay_ok arg3 harg3 arg4 harg4 x3 x4 0 128 slices_S384x128_o128_0_S128x128 (by decide)) (off3_eq i) _ _ (pay_ok arg3 harg3 arg4 harg4 x3 x4 0 256 slices_S384x128_o256_0_S128x128 (by decide)) (off4_eq i) _ _ (pay_ok arg3 harg3 arg4 harg4 x3 x4 1 0 slices_S384x128_o0_0_S128x128 (by decide)) (off5_eq i) _ _ (pay_ok arg3 harg3 arg4 harg4 x3 x4 1 128 slices_S384x128_o128_0_S128x128 (by decide)) (off6_eq i) _ _ (pay_ok arg3 harg3 arg4 harg4 x3 x4 1 256 slices_S384x128_o256_0_S128x128 (by decide)) (off7_eq i) _ _ (pay_ok arg3 harg3 arg4 harg4 x3 x4 2 0 slices_S384x128_o0_0_S128x128 (by decide)) (off8_eq i) _ _ (pay_ok arg3 harg3 arg4 harg4 x3 x4 2 128 slices_S384x128_o128_0_S128x128 (by decide)) (off9_eq i) _ _ (pay_ok arg3 harg3 arg4 harg4 x3 x4 2 256 slices_S384x128_o256_0_S128x128 (by decide)) (off10_eq i) _ _ (pay_ok arg3 harg3 arg4 harg4 x3 x4 3 0 slices_S384x128_o0_0_S128x128 (by decide)) (off11_eq i) _ _ (pay_ok arg3 harg3 arg4 harg4 x3 x4 3 128 slices_S384x128_o128_0_S128x128 (by decide)) (off12_eq i) _ _ (pay_ok arg3 harg3 arg4 harg4 x3 x4 3 256 slices_S384x128_o256_0_S128x128 (by decide))).trans (congrArg (fillXt _ x3 x4) (harg13.read_unread _))
  isplitl [H14]
  · iexists _; isplitr; swap; · iexact H14
    ipureintro; exact (read_put _ _ x2 _ _ (put_ok arg2 harg2 x2 _)).trans (congrArg (putBlk x2) (harg14.read_unread _))
  iexists _; isplitr; swap; · iexact H15
  ipureintro; exact read_copy _ _ x1 _ _ (copy_S192x512 arg1 harg1 x1 _) _ _ (copy_S224x512 arg1 harg1 x1 _) _ _ (copy_S224x512 arg1 harg1 x1 _) _ _ (copy_S224x512 arg1 harg1 x1 _) _ _ (copy_S224x512 arg1 harg1 x1 _) _ _ (copy_S224x512 arg1 harg1 x1 _) _ _ (copy_S224x512 arg1 harg1 x1 _)

set_option maxHeartbeats 4000000 in
/-- The body at an even point of the first phase (the third branch runs): what it leaves. -/
theorem run_E (c : Dev nD) (i : grid0.Coords) (arg1 : Memref sig .tc .vmem S1536x512 .bf16) (harg1 : arg1.IsWhole) (arg2 : Memref sig .tc .vmem S1536x256 .bf16) (harg2 : arg2.IsWhole) (arg3 : Memref sig .tc .vmem S1536x128 .fp8e4m3) (harg3 : arg3.IsWhole) (arg4 : Memref sig .tc .vmem S4x12x128 .i8) (harg4 : arg4.IsWhole) (arg5 : Memref sig .tc .vmem S3584x512 .fp8e4m3) (harg5 : arg5.IsWhole) (arg6 : Memref sig .tc .vmem S3584x128 .i8) (harg6 : arg6.IsWhole) (arg7 : Memref sig .tc .vmem S32x3584 .bf16) (harg7 : arg7.IsWhole) (arg8 : Memref sig .tc .vmem S32x3584 .bf16) (harg8 : arg8.IsWhole) (arg9 : Memref sig .tc .vmem S3584x256 .f32) (harg9 : arg9.IsWhole) (arg10 : Memref sig .tc .vmem S32x3584 .fp8e4m3) (harg10 : arg10.IsWhole) (arg11 : Memref sig .tc .vmem S32x112 .i8) (harg11 : arg11.IsWhole) (arg12 : Memref sig .tc .vmem S1536x3584 .f32) (harg12 : arg12.IsWhole) (arg13 : Memref sig .tc .vmem S3584x1536 .bf16) (harg13 : arg13.IsWhole) (arg14 : Memref sig .tc .vmem S1536x512 .bf16) (harg14 : arg14.IsWhole) (arg15 : Memref sig .tc .vmem S1536x512 .bf16) (harg15 : arg15.IsWhole) (hc0 : ¬br0 i) (hc1 : ¬br1 i) (hc2 : br2 i) (hc3 : ¬br3 i) (hc4 : ¬br4 i) (hc5 : ¬br5 i)
    (x1 : Vec F S1536x512 .bf16) (x2 : Vec F S1536x256 .bf16) (x3 : Vec F S1536x128 .fp8e4m3) (x4 : Vec F S4x12x128 .i8) (x5 : Vec F S3584x512 .fp8e4m3) (x6 : Vec F S3584x128 .i8) (x7 : Vec F S32x3584 .bf16) (x8 : Vec F S32x3584 .bf16) (x9 : Vec F S3584x256 .f32) (x10 : Vec F S32x3584 .fp8e4m3) (x11 : Vec F S32x112 .i8) (x12 : Vec F S1536x3584 .f32) (x13 : Vec F S3584x1536 .bf16) (x14 : Vec F S1536x512 .bf16) (x15 : Vec F S1536x512 .bf16) (E : Set ℕ) (K : PUnit → sProp 𝕄) :
    iprop(Own c arg1 arg2 arg3 arg4 arg5 arg6 arg7 arg8 arg9 arg10 arg11 arg12 arg13 arg14 arg15 x1 x2 x3 x4 x5 x6 x7 x8 x9 x10 x11 x12 x13 x14 x15 ∗ (Own c arg1 arg2 arg3 arg4 arg5 arg6 arg7 arg8 arg9 arg10 arg11 arg12 arg13 arg14 arg15 x1 x2 x3 x4 x5 x6 x7 x8 x9 x10 x11 (gStep x12 x15 (wDeq (BitVec.ofNat 32 (i 0).val) x5 x6)) (fillXt (min ((i 0).val - 1) 27) x3 x4 x13) x1 x15 -∗ K ⟨⟩))
      ⊢ wp frame (wpE (defs₀ (F := F)) Variants.none c none) E (cc0_mxfp8_down_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mxfp8_down_proj_bwd_eq_skeleton]; unfold cc0_mxfp8_down_proj_bwd_skel
  simp only [k0_part579_eq_skeleton, k0_part439_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part440_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part441_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part442_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton]
  unfold Own owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2 | sl_exact hc3 | sl_exact hc4 | sl_exact hc5)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact read_sum _ _ x12 x15 (wDeq (BitVec.ofNat 32 (i 0).val) x5 x6) _ _ (sum_ok arg12 harg12 arg15 harg15 arg5 harg5 arg6 harg6 x12 x15 x5 x6 (BitVec.ofNat 32 (i 0).val) 0 _ _) _ _ (sum_ok arg12 harg12 arg15 harg15 arg5 harg5 arg6 harg6 x12 x15 x5 x6 (BitVec.ofNat 32 (i 0).val) 1 _ _) _ _ (sum_ok arg12 harg12 arg15 harg15 arg5 harg5 arg6 harg6 x12 x15 x5 x6 (BitVec.ofNat 32 (i 0).val) 2 _ _) _ _ (sum_ok arg12 harg12 arg15 harg15 arg5 harg5 arg6 harg6 x12 x15 x5 x6 (BitVec.ofNat 32 (i 0).val) 3 _ _) _ _ (sum_ok arg12 harg12 arg15 harg15 arg5 harg5 arg6 harg6 x12 x15 x5 x6 (BitVec.ofNat 32 (i 0).val) 4 _ _) _ _ (sum_ok arg12 harg12 arg15 harg15 arg5 harg5 arg6 harg6 x12 x15 x5 x6 (BitVec.ofNat 32 (i 0).val) 5 _ _) _ _ (sum_ok arg12 harg12 arg15 harg15 arg5 harg5 arg6 harg6 x12 x15 x5 x6 (BitVec.ofNat 32 (i 0).val) 6 _ _)
  isplitl [H13]
  · iexists _; isplitr; swap; · iexact H13
    ipureintro; exact (read_fill _ _ (min ((i 0).val - 1) 27) (by omega) (off13_eq i) _ _ (pay_ok arg3 harg3 arg4 harg4 x3 x4 0 0 slices_S384x128_o0_0_S128x128 (by decide)) (off14_eq i) _ _ (pay_ok arg3 harg3 arg4 harg4 x3 x4 0 128 slices_S384x128_o128_0_S128x128 (by decide)) (off15_eq i) _ _ (pay_ok arg3 harg3 arg4 harg4 x3 x4 0 256 slices_S384x128_o256_0_S128x128 (by decide)) (off16_eq i) _ _ (pay_ok arg3 harg3 arg4 harg4 x3 x4 1 0 slices_S384x128_o0_0_S128x128 (by decide)) (off17_eq i) _ _ (pay_ok arg3 harg3 arg4 harg4 x3 x4 1 128 slices_S384x128_o128_0_S128x128 (by decide)) (off18_eq i) _ _ (pay_ok arg3 harg3 arg4 harg4 x3 x4 1 256 slices_S384x128_o256_0_S128x128 (by decide)) (off19_eq i) _ _ (pay_ok arg3 harg3 arg4 harg4 x3 x4 2 0 slices_S384x128_o0_0_S128x128 (by decide)) (off20_eq i) _ _ (pay_ok arg3 harg3 arg4 harg4 x3 x4 2 128 slices_S384x128_o128_0_S128x128 (by decide)) (off21_eq i) _ _ (pay_ok arg3 harg3 arg4 harg4 x3 x4 2 256 slices_S384x128_o256_0_S128x128 (by decide)) (off22_eq i) _ _ (pay_ok arg3 harg3 arg4 harg4 x3 x4 3 0 slices_S384x128_o0_0_S128x128 (by decide)) (off23_eq i) _ _ (pay_ok arg3 harg3 arg4 harg4 x3 x4 3 128 slices_S384x128_o128_0_S128x128 (by decide)) (off24_eq i) _ _ (pay_ok arg3 harg3 arg4 harg4 x3 x4 3 256 slices_S384x128_o256_0_S128x128 (by decide))).trans (congrArg (fillXt _ x3 x4) (harg13.read_unread _))
  isplitl [H14]
  · iexists _; isplitr; swap; · iexact H14
    ipureintro; exact read_copy _ _ x1 _ _ (copy_S192x512 arg1 harg1 x1 _) _ _ (copy_S224x512 arg1 harg1 x1 _) _ _ (copy_S224x512 arg1 harg1 x1 _) _ _ (copy_S224x512 arg1 harg1 x1 _) _ _ (copy_S224x512 arg1 harg1 x1 _) _ _ (copy_S224x512 arg1 harg1 x1 _) _ _ (copy_S224x512 arg1 harg1 x1 _)
  iexists _; isplitr; swap; · iexact H15
  ipureintro; exact harg15.read_unread _

end Cert.KernelIdeal.Gen

end
-- ==== Proof.IdealRunsSecond.lean ====
module

public import proofs.«01_k».proof.Proof.IdealStores

@[expose] public section

/-! The body of `KernelIdeal` at a point of the second phase: what it leaves in each buffer, as a function of what it finds. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at an even point of the second phase (the fifth branch runs): what it leaves. -/
theorem run_U (c : Dev nD) (i : grid0.Coords) (arg1 : Memref sig .tc .vmem S1536x512 .bf16) (harg1 : arg1.IsWhole) (arg2 : Memref sig .tc .vmem S1536x256 .bf16) (harg2 : arg2.IsWhole) (arg3 : Memref sig .tc .vmem S1536x128 .fp8e4m3) (harg3 : arg3.IsWhole) (arg4 : Memref sig .tc .vmem S4x12x128 .i8) (harg4 : arg4.IsWhole) (arg5 : Memref sig .tc .vmem S3584x512 .fp8e4m3) (harg5 : arg5.IsWhole) (arg6 : Memref sig .tc .vmem S3584x128 .i8) (harg6 : arg6.IsWhole) (arg7 : Memref sig .tc .vmem S32x3584 .bf16) (harg7 : arg7.IsWhole) (arg8 : Memref sig .tc .vmem S32x3584 .bf16) (harg8 : arg8.IsWhole) (arg9 : Memref sig .tc .vmem S3584x256 .f32) (harg9 : arg9.IsWhole) (arg10 : Memref sig .tc .vmem S32x3584 .fp8e4m3) (harg10 : arg10.IsWhole) (arg11 : Memref sig .tc .vmem S32x112 .i8) (harg11 : arg11.IsWhole) (arg12 : Memref sig .tc .vmem S1536x3584 .f32) (harg12 : arg12.IsWhole) (arg13 : Memref sig .tc .vmem S3584x1536 .bf16) (harg13 : arg13.IsWhole) (arg14 : Memref sig .tc .vmem S1536x512 .bf16) (harg14 : arg14.IsWhole) (arg15 : Memref sig .tc .vmem S1536x512 .bf16) (harg15 : arg15.IsWhole) (hc0 : ¬br0 i) (hc1 : ¬br1 i) (hc2 : ¬br2 i) (hc3 : ¬br3 i) (hc4 : br4 i) (hc5 : ¬br5 i)
    (x1 : Vec F S1536x512 .bf16) (x2 : Vec F S1536x256 .bf16) (x3 : Vec F S1536x128 .fp8e4m3) (x4 : Vec F S4x12x128 .i8) (x5 : Vec F S3584x512 .fp8e4m3) (x6 : Vec F S3584x128 .i8) (x7 : Vec F S32x3584 .bf16) (x8 : Vec F S32x3584 .bf16) (x9 : Vec F S3584x256 .f32) (x10 : Vec F S32x3584 .fp8e4m3) (x11 : Vec F S32x112 .i8) (x12 : Vec F S1536x3584 .f32) (x13 : Vec F S3584x1536 .bf16) (x14 : Vec F S1536x512 .bf16) (x15 : Vec F S1536x512 .bf16) (E : Set ℕ) (K : PUnit → sProp 𝕄) :
    iprop(Own c arg1 arg2 arg3 arg4 arg5 arg6 arg7 arg8 arg9 arg10 arg11 arg12 arg13 arg14 arg15 x1 x2 x3 x4 x5 x6 x7 x8 x9 x10 x11 x12 x13 x14 x15 ∗ (Own c arg1 arg2 arg3 arg4 arg5 arg6 arg7 arg8 arg9 arg10 arg11 arg12 arg13 arg14 arg15 x1 x2 x3 x4 x5 x6 x7 (dhB ((i 0).val - 38) x12 x7) (prod x13 x14) (codesB ((i 0).val - 38) x12 x7) (scalesB ((i 0).val - 38) x12 x7) x12 x13 x14 (putBlk x2 x15) -∗ K ⟨⟩))
      ⊢ wp frame (wpE (defs₀ (F := F)) Variants.none c none) E (cc0_mxfp8_down_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mxfp8_down_proj_bwd_eq_skeleton]; unfold cc0_mxfp8_down_proj_bwd_skel
  simp only [k0_part579_eq_skeleton, k0_part510_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton]
  unfold Own owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2 | sl_exact hc3 | sl_exact hc4 | sl_exact hc5)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact read_dh _ _ ((i 0).val - 38) x12 x7 _ _ (gelu_ok arg12 harg12 arg7 harg7 x12 x7 ((i 0).val - 38) 0 (off25_eq i) _ _) _ _ (gelu_ok arg12 harg12 arg7 harg7 x12 x7 ((i 0).val - 38) 1 (off26_eq i) _ _) _ _ (gelu_ok arg12 harg12 arg7 harg7 x12 x7 ((i 0).val - 38) 2 (off27_eq i) _ _) _ _ (gelu_ok arg12 harg12 arg7 harg7 x12 x7 ((i 0).val - 38) 3 (off28_eq i) _ _) _ _ (gelu_ok arg12 harg12 arg7 harg7 x12 x7 ((i 0).val - 38) 4 (off29_eq i) _ _) _ _ (gelu_ok arg12 harg12 arg7 harg7 x12 x7 ((i 0).val - 38) 5 (off30_eq i) _ _) _ _ (gelu_ok arg12 harg12 arg7 harg7 x12 x7 ((i 0).val - 38) 6 (off31_eq i) _ _) _ _ (gelu_ok arg12 harg12 arg7 harg7 x12 x7 ((i 0).val - 38) 7 (off32_eq i) _ _) _ _ (gelu_ok arg12 harg12 arg7 harg7 x12 x7 ((i 0).val - 38) 8 (off33_eq i) _ _) _ _ (gelu_ok arg12 harg12 arg7 harg7 x12 x7 ((i 0).val - 38) 9 (off34_eq i) _ _) _ _ (gelu_ok arg12 harg12 arg7 harg7 x12 x7 ((i 0).val - 38) 10 (off35_eq i) _ _) _ _ (gelu_ok arg12 harg12 arg7 harg7 x12 x7 ((i 0).val - 38) 11 (off36_eq i) _ _) _ _ (gelu_ok arg12 harg12 arg7 harg7 x12 x7 ((i 0).val - 38) 12 (off37_eq i) _ _) _ _ (gelu_ok arg12 harg12 arg7 harg7 x12 x7 ((i 0).val - 38) 13 (off38_eq i) _ _) _ _ (gelu_ok arg12 harg12 arg7 harg7 x12 x7 ((i 0).val - 38) 14 (off39_eq i) _ _) _ _ (gelu_ok arg12 harg12 arg7 harg7 x12 x7 ((i 0).val - 38) 15 (off40_eq i) _ _) _ _ (gelu_ok arg12 harg12 arg7 harg7 x12 x7 ((i 0).val - 38) 16 (off41_eq i) _ _) _ _ (gelu_ok arg12 harg12 arg7 harg7 x12 x7 ((i 0).val - 38) 17 (off42_eq i) _ _) _ _ (gelu_ok arg12 harg12 arg7 harg7 x12 x7 ((i 0).val - 38) 18 (off43_eq i) _ _) _ _ (gelu_ok arg12 harg12 arg7 harg7 x12 x7 ((i 0).val - 38) 19 (off44_eq i) _ _) _ _ (gelu_ok arg12 harg12 arg7 harg7 x12 x7 ((i 0).val - 38) 20 (off45_eq i) _ _) _ _ (gelu_ok arg12 harg12 arg7 harg7 x12 x7 ((i 0).val - 38) 21 (off46_eq i) _ _) _ _ (gelu_ok arg12 harg12 arg7 harg7 x12 x7 ((i 0).val - 38) 22 (off47_eq i) _ _) _ _ (gelu_ok arg12 harg12 arg7 harg7 x12 x7 ((i 0).val - 38) 23 (off48_eq i) _ _) _ _ (gelu_ok arg12 harg12 arg7 harg7 x12 x7 ((i 0).val - 38) 24 (off49_eq i) _ _) _ _ (gelu_ok arg12 harg12 arg7 harg7 x12 x7 ((i 0).val - 38) 25 (off50_eq i) _ _) _ _ (gelu_ok arg12 harg12 arg7 harg7 x12 x7 ((i 0).val - 38) 26 (off51_eq i) _ _) _ _ (gelu_ok arg12 harg12 arg7 harg7 x12 x7 ((i 0).val - 38) 27 (off52_eq i) _ _)
  isplitl [H9]
  · iexists _; isplitr; swap; · iexact H9
    ipureintro; exact read_prod _ _ x13 x14 _ _ (congrArg₂ k0_pay2085 (rows_eq arg13 harg13 x13 0 _) (cols_eq arg14 harg14 x14 _)) _ _ (congrArg₂ k0_pay2085 (rows_eq arg13 harg13 x13 1 _) (cols_eq arg14 harg14 x14 _)) _ _ (congrArg₂ k0_pay2085 (rows_eq arg13 harg13 x13 2 _) (cols_eq arg14 harg14 x14 _)) _ _ (congrArg₂ k0_pay2085 (rows_eq arg13 harg13 x13 3 _) (cols_eq arg14 harg14 x14 _)) _ _ (congrArg₂ k0_pay2085 (rows_eq arg13 harg13 x13 4 _) (cols_eq arg14 harg14 x14 _)) _ _ (congrArg₂ k0_pay2085 (rows_eq arg13 harg13 x13 5 _) (cols_eq arg14 harg14 x14 _)) _ _ (congrArg₂ k0_pay2085 (rows_eq arg13 harg13 x13 6 _) (cols_eq arg14 harg14 x14 _))
  isplitl [H10]
  · iexists _; isplitr; swap; · iexact H10
    ipureintro; exact read_codes _ _ ((i 0).val - 38) x12 x7 _ _ (code_ok 0 (tile_ok arg12 harg12 arg7 harg7 x12 x7 ((i 0).val - 38) 0 (off25_eq i)) (quad_ok 0 (tile_ok arg12 harg12 arg7 harg7 x12 x7 ((i 0).val - 38) 0 (off25_eq i)) (tile_ok arg12 harg12 arg7 harg7 x12 x7 ((i 0).val - 38) 1 (off26_eq i)) (tile_ok arg12 harg12 arg7 harg7 x12 x7 ((i 0).val - 38) 2 (off27_eq i)) (tile_ok arg12 harg12 arg7 harg7 x12 x7 ((i 0).val - 38) 3 (off28_eq i)))) _ _ (code_ok 1 (tile_ok arg12 harg12 arg7 harg7 x12 x7 ((i 0).val - 38) 1 (off26_eq i)) (quad_ok 0 (tile_ok arg12 harg12 arg7 harg7 x12 x7 ((i 0).val - 38) 0 (off25_eq i)) (tile_ok arg12 harg12 arg7 harg7 x12 x7 ((i 0).val - 38) 1 (off26_eq i)) (tile_ok arg12 harg12 arg7 harg7 x12 x7 ((i 0).val - 38) 2 (off27_eq i)) (tile_ok arg12 harg12 arg7 harg7 x12 x7 ((i 0).val - 38) 3 (off28_eq i)))) _ _ (code_ok 2 (tile_ok arg12 harg12 arg7 harg7 x12 x7 ((i 0).val - 38) 2 (off27_eq i)) (quad_ok 0 (tile_ok arg12 harg12 arg7 harg7 x12 x7 ((i 0).val - 38) 0 (off25_eq i)) (tile_ok arg12 harg12 arg7 harg7 x12 x7 ((i 0).val - 38) 1 (off26_eq i)) (tile_ok arg12 harg12 arg7 harg7 x12 x7 ((i 0).val - 38) 2 (off27_eq i)) (tile_ok arg12 harg12 arg7 harg7 x12 x7 ((i 0).val - 38) 3 (off28_eq i)))) _ _ (code_ok 3 (tile_ok arg12 harg12 arg7 harg7 x12 x7 ((i 0).val - 38) 3 (off28_eq i)) (quad_ok 0 (tile_ok arg12 harg12 arg7 harg7 x12 x7 ((i 0).val - 38) 0 (off25_eq i)) (tile_ok arg12 harg12 arg7 harg7 x12 x7 ((i 0).val - 38) 1 (off26_eq i)) (tile_ok arg12 harg12 arg7 harg7 x12 x7 ((i 0).val - 38) 2 (off27_eq i)) (tile_ok arg12 harg12 arg7 harg7 x12 x7 ((i 0).val - 38) 3 (off28_eq i)))) _ _ (code_ok 4 (tile_ok arg12 harg12 arg7 harg7 x12 x7 ((i 0).val - 38) 4 (off29_eq i)) (quad_ok 1 (tile_ok arg12 harg12 arg7 harg7 x12 x7 ((i 0).val - 38) 4 (off29_eq i)) (tile_ok arg12 harg12 arg7 harg7 x12 x7 ((i 0).val - 38) 5 (off30_eq i)) (tile_ok arg12 harg12 arg7 harg7 x12 x7 ((i 0).val - 38) 6 (off31_eq i)) (tile_ok arg12 harg12 arg7 harg7 x12 x7 ((i 0).val - 38) 7 (off32_eq i)))) _ _ (code_ok 5 (tile_ok arg12 harg12 arg7 harg7 x12 x7 ((i 0).val - 38) 5 (off30_eq i)) (quad_ok 1 (tile_ok arg12 harg12 arg7 harg7 x12 x7 ((i 0).val - 38) 4 (off29_eq i)) (tile_ok arg12 harg12 arg7 harg7 x12 x7 ((i 0).val - 38) 5 (off30_eq i)) (tile_ok arg12 harg12 arg7 harg7 x12 x7 ((i 0).val - 38) 6 (off31_eq i)) (tile_ok arg12 harg12 arg7 harg7 x12 x7 ((i 0).val - 38) 7 (off32_eq i)))) _ _ (code_ok 6 (tile_ok arg12 harg12 arg7 harg7 x12 x7 ((i 0).val - 38) 6 (off31_eq i)) (quad_ok 1 (tile_ok arg12 harg12 arg7 harg7 x12 x7 ((i 0).val - 38) 4 (off29_eq i)) (tile_ok arg12 harg12 arg7 harg7 x12 x7 ((i 0).val - 38) 5 (off30_eq i)) (tile_ok arg12 harg12 arg7 harg7 x12 x7 ((i 0).val - 38) 6 (off31_eq i)) (tile_ok arg12 harg12 arg7 harg7 x12 x7 ((i 0).val - 38) 7 (off32_eq i)))) _ _ (code_ok 7 (tile_ok arg12 harg12 arg7 harg7 x12 x7 ((i 0).val - 38) 7 (off32_eq i)) (quad_ok 1 (tile_ok arg12 harg12 arg7 harg7 x12 x7 ((i 0).val - 38) 4 (off29_eq i)) (tile_ok arg12 harg12 arg7 harg7 x12 x7 ((i 0).val - 38) 5 (off30_eq i)) (tile_ok arg12 harg12 arg7 harg7 x12 x7 ((i 0).val - 38) 6 (off31_eq i)) (tile_ok arg12 harg12 arg7 harg7 x12 x7 ((i 0).val - 38) 7 (off32_eq i)))) _ _ (code_ok 8 (tile_ok arg12 harg12 arg7 harg7 x12 x7 ((i 0).val - 38) 8 (off33_eq i)) (quad_ok 2 (tile_ok arg12 harg12 arg7 harg7 x12 x7 ((i 0).val - 38) 8 (off33_eq i)) (tile_ok arg12 harg12 arg7 harg7 x12 x7 ((i 0).val - 38) 9 (off34_eq i)) (tile_ok arg12 harg12 arg7 harg7 x12 x7 ((i 0).val - 38) 10 (off35_eq i)) (tile_ok arg12 harg12 arg7 harg7 x12 x7 ((i 0).val - 38) 11 (off36_eq i)))) _ _ (code_ok 9 (tile_ok arg12 harg12 arg7 harg7 x12 x7 ((i 0).val - 38) 9 (off34_eq i)) (quad_ok 2 (tile_ok arg12 harg12 arg7 harg7 x12 x7 ((i 0).val - 38) 8 (off33_eq i)) (tile_ok arg12 harg12 arg7 harg7 x12 x7 ((i 0).val - 38) 9 (off34_eq i)) (tile_ok arg12 harg12 arg7 harg7 x12 x7 ((i 0).val - 38) 10 (off35_eq i)) (tile_ok arg12 harg12 arg7 harg7 x12 x7 ((i 0).val - 38) 11 (off36_eq i)))) _ _ (code_ok 10 (tile_ok arg12 harg12 arg7 harg7 x12 x7 ((i 0).val - 38) 10 (off35_eq i)) (quad_ok 2 (tile_ok arg12 harg12 arg7 harg7 x12 x7 ((i 0).val - 38) 8 (off33_eq i)) (tile_ok arg12 harg12 arg7 harg7 x12 x7 ((i 0).val - 38) 9 (off34_eq i)) (tile_ok arg12 harg12 arg7 harg7 x12 x7 ((i 0).val - 38) 10 (off35_eq i)) (tile_ok arg12 harg12 arg7 harg7 x12 x7 ((i 0).val - 38) 11 (off36_eq i)))) _ _ (code_ok 11 (tile_ok arg12 harg12 arg7 harg7 x12 x7 ((i 0).val - 38) 11 (off36_eq i)) (quad_ok 2 (tile_ok arg12 harg12 arg7 harg7 x12 x7 ((i 0).val - 38) 8 (off33_eq i)) (tile_ok arg12 harg12 arg7 harg7 x12 x7 ((i 0).val - 38) 9 (off34_eq i)) (tile_ok arg12 harg12 arg7 harg7 x12 x7 ((i 0).val - 38) 10 (off35_eq i)) (tile_ok arg12 harg12 arg7 harg7 x12 x7 ((i 0).val - 38) 11 (off36_eq i)))) _ _ (code_ok 12 (tile_ok arg12 harg12 arg7 harg7 x12 x7 ((i 0).val - 38) 12 (off37_eq i)) (quad_ok 3 (tile_ok arg12 harg12 arg7 harg7 x12 x7 ((i 0).val - 38) 12 (off37_eq i)) (tile_ok arg12 harg12 arg7 harg7 x12 x7 ((i 0).val - 38) 13 (off38_eq i)) (tile_ok arg12 harg12 arg7 harg7 x12 x7 ((i 0).val - 38) 14 (off39_eq i)) (tile_ok arg12 harg12 arg7 harg7 x12 x7 ((i 0).val - 38) 15 (off40_eq i)))) _ _ (code_ok 13 (tile_ok arg12 harg12 arg7 harg7 x12 x7 ((i 0).val - 38) 13 (off38_eq i)) (quad_ok 3 (tile_ok arg12 harg12 arg7 harg7 x12 x7 ((i 0).val - 38) 12 (off37_eq i)) (tile_ok arg12 harg12 arg7 harg7 x12 x7 ((i 0).val - 38) 13 (off38_eq i)) (tile_ok arg12 harg12 arg7 harg7 x12 x7 ((i 0).val - 38) 14 (off39_eq i)) (tile_ok arg12 harg12 arg7 harg7 x12 x7 ((i 0).val - 38) 15 (off40_eq i)))) _ _ (code_ok 14 (tile_ok arg12 harg12 arg7 harg7 x12 x7 ((i 0).val - 38) 14 (off39_eq i)) (quad_ok 3 (tile_ok arg12 harg12 arg7 harg7 x12 x7 ((i 0).val - 38) 12 (off37_eq i)) (tile_ok arg12 harg12 arg7 harg7 x12 x7 ((i 0).val - 38) 13 (off38_eq i)) (tile_ok arg12 harg12 arg7 harg7 x12 x7 ((i 0).val - 38) 14 (off39_eq i)) (tile_ok arg12 harg12 arg7 harg7 x12 x7 ((i 0).val - 38) 15 (off40_eq i)))) _ _ (code_ok 15 (tile_ok arg12 harg12 arg7 harg7 x12 x7 ((i 0).val - 38) 15 (off40_eq i)) (quad_ok 3 (tile_ok arg12 harg12 arg7 harg7 x12 x7 ((i 0).val - 38) 12 (off37_eq i)) (tile_ok arg12 harg12 arg7 harg7 x12 x7 ((i 0).val - 38) 13 (off38_eq i)) (tile_ok arg12 harg12 arg7 harg7 x12 x7 ((i 0).val - 38) 14 (off39_eq i)) (tile_ok arg12 harg12 arg7 harg7 x12 x7 ((i 0).val - 38) 15 (off40_eq i)))) _ _ (code_ok 16 (tile_ok arg12 harg12 arg7 harg7 x12 x7 ((i 0).val - 38) 16 (off41_eq i)) (quad_ok 4 (tile_ok arg12 harg12 arg7 harg7 x12 x7 ((i 0).val - 38) 16 (off41_eq i)) (tile_ok arg12 harg12 arg7 harg7 x12 x7 ((i 0).val - 38) 17 (off42_eq i)) (tile_ok arg12 harg12 arg7 harg7 x12 x7 ((i 0).val - 38) 18 (off43_eq i)) (tile_ok arg12 harg12 arg7 harg7 x12 x7 ((i 0).val - 38) 19 (off44_eq i)))) _ _ (code_ok 17 (tile_ok arg12 harg12 arg7 harg7 x12 x7 ((i 0).val - 38) 17 (off42_eq i)) (quad_ok 4 (tile_ok arg12 harg12 arg7 harg7 x12 x7 ((i 0).val - 38) 16 (off41_eq i)) (tile_ok arg12 harg12 arg7 harg7 x12 x7 ((i 0).val - 38) 17 (off42_eq i)) (tile_ok arg12 harg12 arg7 harg7 x12 x7 ((i 0).val - 38) 18 (off43_eq i)) (tile_ok arg12 harg12 arg7 harg7 x12 x7 ((i 0).val - 38) 19 (off44_eq i)))) _ _ (code_ok 18 (tile_ok arg12 harg12 arg7 harg7 x12 x7 ((i 0).val - 38) 18 (off43_eq i)) (quad_ok 4 (tile_ok arg12 harg12 arg7 harg7 x12 x7 ((i 0).val - 38) 16 (off41_eq i)) (tile_ok arg12 harg12 arg7 harg7 x12 x7 ((i 0).val - 38) 17 (off42_eq i)) (tile_ok arg12 harg12 arg7 harg7 x12 x7 ((i 0).val - 38) 18 (off43_eq i)) (tile_ok arg12 harg12 arg7 harg7 x12 x7 ((i 0).val - 38) 19 (off44_eq i)))) _ _ (code_ok 19 (tile_ok arg12 harg12 arg7 harg7 x12 x7 ((i 0).val - 38) 19 (off44_eq i)) (quad_ok 4 (tile_ok arg12 harg12 arg7 harg7 x12 x7 ((i 0).val - 38) 16 (off41_eq i)) (tile_ok arg12 harg12 arg7 harg7 x12 x7 ((i 0).val - 38) 17 (off42_eq i)) (tile_ok arg12 harg12 arg7 harg7 x12 x7 ((i 0).val - 38) 18 (off43_eq i)) (tile_ok arg12 harg12 arg7 harg7 x12 x7 ((i 0).val - 38) 19 (off44_eq i)))) _ _ (code_ok 20 (tile_ok arg12 harg12 arg7 harg7 x12 x7 ((i 0).val - 38) 20 (off45_eq i)) (quad_ok 5 (tile_ok arg12 harg12 arg7 harg7 x12 x7 ((i 0).val - 38) 20 (off45_eq i)) (tile_ok arg12 harg12 arg7 harg7 x12 x7 ((i 0).val - 38) 21 (off46_eq i)) (tile_ok arg12 harg12 arg7 harg7 x12 x7 ((i 0).val - 38) 22 (off47_eq i)) (tile_ok arg12 harg12 arg7 harg7 x12 x7 ((i 0).val - 38) 23 (off48_eq i)))) _ _ (code_ok 21 (tile_ok arg12 harg12 arg7 harg7 x12 x7 ((i 0).val - 38) 21 (off46_eq i)) (quad_ok 5 (tile_ok arg12 harg12 arg7 harg7 x12 x7 ((i 0).val - 38) 20 (off45_eq i)) (tile_ok arg12 harg12 arg7 harg7 x12 x7 ((i 0).val - 38) 21 (off46_eq i)) (tile_ok arg12 harg12 arg7 harg7 x12 x7 ((i 0).val - 38) 22 (off47_eq i)) (tile_ok arg12 harg12 arg7 harg7 x12 x7 ((i 0).val - 38) 23 (off48_eq i)))) _ _ (code_ok 22 (tile_ok arg12 harg12 arg7 harg7 x12 x7 ((i 0).val - 38) 22 (off47_eq i)) (quad_ok 5 (tile_ok arg12 harg12 arg7 harg7 x12 x7 ((i 0).val - 38) 20 (off45_eq i)) (tile_ok arg12 harg12 arg7 harg7 x12 x7 ((i 0).val - 38) 21 (off46_eq i)) (tile_ok arg12 harg12 arg7 harg7 x12 x7 ((i 0).val - 38) 22 (off47_eq i)) (tile_ok arg12 harg12 arg7 harg7 x12 x7 ((i 0).val - 38) 23 (off48_eq i)))) _ _ (code_ok 23 (tile_ok arg12 harg12 arg7 harg7 x12 x7 ((i 0).val - 38) 23 (off48_eq i)) (quad_ok 5 (tile_ok arg12 harg12 arg7 harg7 x12 x7 ((i 0).val - 38) 20 (off45_eq i)) (tile_ok arg12 harg12 arg7 harg7 x12 x7 ((i 0).val - 38) 21 (off46_eq i)) (tile_ok arg12 harg12 arg7 harg7 x12 x7 ((i 0).val - 38) 22 (off47_eq i)) (tile_ok arg12 harg12 arg7 harg7 x12 x7 ((i 0).val - 38) 23 (off48_eq i)))) _ _ (code_ok 24 (tile_ok arg12 harg12 arg7 harg7 x12 x7 ((i 0).val - 38) 24 (off49_eq i)) (quad_ok 6 (tile_ok arg12 harg12 arg7 harg7 x12 x7 ((i 0).val - 38) 24 (off49_eq i)) (tile_ok arg12 harg12 arg7 harg7 x12 x7 ((i 0).val - 38) 25 (off50_eq i)) (tile_ok arg12 harg12 arg7 harg7 x12 x7 ((i 0).val - 38) 26 (off51_eq i)) (tile_ok arg12 harg12 arg7 harg7 x12 x7 ((i 0).val - 38) 27 (off52_eq i)))) _ _ (code_ok 25 (tile_ok arg12 harg12 arg7 harg7 x12 x7 ((i 0).val - 38) 25 (off50_eq i)) (quad_ok 6 (tile_ok arg12 harg12 arg7 harg7 x12 x7 ((i 0).val - 38) 24 (off49_eq i)) (tile_ok arg12 harg12 arg7 harg7 x12 x7 ((i 0).val - 38) 25 (off50_eq i)) (tile_ok arg12 harg12 arg7 harg7 x12 x7 ((i 0).val - 38) 26 (off51_eq i)) (tile_ok arg12 harg12 arg7 harg7 x12 x7 ((i 0).val - 38) 27 (off52_eq i)))) _ _ (code_ok 26 (tile_ok arg12 harg12 arg7 harg7 x12 x7 ((i 0).val - 38) 26 (off51_eq i)) (quad_ok 6 (tile_ok arg12 harg12 arg7 harg7 x12 x7 ((i 0).val - 38) 24 (off49_eq i)) (tile_ok arg12 harg12 arg7 harg7 x12 x7 ((i 0).val - 38) 25 (off50_eq i)) (tile_ok arg12 harg12 arg7 harg7 x12 x7 ((i 0).val - 38) 26 (off51_eq i)) (tile_ok arg12 harg12 arg7 harg7 x12 x7 ((i 0).val - 38) 27 (off52_eq i)))) _ _ (code_ok 27 (tile_ok arg12 harg12 arg7 harg7 x12 x7 ((i 0).val - 38) 27 (off52_eq i)) (quad_ok 6 (tile_ok arg12 harg12 arg7 harg7 x12 x7 ((i 0).val - 38) 24 (off49_eq i)) (tile_ok arg12 harg12 arg7 harg7 x12 x7 ((i 0).val - 38) 25 (off50_eq i)) (tile_ok arg12 harg12 arg7 harg7 x12 x7 ((i 0).val - 38) 26 (off51_eq i)) (tile_ok arg12 harg12 arg7 harg7 x12 x7 ((i 0).val - 38) 27 (off52_eq i))))
  isplitl [H11]
  · iexists _; isplitr; swap; · iexact H11
    ipureintro; exact read_whole _ _ zero2 _ _ _ (scale_ok (quad_ok 0 (tile_ok arg12 harg12 arg7 harg7 x12 x7 ((i 0).val - 38) 0 (off25_eq i)) (tile_ok arg12 harg12 arg7 harg7 x12 x7 ((i 0).val - 38) 1 (off26_eq i)) (tile_ok arg12 harg12 arg7 harg7 x12 x7 ((i 0).val - 38) 2 (off27_eq i)) (tile_ok arg12 harg12 arg7 harg7 x12 x7 ((i 0).val - 38) 3 (off28_eq i))) (quad_ok 1 (tile_ok arg12 harg12 arg7 harg7 x12 x7 ((i 0).val - 38) 4 (off29_eq i)) (tile_ok arg12 harg12 arg7 harg7 x12 x7 ((i 0).val - 38) 5 (off30_eq i)) (tile_ok arg12 harg12 arg7 harg7 x12 x7 ((i 0).val - 38) 6 (off31_eq i)) (tile_ok arg12 harg12 arg7 harg7 x12 x7 ((i 0).val - 38) 7 (off32_eq i))) (quad_ok 2 (tile_ok arg12 harg12 arg7 harg7 x12 x7 ((i 0).val - 38) 8 (off33_eq i)) (tile_ok arg12 harg12 arg7 harg7 x12 x7 ((i 0).val - 38) 9 (off34_eq i)) (tile_ok arg12 harg12 arg7 harg7 x12 x7 ((i 0).val - 38) 10 (off35_eq i)) (tile_ok arg12 harg12 arg7 harg7 x12 x7 ((i 0).val - 38) 11 (off36_eq i))) (quad_ok 3 (tile_ok arg12 harg12 arg7 harg7 x12 x7 ((i 0).val - 38) 12 (off37_eq i)) (tile_ok arg12 harg12 arg7 harg7 x12 x7 ((i 0).val - 38) 13 (off38_eq i)) (tile_ok arg12 harg12 arg7 harg7 x12 x7 ((i 0).val - 38) 14 (off39_eq i)) (tile_ok arg12 harg12 arg7 harg7 x12 x7 ((i 0).val - 38) 15 (off40_eq i))) (quad_ok 4 (tile_ok arg12 harg12 arg7 harg7 x12 x7 ((i 0).val - 38) 16 (off41_eq i)) (tile_ok arg12 harg12 arg7 harg7 x12 x7 ((i 0).val - 38) 17 (off42_eq i)) (tile_ok arg12 harg12 arg7 harg7 x12 x7 ((i 0).val - 38) 18 (off43_eq i)) (tile_ok arg12 harg12 arg7 harg7 x12 x7 ((i 0).val - 38) 19 (off44_eq i))) (quad_ok 5 (tile_ok arg12 harg12 arg7 harg7 x12 x7 ((i 0).val - 38) 20 (off45_eq i)) (tile_ok arg12 harg12 arg7 harg7 x12 x7 ((i 0).val - 38) 21 (off46_eq i)) (tile_ok arg12 harg12 arg7 harg7 x12 x7 ((i 0).val - 38) 22 (off47_eq i)) (tile_ok arg12 harg12 arg7 harg7 x12 x7 ((i 0).val - 38) 23 (off48_eq i))) (quad_ok 6 (tile_ok arg12 harg12 arg7 harg7 x12 x7 ((i 0).val - 38) 24 (off49_eq i)) (tile_ok arg12 harg12 arg7 harg7 x12 x7 ((i 0).val - 38) 25 (off50_eq i)) (tile_ok arg12 harg12 arg7 harg7 x12 x7 ((i 0).val - 38) 26 (off51_eq i)) (tile_ok arg12 harg12 arg7 harg7 x12 x7 ((i 0).val - 38) 27 (off52_eq i))))
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  iexists _; isplitr; swap; · iexact H15
  ipureintro; exact (read_put _ _ x2 _ _ (put_ok arg2 harg2 x2 _)).trans (congrArg (putBlk x2) (harg15.read_unread _))

set_option maxHeartbeats 4000000 in
/-- The body at an odd point of the second phase (the sixth branch runs): what it leaves. -/
theorem run_V (c : Dev nD) (i : grid0.Coords) (arg1 : Memref sig .tc .vmem S1536x512 .bf16) (harg1 : arg1.IsWhole) (arg2 : Memref sig .tc .vmem S1536x256 .bf16) (harg2 : arg2.IsWhole) (arg3 : Memref sig .tc .vmem S1536x128 .fp8e4m3) (harg3 : arg3.IsWhole) (arg4 : Memref sig .tc .vmem S4x12x128 .i8) (harg4 : arg4.IsWhole) (arg5 : Memref sig .tc .vmem S3584x512 .fp8e4m3) (harg5 : arg5.IsWhole) (arg6 : Memref sig .tc .vmem S3584x128 .i8) (harg6 : arg6.IsWhole) (arg7 : Memref sig .tc .vmem S32x3584 .bf16) (harg7 : arg7.IsWhole) (arg8 : Memref sig .tc .vmem S32x3584 .bf16) (harg8 : arg8.IsWhole) (arg9 : Memref sig .tc .vmem S3584x256 .f32) (harg9 : arg9.IsWhole) (arg10 : Memref sig .tc .vmem S32x3584 .fp8e4m3) (harg10 : arg10.IsWhole) (arg11 : Memref sig .tc .vmem S32x112 .i8) (harg11 : arg11.IsWhole) (arg12 : Memref sig .tc .vmem S1536x3584 .f32) (harg12 : arg12.IsWhole) (arg13 : Memref sig .tc .vmem S3584x1536 .bf16) (harg13 : arg13.IsWhole) (arg14 : Memref sig .tc .vmem S1536x512 .bf16) (harg14 : arg14.IsWhole) (arg15 : Memref sig .tc .vmem S1536x512 .bf16) (harg15 : arg15.IsWhole) (hc0 : ¬br0 i) (hc1 : ¬br1 i) (hc2 : ¬br2 i) (hc3 : ¬br3 i) (hc4 : ¬br4 i) (hc5 : br5 i)
    (x1 : Vec F S1536x512 .bf16) (x2 : Vec F S1536x256 .bf16) (x3 : Vec F S1536x128 .fp8e4m3) (x4 : Vec F S4x12x128 .i8) (x5 : Vec F S3584x512 .fp8e4m3) (x6 : Vec F S3584x128 .i8) (x7 : Vec F S32x3584 .bf16) (x8 : Vec F S32x3584 .bf16) (x9 : Vec F S3584x256 .f32) (x10 : Vec F S32x3584 .fp8e4m3) (x11 : Vec F S32x112 .i8) (x12 : Vec F S1536x3584 .f32) (x13 : Vec F S3584x1536 .bf16) (x14 : Vec F S1536x512 .bf16) (x15 : Vec F S1536x512 .bf16) (E : Set ℕ) (K : PUnit → sProp 𝕄) :
    iprop(Own c arg1 arg2 arg3 arg4 arg5 arg6 arg7 arg8 arg9 arg10 arg11 arg12 arg13 arg14 arg15 x1 x2 x3 x4 x5 x6 x7 x8 x9 x10 x11 x12 x13 x14 x15 ∗ (Own c arg1 arg2 arg3 arg4 arg5 arg6 arg7 arg8 arg9 arg10 arg11 arg12 arg13 arg14 arg15 x1 x2 x3 x4 x5 x6 x7 (dhB ((i 0).val - 38) x12 x7) (prod x13 x15) (codesB ((i 0).val - 38) x12 x7) (scalesB ((i 0).val - 38) x12 x7) x12 x13 (putBlk x2 x14) x15 -∗ K ⟨⟩))
      ⊢ wp frame (wpE (defs₀ (F := F)) Variants.none c none) E (cc0_mxfp8_down_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mxfp8_down_proj_bwd_eq_skeleton]; unfold cc0_mxfp8_down_proj_bwd_skel
  simp only [k0_part579_eq_skeleton, k0_part578_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton]
  unfold Own owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2 | sl_exact hc3 | sl_exact hc4 | sl_exact hc5)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact read_dh _ _ ((i 0).val - 38) x12 x7 _ _ (gelu_ok arg12 harg12 arg7 harg7 x12 x7 ((i 0).val - 38) 0 (off53_eq i) _ _) _ _ (gelu_ok arg12 harg12 arg7 harg7 x12 x7 ((i 0).val - 38) 1 (off54_eq i) _ _) _ _ (gelu_ok arg12 harg12 arg7 harg7 x12 x7 ((i 0).val - 38) 2 (off55_eq i) _ _) _ _ (gelu_ok arg12 harg12 arg7 harg7 x12 x7 ((i 0).val - 38) 3 (off56_eq i) _ _) _ _ (gelu_ok arg12 harg12 arg7 harg7 x12 x7 ((i 0).val - 38) 4 (off57_eq i) _ _) _ _ (gelu_ok arg12 harg12 arg7 harg7 x12 x7 ((i 0).val - 38) 5 (off58_eq i) _ _) _ _ (gelu_ok arg12 harg12 arg7 harg7 x12 x7 ((i 0).val - 38) 6 (off59_eq i) _ _) _ _ (gelu_ok arg12 harg12 arg7 harg7 x12 x7 ((i 0).val - 38) 7 (off60_eq i) _ _) _ _ (gelu_ok arg12 harg12 arg7 harg7 x12 x7 ((i 0).val - 38) 8 (off61_eq i) _ _) _ _ (gelu_ok arg12 harg12 arg7 harg7 x12 x7 ((i 0).val - 38) 9 (off62_eq i) _ _) _ _ (gelu_ok arg12 harg12 arg7 harg7 x12 x7 ((i 0).val - 38) 10 (off63_eq i) _ _) _ _ (gelu_ok arg12 harg12 arg7 harg7 x12 x7 ((i 0).val - 38) 11 (off64_eq i) _ _) _ _ (gelu_ok arg12 harg12 arg7 harg7 x12 x7 ((i 0).val - 38) 12 (off65_eq i) _ _) _ _ (gelu_ok arg12 harg12 arg7 harg7 x12 x7 ((i 0).val - 38) 13 (off66_eq i) _ _) _ _ (gelu_ok arg12 harg12 arg7 harg7 x12 x7 ((i 0).val - 38) 14 (off67_eq i) _ _) _ _ (gelu_ok arg12 harg12 arg7 harg7 x12 x7 ((i 0).val - 38) 15 (off68_eq i) _ _) _ _ (gelu_ok arg12 harg12 arg7 harg7 x12 x7 ((i 0).val - 38) 16 (off69_eq i) _ _) _ _ (gelu_ok arg12 harg12 arg7 harg7 x12 x7 ((i 0).val - 38) 17 (off70_eq i) _ _) _ _ (gelu_ok arg12 harg12 arg7 harg7 x12 x7 ((i 0).val - 38) 18 (off71_eq i) _ _) _ _ (gelu_ok arg12 harg12 arg7 harg7 x12 x7 ((i 0).val - 38) 19 (off72_eq i) _ _) _ _ (gelu_ok arg12 harg12 arg7 harg7 x12 x7 ((i 0).val - 38) 20 (off73_eq i) _ _) _ _ (gelu_ok arg12 harg12 arg7 harg7 x12 x7 ((i 0).val - 38) 21 (off74_eq i) _ _) _ _ (gelu_ok arg12 harg12 arg7 harg7 x12 x7 ((i 0).val - 38) 22 (off75_eq i) _ _) _ _ (gelu_ok arg12 harg12 arg7 harg7 x12 x7 ((i 0).val - 38) 23 (off76_eq i) _ _) _ _ (gelu_ok arg12 harg12 arg7 harg7 x12 x7 ((i 0).val - 38) 24 (off77_eq i) _ _) _ _ (gelu_ok arg12 harg12 arg7 harg7 x12 x7 ((i 0).val - 38) 25 (off78_eq i) _ _) _ _ (gelu_ok arg12 harg12 arg7 harg7 x12 x7 ((i 0).val - 38) 26 (off79_eq i) _ _) _ _ (gelu_ok arg12 harg12 arg7 harg7 x12 x7 ((i 0).val - 38) 27 (off80_eq i) _ _)
  isplitl [H9]
  · iexists _; isplitr; swap; · iexact H9
    ipureintro; exact read_prod _ _ x13 x15 _ _ (congrArg₂ k0_pay2085 (rows_eq arg13 harg13 x13 0 _) (cols_eq arg15 harg15 x15 _)) _ _ (congrArg₂ k0_pay2085 (rows_eq arg13 harg13 x13 1 _) (cols_eq arg15 harg15 x15 _)) _ _ (congrArg₂ k0_pay2085 (rows_eq arg13 harg13 x13 2 _) (cols_eq arg15 harg15 x15 _)) _ _ (congrArg₂ k0_pay2085 (rows_eq arg13 harg13 x13 3 _) (cols_eq arg15 harg15 x15 _)) _ _ (congrArg₂ k0_pay2085 (rows_eq arg13 harg13 x13 4 _) (cols_eq arg15 harg15 x15 _)) _ _ (congrArg₂ k0_pay2085 (rows_eq arg13 harg13 x13 5 _) (cols_eq arg15 harg15 x15 _)) _ _ (congrArg₂ k0_pay2085 (rows_eq arg13 harg13 x13 6 _) (cols_eq arg15 harg15 x15 _))
  isplitl [H10]
  · iexists _; isplitr; swap; · iexact H10
    ipureintro; exact read_codes _ _ ((i 0).val - 38) x12 x7 _ _ (code_ok 0 (tile_ok arg12 harg12 arg7 harg7 x12 x7 ((i 0).val - 38) 0 (off53_eq i)) (quad_ok 0 (tile_ok arg12 harg12 arg7 harg7 x12 x7 ((i 0).val - 38) 0 (off53_eq i)) (tile_ok arg12 harg12 arg7 harg7 x12 x7 ((i 0).val - 38) 1 (off54_eq i)) (tile_ok arg12 harg12 arg7 harg7 x12 x7 ((i 0).val - 38) 2 (off55_eq i)) (tile_ok arg12 harg12 arg7 harg7 x12 x7 ((i 0).val - 38) 3 (off56_eq i)))) _ _ (code_ok 1 (tile_ok arg12 harg12 arg7 harg7 x12 x7 ((i 0).val - 38) 1 (off54_eq i)) (quad_ok 0 (tile_ok arg12 harg12 arg7 harg7 x12 x7 ((i 0).val - 38) 0 (off53_eq i)) (tile_ok arg12 harg12 arg7 harg7 x12 x7 ((i 0).val - 38) 1 (off54_eq i)) (tile_ok arg12 harg12 arg7 harg7 x12 x7 ((i 0).val - 38) 2 (off55_eq i)) (tile_ok arg12 harg12 arg7 harg7 x12 x7 ((i 0).val - 38) 3 (off56_eq i)))) _ _ (code_ok 2 (tile_ok arg12 harg12 arg7 harg7 x12 x7 ((i 0).val - 38) 2 (off55_eq i)) (quad_ok 0 (tile_ok arg12 harg12 arg7 harg7 x12 x7 ((i 0).val - 38) 0 (off53_eq i)) (tile_ok arg12 harg12 arg7 harg7 x12 x7 ((i 0).val - 38) 1 (off54_eq i)) (tile_ok arg12 harg12 arg7 harg7 x12 x7 ((i 0).val - 38) 2 (off55_eq i)) (tile_ok arg12 harg12 arg7 harg7 x12 x7 ((i 0).val - 38) 3 (off56_eq i)))) _ _ (code_ok 3 (tile_ok arg12 harg12 arg7 harg7 x12 x7 ((i 0).val - 38) 3 (off56_eq i)) (quad_ok 0 (tile_ok arg12 harg12 arg7 harg7 x12 x7 ((i 0).val - 38) 0 (off53_eq i)) (tile_ok arg12 harg12 arg7 harg7 x12 x7 ((i 0).val - 38) 1 (off54_eq i)) (tile_ok arg12 harg12 arg7 harg7 x12 x7 ((i 0).val - 38) 2 (off55_eq i)) (tile_ok arg12 harg12 arg7 harg7 x12 x7 ((i 0).val - 38) 3 (off56_eq i)))) _ _ (code_ok 4 (tile_ok arg12 harg12 arg7 harg7 x12 x7 ((i 0).val - 38) 4 (off57_eq i)) (quad_ok 1 (tile_ok arg12 harg12 arg7 harg7 x12 x7 ((i 0).val - 38) 4 (off57_eq i)) (tile_ok arg12 harg12 arg7 harg7 x12 x7 ((i 0).val - 38) 5 (off58_eq i)) (tile_ok arg12 harg12 arg7 harg7 x12 x7 ((i 0).val - 38) 6 (off59_eq i)) (tile_ok arg12 harg12 arg7 harg7 x12 x7 ((i 0).val - 38) 7 (off60_eq i)))) _ _ (code_ok 5 (tile_ok arg12 harg12 arg7 harg7 x12 x7 ((i 0).val - 38) 5 (off58_eq i)) (quad_ok 1 (tile_ok arg12 harg12 arg7 harg7 x12 x7 ((i 0).val - 38) 4 (off57_eq i)) (tile_ok arg12 harg12 arg7 harg7 x12 x7 ((i 0).val - 38) 5 (off58_eq i)) (tile_ok arg12 harg12 arg7 harg7 x12 x7 ((i 0).val - 38) 6 (off59_eq i)) (tile_ok arg12 harg12 arg7 harg7 x12 x7 ((i 0).val - 38) 7 (off60_eq i)))) _ _ (code_ok 6 (tile_ok arg12 harg12 arg7 harg7 x12 x7 ((i 0).val - 38) 6 (off59_eq i)) (quad_ok 1 (tile_ok arg12 harg12 arg7 harg7 x12 x7 ((i 0).val - 38) 4 (off57_eq i)) (tile_ok arg12 harg12 arg7 harg7 x12 x7 ((i 0).val - 38) 5 (off58_eq i)) (tile_ok arg12 harg12 arg7 harg7 x12 x7 ((i 0).val - 38) 6 (off59_eq i)) (tile_ok arg12 harg12 arg7 harg7 x12 x7 ((i 0).val - 38) 7 (off60_eq i)))) _ _ (code_ok 7 (tile_ok arg12 harg12 arg7 harg7 x12 x7 ((i 0).val - 38) 7 (off60_eq i)) (quad_ok 1 (tile_ok arg12 harg12 arg7 harg7 x12 x7 ((i 0).val - 38) 4 (off57_eq i)) (tile_ok arg12 harg12 arg7 harg7 x12 x7 ((i 0).val - 38) 5 (off58_eq i)) (tile_ok arg12 harg12 arg7 harg7 x12 x7 ((i 0).val - 38) 6 (off59_eq i)) (tile_ok arg12 harg12 arg7 harg7 x12 x7 ((i 0).val - 38) 7 (off60_eq i)))) _ _ (code_ok 8 (tile_ok arg12 harg12 arg7 harg7 x12 x7 ((i 0).val - 38) 8 (off61_eq i)) (quad_ok 2 (tile_ok arg12 harg12 arg7 harg7 x12 x7 ((i 0).val - 38) 8 (off61_eq i)) (tile_ok arg12 harg12 arg7 harg7 x12 x7 ((i 0).val - 38) 9 (off62_eq i)) (tile_ok arg12 harg12 arg7 harg7 x12 x7 ((i 0).val - 38) 10 (off63_eq i)) (tile_ok arg12 harg12 arg7 harg7 x12 x7 ((i 0).val - 38) 11 (off64_eq i)))) _ _ (code_ok 9 (tile_ok arg12 harg12 arg7 harg7 x12 x7 ((i 0).val - 38) 9 (off62_eq i)) (quad_ok 2 (tile_ok arg12 harg12 arg7 harg7 x12 x7 ((i 0).val - 38) 8 (off61_eq i)) (tile_ok arg12 harg12 arg7 harg7 x12 x7 ((i 0).val - 38) 9 (off62_eq i)) (tile_ok arg12 harg12 arg7 harg7 x12 x7 ((i 0).val - 38) 10 (off63_eq i)) (tile_ok arg12 harg12 arg7 harg7 x12 x7 ((i 0).val - 38) 11 (off64_eq i)))) _ _ (code_ok 10 (tile_ok arg12 harg12 arg7 harg7 x12 x7 ((i 0).val - 38) 10 (off63_eq i)) (quad_ok 2 (tile_ok arg12 harg12 arg7 harg7 x12 x7 ((i 0).val - 38) 8 (off61_eq i)) (tile_ok arg12 harg12 arg7 harg7 x12 x7 ((i 0).val - 38) 9 (off62_eq i)) (tile_ok arg12 harg12 arg7 harg7 x12 x7 ((i 0).val - 38) 10 (off63_eq i)) (tile_ok arg12 harg12 arg7 harg7 x12 x7 ((i 0).val - 38) 11 (off64_eq i)))) _ _ (code_ok 11 (tile_ok arg12 harg12 arg7 harg7 x12 x7 ((i 0).val - 38) 11 (off64_eq i)) (quad_ok 2 (tile_ok arg12 harg12 arg7 harg7 x12 x7 ((i 0).val - 38) 8 (off61_eq i)) (tile_ok arg12 harg12 arg7 harg7 x12 x7 ((i 0).val - 38) 9 (off62_eq i)) (tile_ok arg12 harg12 arg7 harg7 x12 x7 ((i 0).val - 38) 10 (off63_eq i)) (tile_ok arg12 harg12 arg7 harg7 x12 x7 ((i 0).val - 38) 11 (off64_eq i)))) _ _ (code_ok 12 (tile_ok arg12 harg12 arg7 harg7 x12 x7 ((i 0).val - 38) 12 (off65_eq i)) (quad_ok 3 (tile_ok arg12 harg12 arg7 harg7 x12 x7 ((i 0).val - 38) 12 (off65_eq i)) (tile_ok arg12 harg12 arg7 harg7 x12 x7 ((i 0).val - 38) 13 (off66_eq i)) (tile_ok arg12 harg12 arg7 harg7 x12 x7 ((i 0).val - 38) 14 (off67_eq i)) (tile_ok arg12 harg12 arg7 harg7 x12 x7 ((i 0).val - 38) 15 (off68_eq i)))) _ _ (code_ok 13 (tile_ok arg12 harg12 arg7 harg7 x12 x7 ((i 0).val - 38) 13 (off66_eq i)) (quad_ok 3 (tile_ok arg12 harg12 arg7 harg7 x12 x7 ((i 0).val - 38) 12 (off65_eq i)) (tile_ok arg12 harg12 arg7 harg7 x12 x7 ((i 0).val - 38) 13 (off66_eq i)) (tile_ok arg12 harg12 arg7 harg7 x12 x7 ((i 0).val - 38) 14 (off67_eq i)) (tile_ok arg12 harg12 arg7 harg7 x12 x7 ((i 0).val - 38) 15 (off68_eq i)))) _ _ (code_ok 14 (tile_ok arg12 harg12 arg7 harg7 x12 x7 ((i 0).val - 38) 14 (off67_eq i)) (quad_ok 3 (tile_ok arg12 harg12 arg7 harg7 x12 x7 ((i 0).val - 38) 12 (off65_eq i)) (tile_ok arg12 harg12 arg7 harg7 x12 x7 ((i 0).val - 38) 13 (off66_eq i)) (tile_ok arg12 harg12 arg7 harg7 x12 x7 ((i 0).val - 38) 14 (off67_eq i)) (tile_ok arg12 harg12 arg7 harg7 x12 x7 ((i 0).val - 38) 15 (off68_eq i)))) _ _ (code_ok 15 (tile_ok arg12 harg12 arg7 harg7 x12 x7 ((i 0).val - 38) 15 (off68_eq i)) (quad_ok 3 (tile_ok arg12 harg12 arg7 harg7 x12 x7 ((i 0).val - 38) 12 (off65_eq i)) (tile_ok arg12 harg12 arg7 harg7 x12 x7 ((i 0).val - 38) 13 (off66_eq i)) (tile_ok arg12 harg12 arg7 harg7 x12 x7 ((i 0).val - 38) 14 (off67_eq i)) (tile_ok arg12 harg12 arg7 harg7 x12 x7 ((i 0).val - 38) 15 (off68_eq i)))) _ _ (code_ok 16 (tile_ok arg12 harg12 arg7 harg7 x12 x7 ((i 0).val - 38) 16 (off69_eq i)) (quad_ok 4 (tile_ok arg12 harg12 arg7 harg7 x12 x7 ((i 0).val - 38) 16 (off69_eq i)) (tile_ok arg12 harg12 arg7 harg7 x12 x7 ((i 0).val - 38) 17 (off70_eq i)) (tile_ok arg12 harg12 arg7 harg7 x12 x7 ((i 0).val - 38) 18 (off71_eq i)) (tile_ok arg12 harg12 arg7 harg7 x12 x7 ((i 0).val - 38) 19 (off72_eq i)))) _ _ (code_ok 17 (tile_ok arg12 harg12 arg7 harg7 x12 x7 ((i 0).val - 38) 17 (off70_eq i)) (quad_ok 4 (tile_ok arg12 harg12 arg7 harg7 x12 x7 ((i 0).val - 38) 16 (off69_eq i)) (tile_ok arg12 harg12 arg7 harg7 x12 x7 ((i 0).val - 38) 17 (off70_eq i)) (tile_ok arg12 harg12 arg7 harg7 x12 x7 ((i 0).val - 38) 18 (off71_eq i)) (tile_ok arg12 harg12 arg7 harg7 x12 x7 ((i 0).val - 38) 19 (off72_eq i)))) _ _ (code_ok 18 (tile_ok arg12 harg12 arg7 harg7 x12 x7 ((i 0).val - 38) 18 (off71_eq i)) (quad_ok 4 (tile_ok arg12 harg12 arg7 harg7 x12 x7 ((i 0).val - 38) 16 (off69_eq i)) (tile_ok arg12 harg12 arg7 harg7 x12 x7 ((i 0).val - 38) 17 (off70_eq i)) (tile_ok arg12 harg12 arg7 harg7 x12 x7 ((i 0).val - 38) 18 (off71_eq i)) (tile_ok arg12 harg12 arg7 harg7 x12 x7 ((i 0).val - 38) 19 (off72_eq i)))) _ _ (code_ok 19 (tile_ok arg12 harg12 arg7 harg7 x12 x7 ((i 0).val - 38) 19 (off72_eq i)) (quad_ok 4 (tile_ok arg12 harg12 arg7 harg7 x12 x7 ((i 0).val - 38) 16 (off69_eq i)) (tile_ok arg12 harg12 arg7 harg7 x12 x7 ((i 0).val - 38) 17 (off70_eq i)) (tile_ok arg12 harg12 arg7 harg7 x12 x7 ((i 0).val - 38) 18 (off71_eq i)) (tile_ok arg12 harg12 arg7 harg7 x12 x7 ((i 0).val - 38) 19 (off72_eq i)))) _ _ (code_ok 20 (tile_ok arg12 harg12 arg7 harg7 x12 x7 ((i 0).val - 38) 20 (off73_eq i)) (quad_ok 5 (tile_ok arg12 harg12 arg7 harg7 x12 x7 ((i 0).val - 38) 20 (off73_eq i)) (tile_ok arg12 harg12 arg7 harg7 x12 x7 ((i 0).val - 38) 21 (off74_eq i)) (tile_ok arg12 harg12 arg7 harg7 x12 x7 ((i 0).val - 38) 22 (off75_eq i)) (tile_ok arg12 harg12 arg7 harg7 x12 x7 ((i 0).val - 38) 23 (off76_eq i)))) _ _ (code_ok 21 (tile_ok arg12 harg12 arg7 harg7 x12 x7 ((i 0).val - 38) 21 (off74_eq i)) (quad_ok 5 (tile_ok arg12 harg12 arg7 harg7 x12 x7 ((i 0).val - 38) 20 (off73_eq i)) (tile_ok arg12 harg12 arg7 harg7 x12 x7 ((i 0).val - 38) 21 (off74_eq i)) (tile_ok arg12 harg12 arg7 harg7 x12 x7 ((i 0).val - 38) 22 (off75_eq i)) (tile_ok arg12 harg12 arg7 harg7 x12 x7 ((i 0).val - 38) 23 (off76_eq i)))) _ _ (code_ok 22 (tile_ok arg12 harg12 arg7 harg7 x12 x7 ((i 0).val - 38) 22 (off75_eq i)) (quad_ok 5 (tile_ok arg12 harg12 arg7 harg7 x12 x7 ((i 0).val - 38) 20 (off73_eq i)) (tile_ok arg12 harg12 arg7 harg7 x12 x7 ((i 0).val - 38) 21 (off74_eq i)) (tile_ok arg12 harg12 arg7 harg7 x12 x7 ((i 0).val - 38) 22 (off75_eq i)) (tile_ok arg12 harg12 arg7 harg7 x12 x7 ((i 0).val - 38) 23 (off76_eq i)))) _ _ (code_ok 23 (tile_ok arg12 harg12 arg7 harg7 x12 x7 ((i 0).val - 38) 23 (off76_eq i)) (quad_ok 5 (tile_ok arg12 harg12 arg7 harg7 x12 x7 ((i 0).val - 38) 20 (off73_eq i)) (tile_ok arg12 harg12 arg7 harg7 x12 x7 ((i 0).val - 38) 21 (off74_eq i)) (tile_ok arg12 harg12 arg7 harg7 x12 x7 ((i 0).val - 38) 22 (off75_eq i)) (tile_ok arg12 harg12 arg7 harg7 x12 x7 ((i 0).val - 38) 23 (off76_eq i)))) _ _ (code_ok 24 (tile_ok arg12 harg12 arg7 harg7 x12 x7 ((i 0).val - 38) 24 (off77_eq i)) (quad_ok 6 (tile_ok arg12 harg12 arg7 harg7 x12 x7 ((i 0).val - 38) 24 (off77_eq i)) (tile_ok arg12 harg12 arg7 harg7 x12 x7 ((i 0).val - 38) 25 (off78_eq i)) (tile_ok arg12 harg12 arg7 harg7 x12 x7 ((i 0).val - 38) 26 (off79_eq i)) (tile_ok arg12 harg12 arg7 harg7 x12 x7 ((i 0).val - 38) 27 (off80_eq i)))) _ _ (code_ok 25 (tile_ok arg12 harg12 arg7 harg7 x12 x7 ((i 0).val - 38) 25 (off78_eq i)) (quad_ok 6 (tile_ok arg12 harg12 arg7 harg7 x12 x7 ((i 0).val - 38) 24 (off77_eq i)) (tile_ok arg12 harg12 arg7 harg7 x12 x7 ((i 0).val - 38) 25 (off78_eq i)) (tile_ok arg12 harg12 arg7 harg7 x12 x7 ((i 0).val - 38) 26 (off79_eq i)) (tile_ok arg12 harg12 arg7 harg7 x12 x7 ((i 0).val - 38) 27 (off80_eq i)))) _ _ (code_ok 26 (tile_ok arg12 harg12 arg7 harg7 x12 x7 ((i 0).val - 38) 26 (off79_eq i)) (quad_ok 6 (tile_ok arg12 harg12 arg7 harg7 x12 x7 ((i 0).val - 38) 24 (off77_eq i)) (tile_ok arg12 harg12 arg7 harg7 x12 x7 ((i 0).val - 38) 25 (off78_eq i)) (tile_ok arg12 harg12 arg7 harg7 x12 x7 ((i 0).val - 38) 26 (off79_eq i)) (tile_ok arg12 harg12 arg7 harg7 x12 x7 ((i 0).val - 38) 27 (off80_eq i)))) _ _ (code_ok 27 (tile_ok arg12 harg12 arg7 harg7 x12 x7 ((i 0).val - 38) 27 (off80_eq i)) (quad_ok 6 (tile_ok arg12 harg12 arg7 harg7 x12 x7 ((i 0).val - 38) 24 (off77_eq i)) (tile_ok arg12 harg12 arg7 harg7 x12 x7 ((i 0).val - 38) 25 (off78_eq i)) (tile_ok arg12 harg12 arg7 harg7 x12 x7 ((i 0).val - 38) 26 (off79_eq i)) (tile_ok arg12 harg12 arg7 harg7 x12 x7 ((i 0).val - 38) 27 (off80_eq i))))
  isplitl [H11]
  · iexists _; isplitr; swap; · iexact H11
    ipureintro; exact read_whole _ _ zero2 _ _ _ (scale_ok (quad_ok 0 (tile_ok arg12 harg12 arg7 harg7 x12 x7 ((i 0).val - 38) 0 (off53_eq i)) (tile_ok arg12 harg12 arg7 harg7 x12 x7 ((i 0).val - 38) 1 (off54_eq i)) (tile_ok arg12 harg12 arg7 harg7 x12 x7 ((i 0).val - 38) 2 (off55_eq i)) (tile_ok arg12 harg12 arg7 harg7 x12 x7 ((i 0).val - 38) 3 (off56_eq i))) (quad_ok 1 (tile_ok arg12 harg12 arg7 harg7 x12 x7 ((i 0).val - 38) 4 (off57_eq i)) (tile_ok arg12 harg12 arg7 harg7 x12 x7 ((i 0).val - 38) 5 (off58_eq i)) (tile_ok arg12 harg12 arg7 harg7 x12 x7 ((i 0).val - 38) 6 (off59_eq i)) (tile_ok arg12 harg12 arg7 harg7 x12 x7 ((i 0).val - 38) 7 (off60_eq i))) (quad_ok 2 (tile_ok arg12 harg12 arg7 harg7 x12 x7 ((i 0).val - 38) 8 (off61_eq i)) (tile_ok arg12 harg12 arg7 harg7 x12 x7 ((i 0).val - 38) 9 (off62_eq i)) (tile_ok arg12 harg12 arg7 harg7 x12 x7 ((i 0).val - 38) 10 (off63_eq i)) (tile_ok arg12 harg12 arg7 harg7 x12 x7 ((i 0).val - 38) 11 (off64_eq i))) (quad_ok 3 (tile_ok arg12 harg12 arg7 harg7 x12 x7 ((i 0).val - 38) 12 (off65_eq i)) (tile_ok arg12 harg12 arg7 harg7 x12 x7 ((i 0).val - 38) 13 (off66_eq i)) (tile_ok arg12 harg12 arg7 harg7 x12 x7 ((i 0).val - 38) 14 (off67_eq i)) (tile_ok arg12 harg12 arg7 harg7 x12 x7 ((i 0).val - 38) 15 (off68_eq i))) (quad_ok 4 (tile_ok arg12 harg12 arg7 harg7 x12 x7 ((i 0).val - 38) 16 (off69_eq i)) (tile_ok arg12 harg12 arg7 harg7 x12 x7 ((i 0).val - 38) 17 (off70_eq i)) (tile_ok arg12 harg12 arg7 harg7 x12 x7 ((i 0).val - 38) 18 (off71_eq i)) (tile_ok arg12 harg12 arg7 harg7 x12 x7 ((i 0).val - 38) 19 (off72_eq i))) (quad_ok 5 (tile_ok arg12 harg12 arg7 harg7 x12 x7 ((i 0).val - 38) 20 (off73_eq i)) (tile_ok arg12 harg12 arg7 harg7 x12 x7 ((i 0).val - 38) 21 (off74_eq i)) (tile_ok arg12 harg12 arg7 harg7 x12 x7 ((i 0).val - 38) 22 (off75_eq i)) (tile_ok arg12 harg12 arg7 harg7 x12 x7 ((i 0).val - 38) 23 (off76_eq i))) (quad_ok 6 (tile_ok arg12 harg12 arg7 harg7 x12 x7 ((i 0).val - 38) 24 (off77_eq i)) (tile_ok arg12 harg12 arg7 harg7 x12 x7 ((i 0).val - 38) 25 (off78_eq i)) (tile_ok arg12 harg12 arg7 harg7 x12 x7 ((i 0).val - 38) 26 (off79_eq i)) (tile_ok arg12 harg12 arg7 harg7 x12 x7 ((i 0).val - 38) 27 (off80_eq i))))
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact (read_put _ _ x2 _ _ (put_ok arg2 harg2 x2 _)).trans (congrArg (putBlk x2) (harg14.read_unread _))
  iexists _; isplitr; swap; · iexact H15
  ipureintro; exact harg15.read_unread _

end Cert.KernelIdeal.Gen

end
-- ==== Proof.IdealBlocks.lean ====
module

public import proofs.«01_k».proof.Proof.IdealRunsFirst
public import proofs.«01_k».proof.Proof.IdealRunsSecond
public import Idealize.ShloMosaic.Lib.Pipeline.ValueKit

@[expose] public section

/-! What `KernelIdeal` leaves in each buffer at each point of its grid, as a function of the arrays. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staged blocks at their places in the arrays -/

/-- The block indices of the windows at a point. -/
theorem idx_at : ∀ t : Fin cfg0.N, win0_0.index t = ![0, min t.val 36] ∧ win0_1.index t = ![0, min (t.val - 37) 73] ∧ win0_2.index t = ![0, min (t.val - 1) 27]
    ∧ win0_3.index t = ![0, 0, min (t.val - 1) 27] ∧ win0_4.index t = ![0, min (t.val - 1) 36] ∧ win0_5.index t = ![0, min (t.val - 1) 36 / 8]
    ∧ win0_6.index t = ![min (t.val - 38) 47, 0] ∧ win0_7.index t = ![min (t.val - 38) 47, 0] ∧ win0_8.index t = ![0, t.val - 38]
    ∧ win0_9.index t = ![min (t.val - 38) 47, 0] ∧ win0_10.index t = ![min (t.val - 38) 47, 0] := by decide +kernel

theorem coords_val : ∀ t : Fin cfg0.N, (grid0.coords t 0).val = t.val := by decide +kernel

/-- 512 columns of the row-dequantised `dy`, the `k`-th block (the last one for a larger `k`). -/
def dyrBlk (c : Dev nD) (k : ℕ) : Vec F S1536x512 .bf16 := fun y =>
  (V m c main_arg0 : Vec F S1536x18944 .bf16) (ix2 (y 0) ⟨512 * min k 36 + (y 1).val, by have : (y 1).val < 512 := (y 1).isLt; omega⟩)

/-- 256 columns of the column-dequantised `dy`, the `k`-th block (the last one for a larger `k`). -/
def dyBlk (c : Dev nD) (k : ℕ) : Vec F S1536x256 .bf16 := fun y =>
  (V m c main_arg1 : Vec F S1536x18944 .bf16) (ix2 (y 0) ⟨256 * min k 73 + (y 1).val, by have : (y 1).val < 256 := (y 1).isLt; omega⟩)

/-- The dequantised 512 columns of `w`, the `k`-th block (the last one for a larger `k`): each code times the power of two of its group of 32 columns. -/
def wBlk (c : Dev nD) (k : ℕ) : Vec F S3584x512 .bf16 := fun y =>
  FloatOps.mulf (FloatOps.extf .bf16 bitsLt_fp8e4m3_bf16 ((V m c main_arg4 : Vec F S3584x18944 .fp8e4m3) (ix2 (y 0) ⟨512 * min k 36 + (y 1).val, by have : (y 1).val < 512 := (y 1).isLt; omega⟩)))
    (scl ((V m c main_arg5 : Vec F S3584x592 .i8) (ix2 (y 0) ⟨16 * min k 36 + (y 1).val / 32, by have : (y 1).val < 512 := (y 1).isLt; omega⟩)))

/-- 32 rows of the activation, the `k`-th block (the last one for a larger `k`). -/
def hBlk (c : Dev nD) (k : ℕ) : Vec F S32x3584 .bf16 := fun y =>
  (V m c main_arg6 : Vec F S1536x3584 .bf16) (ix2 ⟨32 * min k 47 + (y 0).val, by have : (y 0).val < 32 := (y 0).isLt; omega⟩ (y 1))

/-- The transposed dequantised `x`. -/
def xT (c : Dev nD) : Vec F S3584x1536 .bf16 := fun y =>
  FloatOps.mulf (FloatOps.extf .bf16 bitsLt_fp8e4m3_bf16 ((V m c main_v0 : Vec F S1536x3584 .fp8e4m3) (ix2 (y 1) (y 0))))
    (scl ((V m c main_arg3 : Vec F S4x12x3584 .i8) (ix3 ⟨(y 1).val / 384, by have : (y 1).val < 1536 := (y 1).isLt; omega⟩
      ⟨(y 1).val % 384 / 32, by have : (y 1).val < 1536 := (y 1).isLt; omega⟩ (y 0))))

theorem blk0 (c : Dev nD) (t : Fin cfg0.N) : (iblk m c 0 t : Vec F S1536x512 .bf16) = dyrBlk m c t.val := by
  funext y
  unfold dyrBlk
  blk_ext [iblk, (idx_at t).1]

theorem blk1 (c : Dev nD) (t : Fin cfg0.N) : (iblk m c 1 t : Vec F S1536x256 .bf16) = dyBlk m c (t.val - 37) := by
  funext y
  unfold dyBlk
  blk_ext [iblk, (idx_at t).2.1]

theorem blk6 (c : Dev nD) (t : Fin cfg0.N) : (iblk m c 6 t : Vec F S32x3584 .bf16) = hBlk m c (t.val - 38) := by
  funext y
  unfold hBlk
  blk_ext [iblk, (idx_at t).2.2.2.2.2.2.1]

theorem blk2 (c : Dev nD) (t : Fin cfg0.N) (y : S1536x128.Idx) (p : Fin 1536) (q : Fin 3584) (hp : p.val = (y 0).val) (hq : q.val = 128 * min (t.val - 1) 27 + (y 1).val) :
    (iblk m c 2 t : Vec F S1536x128 .fp8e4m3) y = (V m c main_v0 : Vec F S1536x3584 .fp8e4m3) (ix2 p q) := by
  blk_ext [iblk, (idx_at t).2.2.1]

theorem blk3 (c : Dev nD) (t : Fin cfg0.N) (y : S4x12x128.Idx) (a : Fin 4) (b : Fin 12) (q : Fin 3584) (ha : a.val = (y 0).val) (hb : b.val = (y 1).val) (hq : q.val = 128 * min (t.val - 1) 27 + (y 2).val) :
    (iblk m c 3 t : Vec F S4x12x128 .i8) y = (V m c main_arg3 : Vec F S4x12x3584 .i8) (ix3 a b q) := by
  blk_ext [iblk, (idx_at t).2.2.2.1]

theorem cell_at (c : Dev nD) (t : Fin cfg0.N) (p : Fin 1536) (r : Fin 128) (q : Fin 3584) (hq : q.val = 128 * min (t.val - 1) 27 + r.val) :
    cell (iblk m c 2 t : Vec F S1536x128 .fp8e4m3) (iblk m c 3 t : Vec F S4x12x128 .i8) p r = xT m c (ix2 q p) :=
  congrArg₂ (fun a b => FloatOps.mulf (FloatOps.extf .bf16 bitsLt_fp8e4m3_bf16 a) (scl b))
    (blk2 m c t (ix2 p r) p q rfl hq) (blk3 m c t (ix3 _ _ r) _ _ q rfl rfl hq)

/-- How much of a staged block of scale codes lies in the array: all of it, or the 80 columns that are left. -/
theorem size5 : ∀ t : Fin cfg0.N, win0_5.xsize (grid0.coords t) 0 = 3584 ∧ win0_5.xsize (grid0.coords t) 1 = min 128 (592 - 128 * (min (t.val - 1) 36 / 8)) := by decide +kernel

/-- A staged scale code inside the array, whatever the buffer holds past the array's end. -/
theorem blk5 (c : Dev nD) (t : Fin cfg0.N) (d : Vec F S3584x128 .i8) (p : Fin 3584) (q : Fin 128) (hq : 128 * (min (t.val - 1) 36 / 8) + q.val < 592) :
    (win0_5.fill (grid0.coords t) d (iblk m c 5 t) : Vec F S3584x128 .i8) (ix2 p q)
      = (V m c main_arg5 : Vec F S3584x592 .i8) (ix2 p ⟨128 * (min (t.val - 1) 36 / 8) + q.val, hq⟩) := by
  have hm : win0_5.moved (grid0.coords t) (ix2 p q : S3584x128.Idx) = true := (win0_5.moved_iff _ _).mpr fun a => match a with
    | ⟨0, _⟩ => by rw [show win0_5.xsize (grid0.coords t) ⟨0, by decide⟩ = 3584 from (size5 t).1]; exact p.isLt
    | ⟨1, _⟩ => by
      rw [show win0_5.xsize (grid0.coords t) ⟨1, by decide⟩ = _ from (size5 t).2]
      show q.val < _
      have := q.isLt; omega
  have hi := (idx_at t).2.2.2.2.2.1
  unfold Window.fill
  refine (dif_pos hm).trans ?_
  refine congrArg (V m c main_arg5 : Vec F S3584x592 .i8) (funext fun a => Fin.ext ?_)
  match a with
  | ⟨0, _⟩ =>
    show win0_5.index t 0 * 3584 + 1 * p.val = p.val
    rw [hi]; show 0 * 3584 + 1 * p.val = p.val; omega
  | ⟨1, _⟩ =>
    show win0_5.index t 1 * 128 + 1 * q.val = 128 * (min (t.val - 1) 36 / 8) + q.val
    rw [hi]; show (min (t.val - 1) 36 / 8) * 128 + 1 * q.val = _; omega

/-- The first group of a point of the first phase. -/
theorem first_at : ∀ t : Fin cfg0.N, 1 ≤ t.val → t.val < 38 → (firstOf (BitVec.ofNat 32 (grid0.coords t 0).val)).val = (t.val - 1) % 8 := by decide +kernel

theorem codes4 (c : Dev nD) (t : Fin cfg0.N) (p : Fin 3584) (q : Fin 512) : (iblk m c 4 t : Vec F S3584x512 .fp8e4m3) (ix2 p q)
    = (V m c main_arg4 : Vec F S3584x18944 .fp8e4m3) (ix2 p ⟨512 * min (t.val - 1) 36 + q.val, by omega⟩) := by
  blk_ext [iblk, (idx_at t).2.2.2.2.1]

/-- The staged codes and scale codes of `w` give its dequantised block, whatever the buffer of scale codes holds past the array's end. -/
theorem blk4 (c : Dev nD) (t : Fin cfg0.N) (h1 : 1 ≤ t.val) (h2 : t.val < 38) (d : Vec F S3584x128 .i8) :
    wDeq (BitVec.ofNat 32 (grid0.coords t 0).val) (iblk m c 4 t : Vec F S3584x512 .fp8e4m3) (win0_5.fill (grid0.coords t) d (iblk m c 5 t) : Vec F S3584x128 .i8)
      = wBlk m c (t.val - 1) := by
  have hf := first_at t h1 h2
  funext y
  obtain ⟨p, q, rfl⟩ : ∃ (p : Fin 3584) (q : Fin 512), y = ix2 p q := ⟨y 0, y 1, eq_ix2 y⟩
  have hq := q.isLt
  unfold wDeq wBlk
  refine congrArg₂ _ (congrArg _ (codes4 m c t p q)) (congrArg scl ?_)
  refine (blk5 m c t d p _ ?_).trans (congrArg (V m c main_arg5 : Vec F S3584x592 .i8) (congrArg (ix2 p) (Fin.ext ?_)))
  · show 128 * (min (t.val - 1) 36 / 8) + (16 * (firstOf (BitVec.ofNat 32 (grid0.coords t 0).val)).val + q.val / 32) < 592
    omega
  · show 128 * (min (t.val - 1) 36 / 8) + (16 * (firstOf (BitVec.ofNat 32 (grid0.coords t 0).val)).val + q.val / 32) = 16 * min (t.val - 1) 36 + q.val / 32
    omega

/-! ## What the buffers hold before each point -/

/-- The sum of the first product over the first `k` blocks. -/
def gSum (c : Dev nD) : ℕ → Vec F S1536x3584 .f32
  | 0 => k0_pay2092
  | k + 1 => gStep (gSum c k) (dyrBlk m c k) (wBlk m c k)

/-- Before point `n`: the columns of `x` staged so far are in the transposed copy, the sum runs over the blocks met so far,
    and the double buffer to be read holds the block staged at the point before: of the row-dequantised `dy` in the first
    phase, of the column-dequantised `dy` in the second. -/
structure Inv (c : Dev nD) (n : ℕ) (x9 : Vec F S1536x3584 .f32) (x10 : Vec F S3584x1536 .bf16) (x11 x12 : Vec F S1536x512 .bf16) : Prop where
  xt : ∀ y : S3584x1536.Idx, (y 0).val / 128 + 1 < n → x10 y = xT m c y
  sum : 1 ≤ n → x9 = gSum m c (min (n - 1) 37)
  row1 : 1 ≤ n → n ≤ 37 → n % 2 = 1 → x11 = dyrBlk m c (n - 1)
  row0 : 1 ≤ n → n ≤ 37 → n % 2 = 0 → x12 = dyrBlk m c (n - 1)
  col0 : 38 ≤ n → n % 2 = 0 → cols256 x11 = dyBlk m c (n - 38)
  col1 : 38 ≤ n → n % 2 = 1 → cols256 x12 = dyBlk m c (n - 38)

theorem cols_put (x0 : Vec F S1536x256 .bf16) (x5 : Vec F S1536x512 .bf16) : cols256 (putBlk x0 x5) = x0 := by
  funext y
  have h : (y 1).val < 256 := (y 1).isLt
  unfold cols256 putBlk
  show (if h : (y 1).val < 256 then x0 (ix2 (y 0) ⟨(y 1).val, h⟩) else _) = _
  rw [dif_pos h]
  exact congrArg x0 (funext fun a => match a with | ⟨0, _⟩ => rfl | ⟨1, _⟩ => rfl)

theorem inv_zero (c : Dev nD) (x9 : Vec F S1536x3584 .f32) (x10 : Vec F S3584x1536 .bf16) (x11 x12 : Vec F S1536x512 .bf16) : Inv m c 0 x9 x10 x11 x12 where
  xt _ h := absurd h (by omega)
  sum h := absurd h (by omega)
  row1 h := absurd h (by omega)
  row0 h := absurd h (by omega)
  col0 h := absurd h (by omega)
  col1 h := absurd h (by omega)

/-- A point of the first phase adds its columns of `x`. -/
theorem fill_step (c : Dev nD) (t : Fin cfg0.N) (h1 : 1 ≤ t.val) (x4 : Vec F S3584x1536 .bf16)
    (h : ∀ y : S3584x1536.Idx, (y 0).val / 128 + 1 < t.val → x4 y = xT m c y) (y : S3584x1536.Idx) (hy : (y 0).val / 128 + 1 < t.val + 1) :
    fillXt (min ((grid0.coords t 0).val - 1) 27) (iblk m c 2 t : Vec F S1536x128 .fp8e4m3) (iblk m c 3 t : Vec F S4x12x128 .i8) x4 y = xT m c y := by
  have hc : (grid0.coords t 0).val = t.val := coords_val t
  have h0 : (y 0).val < 3584 := (y 0).isLt
  unfold fillXt
  rw [hc]
  by_cases hb : (y 0).val / 128 = min (t.val - 1) 27
  · rw [if_pos hb]
    refine (cell_at m c t (y 1) ⟨(y 0).val % 128, _⟩ (y 0) (by show (y 0).val = _ + (y 0).val % 128; omega)).trans ?_
    exact congrArg (xT m c) (funext fun a => match a with | ⟨0, _⟩ => rfl | ⟨1, _⟩ => rfl)
  · rw [if_neg hb]
    exact h y (by omega)

/-- and its block to the sum. -/
theorem sum_step (c : Dev nD) (t : Fin cfg0.N) (h1 : 1 ≤ t.val) (h2 : t.val < 38) (d : Vec F S3584x128 .i8) (x9 : Vec F S1536x3584 .f32) (x11 : Vec F S1536x512 .bf16)
    (h9 : x9 = gSum m c (min (t.val - 1) 37)) (h11 : x11 = dyrBlk m c (t.val - 1)) :
    gStep x9 x11 (wDeq (BitVec.ofNat 32 (grid0.coords t 0).val) (iblk m c 4 t : Vec F S3584x512 .fp8e4m3) (win0_5.fill (grid0.coords t) d (iblk m c 5 t) : Vec F S3584x128 .i8))
      = gSum m c (min (t.val + 1 - 1) 37) := by
  subst h9 h11
  rw [blk4 m c t h1 h2 d]
  obtain ⟨k, hk⟩ : ∃ k, t.val = k + 1 := ⟨t.val - 1, by omega⟩
  rw [hk, show min (k + 1 - 1) 37 = k by omega, show min (k + 1 + 1 - 1) 37 = k + 1 by omega, show k + 1 - 1 = k by omega]
  rfl

/-- In the second phase the transposed copy is whole, -/
theorem inv_xT (c : Dev nD) (n : ℕ) (hn : 38 ≤ n) (x9 : Vec F S1536x3584 .f32) (x10 : Vec F S3584x1536 .bf16) (x11 x12 : Vec F S1536x512 .bf16) (h : Inv m c n x9 x10 x11 x12) : x10 = xT m c :=
  funext fun y => h.xt y (by have : (y 0).val < 3584 := (y 0).isLt; omega)

/-- and so is the sum. -/
theorem inv_sum (c : Dev nD) (n : ℕ) (hn : 38 ≤ n) (x9 : Vec F S1536x3584 .f32) (x10 : Vec F S3584x1536 .bf16) (x11 x12 : Vec F S1536x512 .bf16) (h : Inv m c n x9 x10 x11 x12) : x9 = gSum m c 37 := by
  rw [h.sum (by omega), show min (n - 1) 37 = 37 by omega]

/-- The block of the first output: the backward GELU of 32 rows of the whole sum. -/
def dhBlk (c : Dev nD) (k : ℕ) : Vec F S32x3584 .bf16 := dhB k (gSum m c 37) (hBlk m c k)

theorem dhB_eq (c : Dev nD) (t : Fin cfg0.N) (x9 : Vec F S1536x3584 .f32) (h9 : x9 = gSum m c 37) :
    dhB ((grid0.coords t 0).val - 38) x9 (iblk m c 6 t : Vec F S32x3584 .bf16) = dhBlk m c (t.val - 38) := by
  subst h9; rw [coords_val, blk6]; rfl

/-- The block of codes and the block of scale codes of the first output, from 32 rows of the whole sum. -/
def codesBlk (c : Dev nD) (k : ℕ) : Vec F S32x3584 .fp8e4m3 := codesB k (gSum m c 37) (hBlk m c k)
def scalesBlk (c : Dev nD) (k : ℕ) : Vec F S32x112 .i8 := scalesB k (gSum m c 37) (hBlk m c k)

theorem codesB_eq (c : Dev nD) (t : Fin cfg0.N) (x9 : Vec F S1536x3584 .f32) (h9 : x9 = gSum m c 37) :
    codesB ((grid0.coords t 0).val - 38) x9 (iblk m c 6 t : Vec F S32x3584 .bf16) = codesBlk m c (t.val - 38) := by
  subst h9; rw [coords_val, blk6]; rfl
theorem scalesB_eq (c : Dev nD) (t : Fin cfg0.N) (x9 : Vec F S1536x3584 .f32) (h9 : x9 = gSum m c 37) :
    scalesB ((grid0.coords t 0).val - 38) x9 (iblk m c 6 t : Vec F S32x3584 .bf16) = scalesBlk m c (t.val - 38) := by
  subst h9; rw [coords_val, blk6]; rfl

/-- The seven products of a block of `dy`, one below the other. -/
def dwBlk (c : Dev nD) (k : ℕ) : Vec F S3584x256 .f32 := fun y =>
  k0_pay2085 (rows512 ⟨(y 0).val / 512, by have : (y 0).val < 3584 := (y 0).isLt; omega⟩ (xT m c)) (dyBlk m c k)
    (ix2 ⟨(y 0).val % 512, Nat.mod_lt _ (by decide)⟩ (y 1))

theorem prod_eq (c : Dev nD) (k : ℕ) (x4 : Vec F S3584x1536 .bf16) (x5 : Vec F S1536x512 .bf16) (h4 : x4 = xT m c) (h5 : cols256 x5 = dyBlk m c k) :
    prod x4 x5 = dwBlk m c k := by
  subst h4; unfold prod dwBlk; rw [h5]

end Cert.KernelIdeal.Gen

end
-- ==== Proof.IdealFrame.lean ====
module

public import proofs.«01_k».proof.Proof.IdealBlocks

@[expose] public section

/-! The run of `KernelIdeal` with the contents of its outputs named, and its frame. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the region keeps before point `n`: the scratch buffers as `Inv` describes them and the generator register. -/
def PhiS (c : Dev nD) (n : ℕ) : sProp 𝕄 :=
  iprop(∃ x12, ∃ x13, ∃ x14, ∃ x15, ⌜Inv m c n x12 x13 x14 x15⌝ ∗ owns (c : Thread nD τ) sc0 fullShare x12 ∗ owns (c : Thread nD τ) sc1 fullShare x13 ∗ owns (c : Thread nD τ) sc2 fullShare x14 ∗ owns (c : Thread nD τ) sc3 fullShare x15 ∗ (∃ r, prngReg c r))

/-- The arrays as the region finds them; each input block left in place; the outputs' blocks at a point of the second phase. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => win0_5.fill (grid0.coords t) (fun _ => 0#8) (iblk m c 5 t)
    | ⟨6, _⟩ => iblk m c 6 t
    | ⟨7, _⟩ => dhBlk m c (t.val - 38)
    | ⟨8, _⟩ => dwBlk m c (t.val - 38)
    | ⟨9, _⟩ => codesBlk m c (t.val - 38)
    | ⟨10, _⟩ => scalesBlk m c (t.val - 38)
  Φ t := PhiS m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = win0_5.fill (grid0.coords t) (fun _ => 0#8) (iblk m c 5 t) := by dsimp only [dats]
theorem after_6 (c : Dev nD) (t : Fin cfg0.N) : (dats m 0 c).after 6 t = iblk m c 6 t := by dsimp only [dats]
theorem after_7 (c : Dev nD) (t : Fin cfg0.N) : (dats m 0 c).after 7 t = dhBlk m c (t.val - 38) := by dsimp only [dats]
theorem after_8 (c : Dev nD) (t : Fin cfg0.N) : (dats m 0 c).after 8 t = dwBlk m c (t.val - 38) := by dsimp only [dats]
theorem after_9 (c : Dev nD) (t : Fin cfg0.N) : (dats m 0 c).after 9 t = codesBlk m c (t.val - 38) := by dsimp only [dats]
theorem after_10 (c : Dev nD) (t : Fin cfg0.N) : (dats m 0 c).after 10 t = scalesBlk m c (t.val - 38) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_6 (c : Dev nD) (t : Fin cfg0.N) (d) : (dats m 0 c).before 6 t d = iblk m c 6 t :=
  before0_6_of m (dats m 0 c) (A_eq m c 6) (after_6 m c) t d
/-- the sixth input's only where its block lies in the array. -/
theorem before_5 (c : Dev nD) (t : Fin cfg0.N) (d) : (dats m 0 c).before 5 t d = win0_5.fill (grid0.coords t) d (iblk m c 5 t) :=
  ((dats m 0 c).before_in_eq_fetched 5 rfl (fun _ => rfl)
    (fun t t' h => by
      show (fun a => Pipeline.Clip.of (cc0_transform_5 (grid0.coords t) a) (S3584x128.size a) (S3584x592.size a)) = fun a => Pipeline.Clip.of (cc0_transform_5 (grid0.coords t') a) (S3584x128.size a) (S3584x592.size a)
      rw [show cc0_transform_5 (grid0.coords t) = cc0_transform_5 (grid0.coords t') from h])
    (fun t => by rw [after_5]; refine (win0_5.cut_fill _ _ _).trans ?_; unfold Dat.blockOf iblk; rw [A_eq]; try rfl) t d).trans
    (by unfold Dat.fetched Dat.blockOf iblk; rw [A_eq]; try rfl)

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl

/-! In the second phase each output's block is stored at every point; in the first phase at none, nor is it written back there. -/

theorem live_7 : ∀ t : Fin cfg0.N, 38 ≤ t.val → cfg0.idle 7 (grid0.coords t) = false :=
  (by decide +kernel : ∀ t : Fin grid0.N, 38 ≤ t.val → cfg0.idle 7 (grid0.coords t) = false)
theorem idle_7 : ∀ t : Fin cfg0.N, t.val < 38 → cfg0.idle 7 (grid0.coords t) = true :=
  (by decide +kernel : ∀ t : Fin grid0.N, t.val < 38 → cfg0.idle 7 (grid0.coords t) = true)
theorem noFlush_7 : ∀ t : Fin cfg0.N, t.val < 38 → (cfg0.win 7).flush t = false :=
  (by decide +kernel : ∀ t : Fin cfg0.N, t.val < 38 → (cfg0.win 7).flush t = false)
theorem flush_ge_7 : ∀ t : Fin cfg0.N, (cfg0.win 7).flush t = true → 38 ≤ t.val := fun t h => by
  by_contra hn; rw [noFlush_7 t (by omega)] at h; exact absurd h (by decide)

theorem live_8 : ∀ t : Fin cfg0.N, 38 ≤ t.val → cfg0.idle 8 (grid0.coords t) = false :=
  (by decide +kernel : ∀ t : Fin grid0.N, 38 ≤ t.val → cfg0.idle 8 (grid0.coords t) = false)
theorem idle_8 : ∀ t : Fin cfg0.N, t.val < 38 → cfg0.idle 8 (grid0.coords t) = true :=
  (by decide +kernel : ∀ t : Fin grid0.N, t.val < 38 → cfg0.idle 8 (grid0.coords t) = true)
theorem noFlush_8 : ∀ t : Fin cfg0.N, t.val < 38 → (cfg0.win 8).flush t = false :=
  (by decide +kernel : ∀ t : Fin cfg0.N, t.val < 38 → (cfg0.win 8).flush t = false)
theorem flush_ge_8 : ∀ t : Fin cfg0.N, (cfg0.win 8).flush t = true → 38 ≤ t.val := fun t h => by
  by_contra hn; rw [noFlush_8 t (by omega)] at h; exact absurd h (by decide)

theorem live_9 : ∀ t : Fin cfg0.N, 38 ≤ t.val → cfg0.idle 9 (grid0.coords t) = false :=
  (by decide +kernel : ∀ t : Fin grid0.N, 38 ≤ t.val → cfg0.idle 9 (grid0.coords t) = false)
theorem idle_9 : ∀ t : Fin cfg0.N, t.val < 38 → cfg0.idle 9 (grid0.coords t) = true :=
  (by decide +kernel : ∀ t : Fin grid0.N, t.val < 38 → cfg0.idle 9 (grid0.coords t) = true)
theorem noFlush_9 : ∀ t : Fin cfg0.N, t.val < 38 → (cfg0.win 9).flush t = false :=
  (by decide +kernel : ∀ t : Fin cfg0.N, t.val < 38 → (cfg0.win 9).flush t = false)
theorem flush_ge_9 : ∀ t : Fin cfg0.N, (cfg0.win 9).flush t = true → 38 ≤ t.val := fun t h => by
  by_contra hn; rw [noFlush_9 t (by omega)] at h; exact absurd h (by decide)

theorem live_10 : ∀ t : Fin cfg0.N, 38 ≤ t.val → cfg0.idle 10 (grid0.coords t) = false :=
  (by decide +kernel : ∀ t : Fin grid0.N, 38 ≤ t.val → cfg0.idle 10 (grid0.coords t) = false)
theorem idle_10 : ∀ t : Fin cfg0.N, t.val < 38 → cfg0.idle 10 (grid0.coords t) = true :=
  (by decide +kernel : ∀ t : Fin grid0.N, t.val < 38 → cfg0.idle 10 (grid0.coords t) = true)
theorem noFlush_10 : ∀ t : Fin cfg0.N, t.val < 38 → (cfg0.win 10).flush t = false :=
  (by decide +kernel : ∀ t : Fin cfg0.N, t.val < 38 → (cfg0.win 10).flush t = false)
theorem flush_ge_10 : ∀ t : Fin cfg0.N, (cfg0.win 10).flush t = true → 38 ≤ t.val := fun t h => by
  by_contra hn; rw [noFlush_10 t (by omega)] at h; exact absurd h (by decide)

/-! ## The body obligation -/

/-- What the body is called with at point `t` -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t)

/-- What the body leaves in the buffers at a point, from what it finds there: the scratch as `Inv` describes it before the next
    point, and in the second phase the outputs' blocks. -/
structure Step (c : Dev nD) (t : Fin cfg0.N) (x8 : Vec F S32x3584 .bf16) (x9 : Vec F S3584x256 .f32) (x10 : Vec F S32x3584 .fp8e4m3) (x11 : Vec F S32x112 .i8) (y8 : Vec F S32x3584 .bf16) (y9 : Vec F S3584x256 .f32) (y10 : Vec F S32x3584 .fp8e4m3) (y11 : Vec F S32x112 .i8) (y12 : Vec F S1536x3584 .f32) (y13 : Vec F S3584x1536 .bf16) (y14 y15 : Vec F S1536x512 .bf16) : Prop where
  inv : Inv m c (t.val + 1) y12 y13 y14 y15
  keep8 : t.val < 38 → y8 = x8
  keep9 : t.val < 38 → y9 = x9
  keep10 : t.val < 38 → y10 = x10
  keep11 : t.val < 38 → y11 = x11
  out8 : 38 ≤ t.val → y8 = dhBlk m c (t.val - 38)
  out9 : 38 ≤ t.val → y9 = dwBlk m c (t.val - 38)
  out10 : 38 ≤ t.val → y10 = codesBlk m c (t.val - 38)
  out11 : 38 ≤ t.val → y11 = scalesBlk m c (t.val - 38)

set_option maxHeartbeats 4000000 in
/-- The body at a point of the grid, from buffers that `Inv` describes. -/
theorem run_at (c : Dev nD) (t : Fin cfg0.N) (d5 : Vec F S3584x128 .i8) (x8 : Vec F S32x3584 .bf16) (x9 : Vec F S3584x256 .f32) (x10 : Vec F S32x3584 .fp8e4m3) (x11 : Vec F S32x112 .i8) (x12 : Vec F S1536x3584 .f32) (x13 : Vec F S3584x1536 .bf16) (x14 x15 : Vec F S1536x512 .bf16) (h : Inv m c t.val x12 x13 x14 x15)
    (E : Set ℕ) (K : PUnit → sProp 𝕄) :
    iprop(Own c (ms0 t) (ms1 t) (ms2 t) (ms3 t) (ms4 t) (ms5 t) (ms6 t) (ms7 t) (ms8 t) (ms9 t) (ms10 t) sc0 sc1 sc2 sc3 (iblk m c 0 t) (iblk m c 1 t) (iblk m c 2 t) (iblk m c 3 t) (iblk m c 4 t) (win0_5.fill (grid0.coords t) d5 (iblk m c 5 t)) (iblk m c 6 t) x8 x9 x10 x11 x12 x13 x14 x15
        ∗ (∀ y8 y9 y10 y11 y12 y13 y14 y15, ⌜Step m c t x8 x9 x10 x11 y8 y9 y10 y11 y12 y13 y14 y15⌝ -∗ Own c (ms0 t) (ms1 t) (ms2 t) (ms3 t) (ms4 t) (ms5 t) (ms6 t) (ms7 t) (ms8 t) (ms9 t) (ms10 t) sc0 sc1 sc2 sc3 (iblk m c 0 t) (iblk m c 1 t) (iblk m c 2 t) (iblk m c 3 t) (iblk m c 4 t) (win0_5.fill (grid0.coords t) d5 (iblk m c 5 t)) (iblk m c 6 t) y8 y9 y10 y11 y12 y13 y14 y15 -∗ K ⟨⟩))
      ⊢ wp frame (wpE (defs₀ (F := F)) Variants.none c none) E (bodyAt0 t) K := by
  have hN : t.val < 112 := lt_of_lt_of_eq t.isLt (show cfg0.N = 112 from N_0)
  have n0 (h : ¬(t.val = 0)) : ¬br0 (grid0.coords t) := fun h' => h ((hbr0 t).mp h')
  have n1 (h : ¬(t.val < 38 ∧ t.val % 2 = 1)) : ¬br1 (grid0.coords t) := fun h' => h ((hbr1 t).mp h')
  have n2 (h : ¬((1 ≤ t.val ∧ t.val < 38) ∧ t.val % 2 = 0)) : ¬br2 (grid0.coords t) := fun h' => h ((hbr2 t).mp h')
  have n3 (h : ¬(t.val = 37)) : ¬br3 (grid0.coords t) := fun h' => h ((hbr3 t).mp h')
  have n4 (h : ¬(38 ≤ t.val ∧ t.val % 2 = 0)) : ¬br4 (grid0.coords t) := fun h' => h ((hbr4 t).mp h')
  have n5 (h : ¬(38 ≤ t.val ∧ t.val % 2 = 1)) : ¬br5 (grid0.coords t) := fun h' => h ((hbr5 t).mp h')
  unfold bodyAt0
  by_cases hA : 38 ≤ t.val
  · by_cases hp : t.val % 2 = 0
    · have hs : Step m c t x8 x9 x10 x11 (dhB ((grid0.coords t 0).val - 38) x12 (iblk m c 6 t)) (prod x13 x14) (codesB ((grid0.coords t 0).val - 38) x12 (iblk m c 6 t)) (scalesB ((grid0.coords t 0).val - 38) x12 (iblk m c 6 t)) x12 x13 x14 (putBlk (iblk m c 1 t) x15) := by
        refine ⟨⟨fun y _ => congrFun (inv_xT m c t.val hA x12 x13 x14 x15 h) y, fun _ => by
            rw [inv_sum m c t.val hA x12 x13 x14 x15 h, show min (t.val + 1 - 1) 37 = 37 by omega], fun _ h2 _ => absurd h2 (by omega), fun _ h2 _ => absurd h2 (by omega), fun _ h2 => absurd h2 (by omega), fun _ _ => by rw [cols_put, blk1, show t.val + 1 - 38 = t.val - 37 by omega]⟩, fun h2 => absurd h2 (by omega), fun h2 => absurd h2 (by omega), fun h2 => absurd h2 (by omega), fun h2 => absurd h2 (by omega), fun _ => ?_, fun _ => ?_, fun _ => ?_, fun _ => ?_⟩
        · exact dhB_eq m c t x12 (inv_sum m c t.val hA x12 x13 x14 x15 h)
        · exact prod_eq m c _ x13 x14 (inv_xT m c t.val hA x12 x13 x14 x15 h) (h.col0 hA (by omega))
        · exact codesB_eq m c t x12 (inv_sum m c t.val hA x12 x13 x14 x15 h)
        · exact scalesB_eq m c t x12 (inv_sum m c t.val hA x12 x13 x14 x15 h)
      iintro ⟨H, Hk⟩
      iapply (run_U c _ _ _ _ _ _ _ _ _ _ _ _ _ _ _ _ _ _ _ _ _ _ _ _ _ _ _ _ _ _ _ (n0 (by omega)) (n1 (by omega)) (n2 (by omega)) (n3 (by omega)) ((hbr4 t).mpr ⟨by omega, by omega⟩) (n5 (by omega)) _ _ _ _ _ _ _ _ _ _ _ _ _ _ _ E K)
      isplitl [H]; · iexact H
      iapply Hk; ipureintro; exact hs
    · have hs : Step m c t x8 x9 x10 x11 (dhB ((grid0.coords t 0).val - 38) x12 (iblk m c 6 t)) (prod x13 x15) (codesB ((grid0.coords t 0).val - 38) x12 (iblk m c 6 t)) (scalesB ((grid0.coords t 0).val - 38) x12 (iblk m c 6 t)) x12 x13 (putBlk (iblk m c 1 t) x14) x15 := by
        refine ⟨⟨fun y _ => congrFun (inv_xT m c t.val hA x12 x13 x14 x15 h) y, fun _ => by
            rw [inv_sum m c t.val hA x12 x13 x14 x15 h, show min (t.val + 1 - 1) 37 = 37 by omega], fun _ h2 _ => absurd h2 (by omega), fun _ h2 _ => absurd h2 (by omega), fun _ _ => by rw [cols_put, blk1, show t.val + 1 - 38 = t.val - 37 by omega], fun _ h2 => absurd h2 (by omega)⟩, fun h2 => absurd h2 (by omega), fun h2 => absurd h2 (by omega), fun h2 => absurd h2 (by omega), fun h2 => absurd h2 (by omega), fun _ => ?_, fun _ => ?_, fun _ => ?_, fun _ => ?_⟩
        · exact dhB_eq m c t x12 (inv_sum m c t.val hA x12 x13 x14 x15 h)
        · exact prod_eq m c _ x13 x15 (inv_xT m c t.val hA x12 x13 x14 x15 h) (h.col1 hA (by omega))
        · exact codesB_eq m c t x12 (inv_sum m c t.val hA x12 x13 x14 x15 h)
        · exact scalesB_eq m c t x12 (inv_sum m c t.val hA x12 x13 x14 x15 h)
      iintro ⟨H, Hk⟩
      iapply (run_V c _ _ _ _ _ _ _ _ _ _ _ _ _ _ _ _ _ _ _ _ _ _ _ _ _ _ _ _ _ _ _ (n0 (by omega)) (n1 (by omega)) (n2 (by omega)) (n3 (by omega)) (n4 (by omega)) ((hbr5 t).mpr ⟨by omega, by omega⟩) _ _ _ _ _ _ _ _ _ _ _ _ _ _ _ E K)
      isplitl [H]; · iexact H
      iapply Hk; ipureintro; exact hs
  · by_cases h0 : t.val = 0
    · have hs : Step m c t x8 x9 x10 x11 x8 x9 x10 x11 k0_pay2092 x13 (iblk m c 0 t) x15 :=
        ⟨⟨fun _ h2 => absurd h2 (by omega), fun _ => by
            rw [show min (t.val + 1 - 1) 37 = 0 by omega]; rfl, fun _ _ _ => by
            rw [blk0, show t.val + 1 - 1 = t.val by omega], fun _ _ h2 => absurd h2 (by omega), fun h2 => absurd h2 (by omega), fun h2 => absurd h2 (by omega)⟩, fun _ => rfl, fun _ => rfl, fun _ => rfl, fun _ => rfl, fun h2 => absurd h2 (by omega), fun h2 => absurd h2 (by omega), fun h2 => absurd h2 (by omega), fun h2 => absurd h2 (by omega)⟩
      iintro ⟨H, Hk⟩
      iapply (run_N c _ _ _ _ _ _ _ _ _ _ _ _ _ _ _ _ _ _ _ _ _ _ _ _ _ _ _ _ _ _ _ ((hbr0 t).mpr (by omega)) (n1 (by omega)) (n2 (by omega)) (n3 (by omega)) (n4 (by omega)) (n5 (by omega)) _ _ _ _ _ _ _ _ _ _ _ _ _ _ _ E K)
      isplitl [H]; · iexact H
      iapply Hk; ipureintro; exact hs
    · have hf := fill_step m c t (by omega) x13 h.xt
      have hx9 := h.sum (by omega)
      have hb : (iblk m c 0 t : Vec F S1536x512 .bf16) = dyrBlk m c (t.val + 1 - 1) := by rw [blk0, show t.val + 1 - 1 = t.val by omega]
      by_cases hq : t.val = 37
      · have hs : Step m c t x8 x9 x10 x11 x8 x9 x10 x11 (gStep x12 x14 (wDeq (BitVec.ofNat 32 (grid0.coords t 0).val) (iblk m c 4 t) (win0_5.fill (grid0.coords t) d5 (iblk m c 5 t)))) (fillXt (min ((grid0.coords t 0).val - 1) 27) (iblk m c 2 t) (iblk m c 3 t) x13) (putBlk (iblk m c 1 t) x14) (iblk m c 0 t) :=
          ⟨⟨hf, fun _ => sum_step m c t (by omega) (by omega) d5 x12 x14 hx9 (h.row1 (by omega) (by omega) (by omega)), fun _ h2 _ => absurd h2 (by omega), fun _ h2 _ => absurd h2 (by omega), fun _ _ => by rw [cols_put, blk1, show t.val + 1 - 38 = t.val - 37 by omega], fun _ h2 => absurd h2 (by omega)⟩, fun _ => rfl, fun _ => rfl, fun _ => rfl, fun _ => rfl, fun h2 => absurd h2 (by omega), fun h2 => absurd h2 (by omega), fun h2 => absurd h2 (by omega), fun h2 => absurd h2 (by omega)⟩
        iintro ⟨H, Hk⟩
        iapply (run_Q c _ _ _ _ _ _ _ _ _ _ _ _ _ _ _ _ _ _ _ _ _ _ _ _ _ _ _ _ _ _ _ (n0 (by omega)) ((hbr1 t).mpr ⟨by omega, by omega⟩) (n2 (by omega)) ((hbr3 t).mpr (by omega)) (n4 (by omega)) (n5 (by omega)) _ _ _ _ _ _ _ _ _ _ _ _ _ _ _ E K)
        isplitl [H]; · iexact H
        iapply Hk; ipureintro; exact hs
      · by_cases hp : t.val % 2 = 0
        · have hs : Step m c t x8 x9 x10 x11 x8 x9 x10 x11 (gStep x12 x15 (wDeq (BitVec.ofNat 32 (grid0.coords t 0).val) (iblk m c 4 t) (win0_5.fill (grid0.coords t) d5 (iblk m c 5 t)))) (fillXt (min ((grid0.coords t 0).val - 1) 27) (iblk m c 2 t) (iblk m c 3 t) x13) (iblk m c 0 t) x15 :=
            ⟨⟨hf, fun _ => sum_step m c t (by omega) (by omega) d5 x12 x15 hx9 (h.row0 (by omega) (by omega) hp), fun _ _ _ => hb, fun _ _ h2 => absurd h2 (by omega), fun h2 => absurd h2 (by omega), fun h2 => absurd h2 (by omega)⟩, fun _ => rfl, fun _ => rfl, fun _ => rfl, fun _ => rfl, fun h2 => absurd h2 (by omega), fun h2 => absurd h2 (by omega), fun h2 => absurd h2 (by omega), fun h2 => absurd h2 (by omega)⟩
          iintro ⟨H, Hk⟩
          iapply (run_E c _ _ _ _ _ _ _ _ _ _ _ _ _ _ _ _ _ _ _ _ _ _ _ _ _ _ _ _ _ _ _ (n0 (by omega)) (n1 (by omega)) ((hbr2 t).mpr ⟨⟨by omega, by omega⟩, by omega⟩) (n3 (by omega)) (n4 (by omega)) (n5 (by omega)) _ _ _ _ _ _ _ _ _ _ _ _ _ _ _ E K)
          isplitl [H]; · iexact H
          iapply Hk; ipureintro; exact hs
        · have hs : Step m c t x8 x9 x10 x11 x8 x9 x10 x11 (gStep x12 x14 (wDeq (BitVec.ofNat 32 (grid0.coords t 0).val) (iblk m c 4 t) (win0_5.fill (grid0.coords t) d5 (iblk m c 5 t)))) (fillXt (min ((grid0.coords t 0).val - 1) 27) (iblk m c 2 t) (iblk m c 3 t) x13) x14 (iblk m c 0 t) :=
            ⟨⟨hf, fun _ => sum_step m c t (by omega) (by omega) d5 x12 x14 hx9 (h.row1 (by omega) (by omega) (by omega)), fun _ _ h2 => absurd h2 (by omega), fun _ _ _ => hb, fun h2 => absurd h2 (by omega), fun h2 => absurd h2 (by omega)⟩, fun _ => rfl, fun _ => rfl, fun _ => rfl, fun _ => rfl, fun h2 => absurd h2 (by omega), fun h2 => absurd h2 (by omega), fun h2 => absurd h2 (by omega), fun h2 => absurd h2 (by omega)⟩
          iintro ⟨H, Hk⟩
          iapply (run_O c _ _ _ _ _ _ _ _ _ _ _ _ _ _ _ _ _ _ _ _ _ _ _ _ _ _ _ _ _ _ _ (n0 (by omega)) ((hbr1 t).mpr ⟨by omega, by omega⟩) (n2 (by omega)) (n3 (by omega)) (n4 (by omega)) (n5 (by omega)) _ _ _ _ _ _ _ _ _ _ _ _ _ _ _ E K)
          isplitl [H]; · iexact H
          iapply Hk; ipureintro; exact hs

/-- An output's buffer after the body: its block in the second phase, in the first phase what was found there. -/
theorem leaves_7 (c : Dev nD) (t : Fin cfg0.N) (d) (y : Vec F S32x3584 .bf16) (hlt : t.val < 38 → y = (dats m 0 c).before 7 t d) (hge : 38 ≤ t.val → y = dhBlk m c (t.val - 38)) :
    (owns (c : Thread nD τ) (ms7 t) fullShare y : sProp 𝕄) ⊢ (dats m 0 c).leaves 7 t := by
  refine Idealize.SL.BI.Entails.trans ?_ (Dat.leaves_intro (dats m 0 c) 7 t)
  by_cases hA : 38 ≤ t.val
  · rw [show (dats m 0 c).leavesExact 7 t = owns (c : Thread nD τ) (ms7 t) fullShare ((dats m 0 c).after 7 t) from by
      unfold Dat.leavesExact; rw [live_7 t hA], after_7, hge hA]
    try exact Idealize.SL.BI.Entails.refl _
  · rw [Dat.leavesExact_idle (dats m 0 c) 7 t (idle_7 t (by omega)) (noFlush_7 t (by omega)), hlt (by omega)]
    refine (show BIBase.Entails (PROP := sProp 𝕄) _ _ from ?_)
    iintro H
    iexists _; iexact H

/-- An output's buffer after the body: its block in the second phase, in the first phase what was found there. -/
theorem leaves_8 (c : Dev nD) (t : Fin cfg0.N) (d) (y : Vec F S3584x256 .f32) (hlt : t.val < 38 → y = (dats m 0 c).before 8 t d) (hge : 38 ≤ t.val → y = dwBlk m c (t.val - 38)) :
    (owns (c : Thread nD τ) (ms8 t) fullShare y : sProp 𝕄) ⊢ (dats m 0 c).leaves 8 t := by
  refine Idealize.SL.BI.Entails.trans ?_ (Dat.leaves_intro (dats m 0 c) 8 t)
  by_cases hA : 38 ≤ t.val
  · rw [show (dats m 0 c).leavesExact 8 t = owns (c : Thread nD τ) (ms8 t) fullShare ((dats m 0 c).after 8 t) from by
      unfold Dat.leavesExact; rw [live_8 t hA], after_8, hge hA]
    try exact Idealize.SL.BI.Entails.refl _
  · rw [Dat.leavesExact_idle (dats m 0 c) 8 t (idle_8 t (by omega)) (noFlush_8 t (by omega)), hlt (by omega)]
    refine (show BIBase.Entails (PROP := sProp 𝕄) _ _ from ?_)
    iintro H
    iexists _; iexact H

/-- An output's buffer after the body: its block in the second phase, in the first phase what was found there. -/
theorem leaves_9 (c : Dev nD) (t : Fin cfg0.N) (d) (y : Vec F S32x3584 .fp8e4m3) (hlt : t.val < 38 → y = (dats m 0 c).before 9 t d) (hge : 38 ≤ t.val → y = codesBlk m c (t.val - 38)) :
    (owns (c : Thread nD τ) (ms9 t) fullShare y : sProp 𝕄) ⊢ (dats m 0 c).leaves 9 t := by
  refine Idealize.SL.BI.Entails.trans ?_ (Dat.leaves_intro (dats m 0 c) 9 t)
  by_cases hA : 38 ≤ t.val
  · rw [show (dats m 0 c).leavesExact 9 t = owns (c : Thread nD τ) (ms9 t) fullShare ((dats m 0 c).after 9 t) from by
      unfold Dat.leavesExact; rw [live_9 t hA], after_9, hge hA]
    try exact Idealize.SL.BI.Entails.refl _
  · rw [Dat.leavesExact_idle (dats m 0 c) 9 t (idle_9 t (by omega)) (noFlush_9 t (by omega)), hlt (by omega)]
    refine (show BIBase.Entails (PROP := sProp 𝕄) _ _ from ?_)
    iintro H
    iexists _; iexact H

/-- An output's buffer after the body: its block in the second phase, in the first phase what was found there. -/
theorem leaves_10 (c : Dev nD) (t : Fin cfg0.N) (d) (y : Vec F S32x112 .i8) (hlt : t.val < 38 → y = (dats m 0 c).before 10 t d) (hge : 38 ≤ t.val → y = scalesBlk m c (t.val - 38)) :
    (owns (c : Thread nD τ) (ms10 t) fullShare y : sProp 𝕄) ⊢ (dats m 0 c).leaves 10 t := by
  refine Idealize.SL.BI.Entails.trans ?_ (Dat.leaves_intro (dats m 0 c) 10 t)
  by_cases hA : 38 ≤ t.val
  · rw [show (dats m 0 c).leavesExact 10 t = owns (c : Thread nD τ) (ms10 t) fullShare ((dats m 0 c).after 10 t) from by
      unfold Dat.leavesExact; rw [live_10 t hA], after_10, hge hA]
    try exact Idealize.SL.BI.Entails.refl _
  · rw [Dat.leavesExact_idle (dats m 0 c) 10 t (idle_10 t (by omega)) (noFlush_10 t (by omega)), hlt (by omega)]
    refine (show BIBase.Entails (PROP := sProp 𝕄) _ _ from ?_)
    iintro H
    iexists _; iexact H

set_option maxHeartbeats 4000000 in
/-- The body's triple at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6]
  rw [show (dats m 0 c).Φ t.succ = PhiS m c (t.val + 1) from rfl,
    show (dats m 0 c).owesAt () t.succ = (dats m 0 c).owesAt () t.castSucc from rfl]
  rw [show (dats m 0 c).Φ t.castSucc = PhiS m c t.val from rfl]
  rw [show (dats m 0 c).leaves 0 t = owns (c : Thread nD τ) (ms0 t) fullShare ((dats m 0 c).after 0 t) from by
      unfold Dat.leaves; rw [live_0 t, show cfg0.loose 0 = false from rfl], after_0]
  rw [show (dats m 0 c).leaves 1 t = owns (c : Thread nD τ) (ms1 t) fullShare ((dats m 0 c).after 1 t) from by
      unfold Dat.leaves; rw [live_1 t, show cfg0.loose 1 = false from rfl], after_1]
  rw [show (dats m 0 c).leaves 2 t = owns (c : Thread nD τ) (ms2 t) fullShare ((dats m 0 c).after 2 t) from by
      unfold Dat.leaves; rw [live_2 t, show cfg0.loose 2 = false from rfl], after_2]
  rw [show (dats m 0 c).leaves 3 t = owns (c : Thread nD τ) (ms3 t) fullShare ((dats m 0 c).after 3 t) from by
      unfold Dat.leaves; rw [live_3 t, show cfg0.loose 3 = false from rfl], after_3]
  rw [show (dats m 0 c).leaves 4 t = owns (c : Thread nD τ) (ms4 t) fullShare ((dats m 0 c).after 4 t) from by
      unfold Dat.leaves; rw [live_4 t, show cfg0.loose 4 = false from rfl], after_4]
  rw [show (dats m 0 c).leaves 5 t = iprop(∃ d, owns (c : Thread nD τ) (ms5 t) fullShare (win0_5.fill (grid0.coords t) d (win0_5.cut (grid0.coords t) ((dats m 0 c).after 5 t)))) from by
      unfold Dat.leaves; rw [live_5 t, show cfg0.loose 5 = true from rfl]; rfl, after_5]
  simp only [show win0_5.cut (grid0.coords t) (win0_5.fill (grid0.coords t) (fun _ => 0#8) (iblk m c 5 t)) = iblk m c 5 t from win0_5.cut_fill _ _ _]
  rw [show (dats m 0 c).leaves 6 t = owns (c : Thread nD τ) (ms6 t) fullShare ((dats m 0 c).after 6 t) from by
      unfold Dat.leaves; rw [live_6 t, show cfg0.loose 6 = false from rfl], after_6]
  unfold PhiS
  iintro ⟨⟨%x12, %x13, %x14, %x15, %hI, HS0, HS1, HS2, HS3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_at m c t d5 ((dats m 0 c).before 7 t d7) ((dats m 0 c).before 8 t d8) ((dats m 0 c).before 9 t d9) ((dats m 0 c).before 10 t d10) x12 x13 x14 x15 hI Set.univ _)
  isplitl [H0 H1 H2 H3 H4 H5 H6 H7 H8 H9 H10 HS0 HS1 HS2 HS3]
  · unfold Own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    iexact HS3
  iintro %y8 %y9 %y10 %y11 %y12 %y13 %y14 %y15 %hs
  unfold Own
  iintro ⟨H0, H1, H2, H3, H4, H5, H6, H7, H8, H9, H10, HS0, HS1, HS2, HS3⟩
  isplitl [HS0 HS1 HS2 HS3 Hg]
  · iexists y12; iexists y13; iexists y14; iexists y15
    isplitr; · ipureintro; exact hs.inv
    isplitl [HS0]; · iexact HS0
    isplitl [HS1]; · iexact HS1
    isplitl [HS2]; · iexact HS2
    isplitl [HS3]; · iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexact H6
  isplitl [H7]
  · iapply (leaves_7 m c t d7 y8 hs.keep8 hs.out8)
    iexact H7
  isplitl [H8]
  · iapply (leaves_8 m c t d8 y9 hs.keep9 hs.out9)
    iexact H8
  isplitl [H9]
  · iapply (leaves_9 m c t d9 y10 hs.keep10 hs.out10)
    iexact H9
  iapply (leaves_10 m c t d10 y11 hs.keep11 hs.out11)
  iexact H10

/-- The body table's row at point `t` is the body at that point. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : Pipeline.BodyObligationLoose (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = PhiS m c 0 from rfl, PhiA_scratch]
  unfold PhiS
  iintro ⟨⟨⟨%x12, HS0⟩, ⟨%x13, HS1⟩, ⟨%x14, HS2⟩, ⟨%x15, HS3⟩⟩, Hg⟩
  iexists x12; iexists x13; iexists x14; iexists x15
  isplitr; · ipureintro; exact inv_zero m c _ _ _ _
  isplitl [HS0]; · iexact HS0
  isplitl [HS1]; · iexact HS1
  isplitl [HS2]; · iexact HS2
  isplitl [HS3]; · iexact HS3
  iexact Hg

/-- and after the last point the region gives the same back. -/
theorem hout (c : Dev nD) : (dats m 0 c).Φ (Fin.last cfg0.N) ⊢ Pipeline.ΦA spec0 c := by
  rw [show (dats m 0 c).Φ (Fin.last cfg0.N) = PhiS m c cfg0.N from rfl, PhiA_scratch]
  unfold PhiS
  iintro ⟨%x12, %x13, %x14, %x15, %hI, HS0, HS1, HS2, HS3, Hg⟩
  isplitl [HS0 HS1 HS2 HS3]
  · isplitl [HS0]; · iexists x12; iexact HS0
    isplitl [HS1]; · iexists x13; iexact HS1
    isplitl [HS2]; · iexists x14; iexact HS2
    iexists x15; iexact HS3
  iexact Hg

/-! ## The run and the frame -/

set_option backward.isDefEq.respectTransparency.types false in
/-- The launch runs, every array of the pipeline ends as the proof data say, and every semaphore counter ends at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame of `KernelIdeal`, at any float semantics: it runs, its arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

/-! ## The outputs -/

/-- The second output array: 74 blocks of 256 columns. -/
def dwAll (c : Dev nD) : Vec F S3584x18944 .f32 := fun y =>
  dwBlk m c ((y 1).val / 256) (ix2 (y 0) ⟨(y 1).val % 256, Nat.mod_lt _ (by decide)⟩)

theorem dwAll_at (c : Dev nD) (k : ℕ) (y : S3584x256.Idx) (z : S3584x18944.Idx) (h0 : (z 0).val = (y 0).val) (h1 : (z 1).val = 256 * k + (y 1).val) :
    dwAll m c z = dwBlk m c k y := by
  have hy : (y 1).val < 256 := (y 1).isLt
  unfold dwAll
  rw [show (z 1).val / 256 = k by omega]
  exact congrArg (dwBlk m c k) (funext fun a => match a with
    | ⟨0, _⟩ => Fin.ext h0
    | ⟨1, _⟩ => Fin.ext (by show (z 1).val % 256 = (y 1).val; omega))

/-- The second output array after the run. -/
theorem arr_dw (c : Dev nD) : ((dats m 0 c).arrAt 8 (cfgs 0).N : Vec F S3584x18944 .f32) = dwAll m c := by
  refine (dats m 0 c).arrAt_eq_of_covers 8 _ (by decide +kernel) fun t hf y => ?_
  have ht := flush_ge_8 t hf
  blk_simp
  rw [after_8]
  refine (dwAll_at m c (t.val - 38) y _ ?_ ?_).symm
  · blk_simp [(idx_at t).2.2.2.2.2.2.2.2.1]
  · blk_simp [(idx_at t).2.2.2.2.2.2.2.2.1]
    omega

/-- The first output array: the backward GELU of the whole sum. -/
def dhAll (c : Dev nD) : Vec F S1536x3584 .bf16 := fun y => gelu1 (gSum m c 37 y) ((V m c main_arg6 : Vec F S1536x3584 .bf16) y)

theorem dhAll_at (c : Dev nD) (k : ℕ) (y : S32x3584.Idx) (z : S1536x3584.Idx) (h0 : (z 0).val = 32 * min k 47 + (y 0).val) (h1 : (z 1).val = (y 1).val) :
    dhAll m c z = dhBlk m c k y := by
  have e : z = (ix2 ⟨32 * min k 47 + (y 0).val, by have : (y 0).val < 32 := (y 0).isLt; omega⟩ (y 1) : S1536x3584.Idx) :=
    funext fun a => match a with
      | ⟨0, _⟩ => Fin.ext h0
      | ⟨1, _⟩ => Fin.ext h1
  exact (congrArg (dhAll m c) e).trans rfl

/-- The first output array after the run. -/
theorem arr_dh (c : Dev nD) : ((dats m 0 c).arrAt 7 (cfgs 0).N : Vec F S1536x3584 .bf16) = dhAll m c := by
  refine (dats m 0 c).arrAt_eq_of_covers 7 _ (by decide +kernel) fun t hf y => ?_
  blk_simp
  rw [after_7]
  refine (dhAll_at m c (t.val - 38) y _ ?_ ?_).symm
  · blk_simp [(idx_at t).2.2.2.2.2.2.2.1]
    try omega
  · blk_simp [(idx_at t).2.2.2.2.2.2.2.1]
    try omega

/-- The codes and the scale codes of the first output, block by block. -/
def codesAll (c : Dev nD) : Vec F S1536x3584 .fp8e4m3 := fun y =>
  codesBlk m c ((y 0).val / 32) (ix2 ⟨(y 0).val % 32, Nat.mod_lt _ (by decide)⟩ (y 1))
def scalesAll (c : Dev nD) : Vec F S1536x112 .i8 := fun y =>
  scalesBlk m c ((y 0).val / 32) (ix2 ⟨(y 0).val % 32, Nat.mod_lt _ (by decide)⟩ (y 1))

theorem gtile_min (r : ℕ) (j : Fin 28) (x9 : Vec F S1536x3584 .f32) : gtile (min r 47) j x9 = gtile r j x9 := by
  unfold gtile; simp only [min_assoc, min_self]
theorem hBlk_min (c : Dev nD) (k : ℕ) : hBlk m c (min k 47) = hBlk m c k := by
  unfold hBlk; simp only [min_assoc, min_self]
theorem codesBlk_min (c : Dev nD) (k : ℕ) : codesBlk m c (min k 47) = codesBlk m c k := by
  unfold codesBlk codesB codeAt quadAt tileF; simp only [hBlk_min, gtile_min]
theorem scalesBlk_min (c : Dev nD) (k : ℕ) : scalesBlk m c (min k 47) = scalesBlk m c k := by
  unfold scalesBlk scalesB quadAt tileF; simp only [hBlk_min, gtile_min]

theorem codesAll_at (c : Dev nD) (k : ℕ) (y : S32x3584.Idx) (z : S1536x3584.Idx) (h0 : (z 0).val = 32 * min k 47 + (y 0).val) (h1 : (z 1).val = (y 1).val) :
    codesAll m c z = codesBlk m c k y := by
  have hy : (y 0).val < 32 := (y 0).isLt
  unfold codesAll
  rw [show (z 0).val / 32 = min k 47 by omega, codesBlk_min]
  exact congrArg _ (funext fun a => match a with
    | ⟨0, _⟩ => Fin.ext (by show (z 0).val % 32 = (y 0).val; omega)
    | ⟨1, _⟩ => Fin.ext h1)
theorem scalesAll_at (c : Dev nD) (k : ℕ) (y : S32x112.Idx) (z : S1536x112.Idx) (h0 : (z 0).val = 32 * min k 47 + (y 0).val) (h1 : (z 1).val = (y 1).val) :
    scalesAll m c z = scalesBlk m c k y := by
  have hy : (y 0).val < 32 := (y 0).isLt
  unfold scalesAll
  rw [show (z 0).val / 32 = min k 47 by omega, scalesBlk_min]
  exact congrArg _ (funext fun a => match a with
    | ⟨0, _⟩ => Fin.ext (by show (z 0).val % 32 = (y 0).val; omega)
    | ⟨1, _⟩ => Fin.ext h1)

/-- The array of codes after the run: its blocks are written back at the points of the second phase, and at the last ones the last block again. -/
theorem arr_codes (c : Dev nD) : ((dats m 0 c).arrAt 9 (cfgs 0).N : Vec F S1536x3584 .fp8e4m3) = codesAll m c := by
  refine (dats m 0 c).arrAt_eq_of_covers 9 _ (by decide +kernel) fun t hf y => ?_
  blk_simp
  rw [after_9]
  refine (codesAll_at m c (t.val - 38) y _ ?_ ?_).symm
  · blk_simp [(idx_at t).2.2.2.2.2.2.2.2.2.1]
    try omega
  · blk_simp [(idx_at t).2.2.2.2.2.2.2.2.2.1]
    try omega

/-- The array of scales after the run: its blocks are written back at the points of the second phase, and at the last ones the last block again. -/
theorem arr_scales (c : Dev nD) : ((dats m 0 c).arrAt 10 (cfgs 0).N : Vec F S1536x112 .i8) = scalesAll m c := by
  refine (dats m 0 c).arrAt_eq_of_covers 10 _ (by decide +kernel) fun t hf y => ?_
  blk_simp
  rw [after_10]
  refine (scalesAll_at m c (t.val - 38) y _ ?_ ?_).symm
  · blk_simp [(idx_at t).2.2.2.2.2.2.2.2.2.2]
    try omega
  · blk_simp [(idx_at t).2.2.2.2.2.2.2.2.2.2]
    try omega

/-- The run, the outputs named. -/
theorem run_out : θ_run defs (onTc (τ := τ) (main (F := F))) ⟨m, fun _ => 0, ρ⟩ fun r => ∀ c : Dev nD,
      r.2.mem ((c : Thread nD τ).loc main_v1_0) = dhAll m c ∧ r.2.mem ((c : Thread nD τ).loc main_v1_1) = dwAll m c
      ∧ r.2.mem ((c : Thread nD τ).loc main_v1_2) = codesAll m c ∧ r.2.mem ((c : Thread nD τ).loc main_v1_3) = scalesAll m c :=
  (θ_run defs _ _).mono (fun r h c => ⟨((h c).1 7).trans (arr_dh m c), ((h c).1 8).trans (arr_dw m c), ((h c).1 9).trans (arr_codes m c), ((h c).1 10).trans (arr_scales m c)⟩) (run_main m ρ)

end Cert.KernelIdeal.Gen

end
-- ==== Proof.Value.lean ====
module

public import proofs.«01_k».proof.Proof.IdealFrame
public import proofs.«01_k».proof.Proof.Gen.ReferenceIdeal.Value

@[expose] public section

/-! The outputs of `KernelIdeal` against the values of `ReferenceIdeal`, over the extended reals. -/

set_option maxRecDepth 16384

noncomputable section

namespace Cert.Value

open Cert.KernelIdeal Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen (gAdd scl xT dyrBlk dyBlk wBlk dwBlk dwAll rows512 gSum gStep gcol wrow gelu1 geluF1 dhAll)

/-! ## The scale -/

/-- What the reference makes of a scale code: zero for code 0, infinity for code 255, a power of two for the others. -/
def refScl (s : BitVec 8) : EReal :=
  if s.setWidth 32 = 0#32 then 0 else if s.setWidth 32 = 255#32 then ⊤
  else Ideal.exp2 (((s.setWidth 32 - 127#32).toInt : ℝ) : EReal)

theorem scl_fields : ∀ s : BitVec 8, (((s.setWidth 16 <<< 7).extractLsb' 15 1 == 1#1) = false)
    ∧ ((s.setWidth 16 <<< 7).extractLsb' 7 8).toNat = s.toNat ∧ ((s.setWidth 16 <<< 7).extractLsb' 0 7).toNat = 0 := by decide

theorem code_zero : ∀ s : BitVec 8, (s.setWidth 32 = 0#32) ↔ s.toNat = 0 := by decide
theorem code_top : ∀ s : BitVec 8, (s.setWidth 32 = 255#32) ↔ s.toNat = 255 := by decide
theorem code_sub : ∀ s : BitVec 8, (s.setWidth 32 - 127#32).toInt = (s.toNat : ℤ) - 127 := by decide

/-- A scale code as the exponent field of a bf16 stands for the power of two that the reference computes. -/
theorem scl_eq (s : BitVec 8) : (scl s : Ideal .bf16) = refScl s := by
  obtain ⟨h0, h1, h2⟩ := scl_fields s
  have h0 : ((s.setWidth 16 <<< 7).extractLsb' (8 + 7) 1 == 1#1) = false := h0
  show Ideal.ieee 8 7 (s.setWidth 16 <<< 7) = _
  unfold Ideal.ieee refScl
  simp only [h0, h1, h2, code_zero, code_top, code_sub]
  by_cases hz : s.toNat = 0
  · simp [hz]
  · by_cases ht : s.toNat = 255
    · simp [ht]
    · rw [if_neg (by simpa using ht), if_neg hz, if_neg hz, if_neg ht]
      show _ = ((Real.rpow 2 _ : ℝ) : EReal)
      congr 1
      have e : ((s.toNat : ℤ) - (2 ^ (8 - 1) - 1) - (7 : ℕ) : ℤ) = ((s.toNat : ℤ) - 127) - 7 := by norm_num
      show (1 * ((2 ^ 7 + 0 : ℕ) : ℝ)) * (2 : ℝ) ^ ((s.toNat : ℤ) - (2 ^ (8 - 1) - 1) - (7 : ℕ) : ℤ) = (2 : ℝ) ^ ((((s.toNat : ℤ) - 127 : ℤ) : ℝ))
      rw [e, Real.rpow_intCast, zpow_sub₀ (by norm_num : (2 : ℝ) ≠ 0)]
      norm_num
      ring

/-! ## The products -/

/-- The dequantised `x` of the reference: row `p`, column `q`. -/
def xDeq (a1 : Vec Ideal S4x384x3584 .fp8e4m3) (a2 : Vec Ideal S4x12x3584 .i8) (p : Fin 1536) (q : Fin 3584) : EReal :=
  a1 (ix3 ⟨p.val / 384, by omega⟩ ⟨p.val % 384, by omega⟩ q) * refScl (a2 (ix3 ⟨p.val / 384, by omega⟩ ⟨p.val % 384 / 32, by omega⟩ q))

/-- The dequantised `w` of the reference: row `q`, column `n`. -/
def wDeqAt (a4 : Vec Ideal S3584x18944 .fp8e4m3) (a5 : Vec Ideal S3584x592 .i8) (q : Fin 3584) (n : Fin 18944) : EReal :=
  a4 (ix2 q n) * refScl (a5 (ix2 q ⟨n.val / 32, by omega⟩))

/-- One product of the kernel, at an index. -/
theorem pay_apply (x : Vec Ideal S512x1536 .bf16) (d : Vec Ideal S1536x256 .bf16) (j : S512x256.Idx) :
    Cert.KernelIdeal.Gen.k0_pay2085 x d j = ∑ p : Fin 1536, x (ix2 (j 0) p) * d (ix2 p (j 1)) := by
  unfold Cert.KernelIdeal.Gen.k0_pay2085
  pointwise

theorem select_eq {α : Type} (x y : BitVec 32) (a b : α) : Scalar.select (IntOp.cmpi .eq x y) a b = if x = y then a else b := by
  by_cases h : x = y
  · subst h; simp [Scalar.select, IntOp.cmpi]
  · have hb : (x == y) = false := by simpa using h
    show (if BitVec.ofBool (x == y) = 1#1 then a else b) = _
    rw [hb, if_neg (by decide), if_neg h]

/-- The reference's second product, at an index. -/
theorem ref_apply (a0 a1 : Vec Ideal S1536x18944 .bf16) (a2 : Vec Ideal S4x384x3584 .fp8e4m3) (a3 : Vec Ideal S4x12x3584 .i8) (a4 : Vec Ideal S3584x18944 .fp8e4m3) (a5 : Vec Ideal S3584x592 .i8) (a6 : Vec Ideal S1536x3584 .bf16) (j : S3584x18944.Idx) :
    Cert.ReferenceIdeal.Value.G8 a0 a1 a2 a3 a4 a5 a6 j = ∑ p : Fin 1536, xDeq a2 a3 p (j 0) * a1 (ix2 p (j 1)) := by
  unfold Cert.ReferenceIdeal.Value.G8 Cert.ReferenceIdeal.Gen.k0_pay14
  pointwise
  refine Finset.sum_congr rfl fun p _ => ?_
  unfold xDeq refScl
  have e1 : p.val % 384 / 32 * 32 + p.val % 32 = p.val % 384 := by omega
  have e2 : p.val / 32 % 12 = p.val % 384 / 32 := by omega
  have htop : Ideal.ofBits .f32 0x7F800000#32 = ⊤ := by simp [Ideal.ofBits, Ideal.ieee]
  simp only [select_eq, e2, e1, htop]
  split
  · rw [mul_zero, zero_mul]
  · rfl

/-! ## The outputs and the reference -/

variable (m : (ℓ : Loc nD τ sig) → Buf (Elt Ideal) ℓ)

/-- The kernel's codes of `x`, one row per position, are the reference's with the batches laid one below the other. -/
theorem codes_at (c : Dev nD) (p : Fin 1536) (q : Fin 3584) :
    (Cert.KernelIdeal.Gen.V m c main_v0 : Vec Ideal S1536x3584 .fp8e4m3) (ix2 p q)
      = (m ((c : Thread nD τ).loc main_arg2) : Vec Ideal S4x384x3584 .fp8e4m3) (ix3 ⟨p.val / 384, by omega⟩ ⟨p.val % 384, by omega⟩ q) := by
  entry_read
  refine shapeCast_apply _ _ _ _ ?_
  refine (Shape.rowMajor_val_three _).trans (Eq.trans ?_ (Shape.rowMajor_val_two _).symm)
  show (p.val / 384 * 384 + p.val % 384) * 3584 + q.val = p.val * 3584 + q.val
  omega

theorem xT_eq (c : Dev nD) (p : Fin 1536) (q : Fin 3584) :
    xT m c (ix2 q p) = xDeq (m ((c : Thread nD τ).loc main_arg2)) (m ((c : Thread nD τ).loc main_arg3)) p q := by
  unfold xT xDeq
  rw [scl_eq, Cert.KernelIdeal.Gen.V_main_arg3]
  exact congrArg (· * _) (codes_at m c p q)

/-- The kernel's second output is the reference's. -/
theorem dw_eq (c : Dev nD) : dwAll m c
    = Cert.ReferenceIdeal.Value.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  have h0 : (y 0).val < 3584 := (y 0).isLt
  have h1 : (y 1).val < 18944 := (y 1).isLt
  rw [ref_apply]
  unfold dwAll dwBlk
  rw [pay_apply]
  refine Finset.sum_congr rfl fun p _ => congrArg₂ (· * ·) ?_ ?_
  · refine Eq.trans ?_ (xT_eq m c p (y 0))
    exact congrArg (xT m c) (funext fun a => match a with
      | ⟨0, _⟩ => Fin.ext (by show 512 * ((y 0).val / 512) + (y 0).val % 512 = (y 0).val; omega)
      | ⟨1, _⟩ => rfl)
  · unfold dyBlk
    rw [Cert.KernelIdeal.Gen.V_main_arg1]
    exact congrArg (m ((c : Thread nD τ).loc main_arg1) : Vec Ideal S1536x18944 .bf16) (funext fun a => match a with
      | ⟨0, _⟩ => rfl
      | ⟨1, _⟩ => Fin.ext (by show 256 * min ((y 1).val / 256) 73 + (y 1).val % 256 = (y 1).val; omega))

/-! ## The first output -/

/-- The term at `n` of the first product, at row `p` and column `q`: zero beyond the last column. -/
def term (a0 : Vec Ideal S1536x18944 .bf16) (a4 : Vec Ideal S3584x18944 .fp8e4m3) (a5 : Vec Ideal S3584x592 .i8) (p : Fin 1536) (q : Fin 3584) (n : ℕ) : EReal :=
  if h : n < 18944 then a0 (ix2 p ⟨n, h⟩) * wDeqAt a4 a5 q ⟨n, h⟩ else 0

/-- One step of the sum, at an index. -/
theorem step_apply (g : Vec Ideal S1536x512 .f32) (x : Vec Ideal S1536x512 .bf16) (w : Vec Ideal S512x512 .bf16) (j : S1536x512.Idx) :
    gAdd (F := Ideal) g x w j = g j + ∑ n : Fin 512, x (ix2 (j 0) n) * w (ix2 (j 1) n) := by
  unfold gAdd
  pointwise

/-- The sum over the first `k` blocks is the sum of the first `512 * k` terms. -/
theorem gSum_apply (c : Dev nD) (p : Fin 1536) (q : Fin 3584) : ∀ k : ℕ, k ≤ 37 → gSum m c k (ix2 p q)
    = ∑ n ∈ Finset.range (512 * k), term (m ((c : Thread nD τ).loc main_arg0)) (m ((c : Thread nD τ).loc main_arg4)) (m ((c : Thread nD τ).loc main_arg5)) p q n
  | 0, _ => by
    show Cert.KernelIdeal.Gen.k0_pay2092 (F := Ideal) (ix2 p q) = _
    unfold Cert.KernelIdeal.Gen.k0_pay2092
    pointwise
    simp
  | k + 1, hk => by
    have ih := gSum_apply c p q k (by omega)
    rw [Nat.mul_succ, Finset.sum_range_add, ← ih]
    show gStep (gSum m c k) (dyrBlk m c k) (wBlk m c k) (ix2 p q) = _
    unfold gStep
    rw [step_apply, Finset.sum_range]
    refine congrArg₂ (· + ·) ?_ (Finset.sum_congr rfl fun n _ => ?_)
    · exact congrArg (gSum m c k) (funext fun a => match a with
        | ⟨0, _⟩ => rfl
        | ⟨1, _⟩ => Fin.ext (by show 512 * (q.val / 512) + q.val % 512 = q.val; omega))
    · have hn : 512 * k + n.val < 18944 := by omega
      unfold term
      rw [dif_pos hn]
      unfold dyrBlk wBlk wrow
      rw [Cert.KernelIdeal.Gen.V_main_arg0, Cert.KernelIdeal.Gen.V_main_arg4, Cert.KernelIdeal.Gen.V_main_arg5]
      have hq : 512 * (q.val / 512) + q.val % 512 = q.val := by omega
      refine congrArg₂ (· * ·) (congrArg (m ((c : Thread nD τ).loc main_arg0) : Vec Ideal S1536x18944 .bf16) (funext fun a => match a with
        | ⟨0, _⟩ => rfl
        | ⟨1, _⟩ => Fin.ext (by show 512 * min k 36 + n.val = 512 * k + n.val; omega))) ?_
      unfold wDeqAt
      refine congrArg₂ (· * ·) (congrArg (m ((c : Thread nD τ).loc main_arg4) : Vec Ideal S3584x18944 .fp8e4m3) (funext fun a => match a with
        | ⟨0, _⟩ => Fin.ext hq
        | ⟨1, _⟩ => Fin.ext (by show 512 * min k 36 + n.val = 512 * k + n.val; omega))) ((scl_eq _).trans (congrArg refScl (congrArg (m ((c : Thread nD τ).loc main_arg5) : Vec Ideal S3584x592 .i8) (funext fun a => match a with
        | ⟨0, _⟩ => Fin.ext hq
        | ⟨1, _⟩ => Fin.ext (by show 16 * min k 36 + n.val / 32 = (512 * k + n.val) / 32; omega)))))

/-- The reference's first product, at an index. -/
theorem ref_prod (a0 : Vec Ideal S1536x18944 .bf16) (a4 : Vec Ideal S3584x18944 .fp8e4m3) (a5 : Vec Ideal S3584x592 .i8) (p : Fin 1536) (q : Fin 3584) :
    Cert.ReferenceIdeal.Gen.k0_pay1 a4 a5 a0 (ix2 p q) = ∑ n : Fin 18944, a0 (ix2 p n) * wDeqAt a4 a5 q n := by
  unfold Cert.ReferenceIdeal.Gen.k0_pay1
  pointwise
  refine Finset.sum_congr rfl fun n _ => ?_
  unfold wDeqAt refScl
  have e1 : n.val / 32 * 32 + n.val % 32 = n.val := by omega
  have htop : Ideal.ofBits .f32 0x7F800000#32 = ⊤ := by simp [Ideal.ofBits, Ideal.ieee]
  simp only [select_eq, e1, htop]
  split
  · simp
  · rfl

theorem zoff : (![0, 0] : Fin 2 → ℕ) = fun _ => 0 := by decide

/-! The values of the reference that its outputs share, its loads being of whole arrays. -/

theorem ref_pay15 (a0 a1 : Vec Ideal S1536x18944 .bf16) (a2 : Vec Ideal S4x384x3584 .fp8e4m3) (a3 : Vec Ideal S4x12x3584 .i8) (a4 : Vec Ideal S3584x18944 .fp8e4m3) (a5 : Vec Ideal S3584x592 .i8) (a6 : Vec Ideal S1536x3584 .bf16) : Cert.ReferenceIdeal.Gen.k0_pay15 a0 a1 a2 a3 a4 a5 a6 = Cert.ReferenceIdeal.Gen.k0_pay1 a4 a5 a0 := by
  unfold Cert.ReferenceIdeal.Gen.k0_pay15
  rw [View.ld_unit_zero (S := S3584x18944) zoff _ a4, View.ld_unit_zero (S := S3584x592) zoff _ a5, View.ld_unit_zero (S := S1536x18944) zoff _ a0]
theorem ref_pay16 (a0 a1 : Vec Ideal S1536x18944 .bf16) (a2 : Vec Ideal S4x384x3584 .fp8e4m3) (a3 : Vec Ideal S4x12x3584 .i8) (a4 : Vec Ideal S3584x18944 .fp8e4m3) (a5 : Vec Ideal S3584x592 .i8) (a6 : Vec Ideal S1536x3584 .bf16) : Cert.ReferenceIdeal.Gen.k0_pay16 a0 a1 a2 a3 a4 a5 a6 = Cert.ReferenceIdeal.Gen.k0_pay2 a6 := by
  unfold Cert.ReferenceIdeal.Gen.k0_pay16
  rw [View.ld_unit_zero (S := S1536x3584) zoff _ a6]
theorem ref_pay17 (a0 a1 : Vec Ideal S1536x18944 .bf16) (a2 : Vec Ideal S4x384x3584 .fp8e4m3) (a3 : Vec Ideal S4x12x3584 .i8) (a4 : Vec Ideal S3584x18944 .fp8e4m3) (a5 : Vec Ideal S3584x592 .i8) (a6 : Vec Ideal S1536x3584 .bf16) : Cert.ReferenceIdeal.Gen.k0_pay17 a0 a1 a2 a3 a4 a5 a6 = Cert.ReferenceIdeal.Gen.k0_pay4 a6 := by
  unfold Cert.ReferenceIdeal.Gen.k0_pay17
  rw [View.ld_unit_zero (S := S1536x3584) zoff _ a6]
theorem ref_pay18 (a0 a1 : Vec Ideal S1536x18944 .bf16) (a2 : Vec Ideal S4x384x3584 .fp8e4m3) (a3 : Vec Ideal S4x12x3584 .i8) (a4 : Vec Ideal S3584x18944 .fp8e4m3) (a5 : Vec Ideal S3584x592 .i8) (a6 : Vec Ideal S1536x3584 .bf16) : Cert.ReferenceIdeal.Gen.k0_pay18 a0 a1 a2 a3 a4 a5 a6 = Cert.ReferenceIdeal.Gen.k0_pay5 a6 := by
  unfold Cert.ReferenceIdeal.Gen.k0_pay18
  rw [View.ld_unit_zero (S := S1536x3584) zoff _ a6]
theorem ref_pay19 (a0 a1 : Vec Ideal S1536x18944 .bf16) (a2 : Vec Ideal S4x384x3584 .fp8e4m3) (a3 : Vec Ideal S4x12x3584 .i8) (a4 : Vec Ideal S3584x18944 .fp8e4m3) (a5 : Vec Ideal S3584x592 .i8) (a6 : Vec Ideal S1536x3584 .bf16) : Cert.ReferenceIdeal.Gen.k0_pay19 a0 a1 a2 a3 a4 a5 a6 = Cert.ReferenceIdeal.Gen.k0_pay6 a6 := by
  unfold Cert.ReferenceIdeal.Gen.k0_pay19
  rw [View.ld_unit_zero (S := S1536x3584) zoff _ a6]

/-- The reference's backward GELU in f32, -/
abbrev refF (a0 a1 : Vec Ideal S1536x18944 .bf16) (a2 : Vec Ideal S4x384x3584 .fp8e4m3) (a3 : Vec Ideal S4x12x3584 .i8) (a4 : Vec Ideal S3584x18944 .fp8e4m3) (a5 : Vec Ideal S3584x592 .i8) (a6 : Vec Ideal S1536x3584 .bf16) : Vec Ideal S1536x3584 .f32 :=
  Cert.ReferenceIdeal.Gen.k0_pay7 (Cert.ReferenceIdeal.Gen.k0_pay15 a0 a1 a2 a3 a4 a5 a6) (Cert.ReferenceIdeal.Gen.k0_pay16 a0 a1 a2 a3 a4 a5 a6) (Cert.ReferenceIdeal.Gen.k0_pay17 a0 a1 a2 a3 a4 a5 a6) (Cert.ReferenceIdeal.Gen.k0_pay18 a0 a1 a2 a3 a4 a5 a6) (Cert.ReferenceIdeal.Gen.k0_pay19 a0 a1 a2 a3 a4 a5 a6)

/-- at an index: the kernel's function of the whole product. -/
theorem ref_f (a0 a1 : Vec Ideal S1536x18944 .bf16) (a2 : Vec Ideal S4x384x3584 .fp8e4m3) (a3 : Vec Ideal S4x12x3584 .i8) (a4 : Vec Ideal S3584x18944 .fp8e4m3) (a5 : Vec Ideal S3584x592 .i8) (a6 : Vec Ideal S1536x3584 .bf16) (p : Fin 1536) (q : Fin 3584) :
    refF a0 a1 a2 a3 a4 a5 a6 (ix2 p q) = geluF1 (F := Ideal) (∑ n : Fin 18944, a0 (ix2 p n) * wDeqAt a4 a5 q n) (a6 (ix2 p q)) := by
  rw [← ref_prod]
  unfold refF
  rw [ref_pay15, ref_pay16, ref_pay17, ref_pay18, ref_pay19]
  generalize Cert.ReferenceIdeal.Gen.k0_pay1 a4 a5 a0 = g
  rw [show geluF1 (F := Ideal) (g (ix2 p q)) (a6 (ix2 p q))
    = Cert.KernelIdeal.Gen.geluF (F := Ideal) (fun _ => g (ix2 p q)) (fun _ => a6 (ix2 p q)) (ix2 0 0) from rfl]
  unfold Cert.KernelIdeal.Gen.geluF Cert.ReferenceIdeal.Gen.k0_pay7 Cert.ReferenceIdeal.Gen.k0_pay6 Cert.ReferenceIdeal.Gen.k0_pay5 Cert.ReferenceIdeal.Gen.k0_pay4 Cert.ReferenceIdeal.Gen.k0_pay3 Cert.ReferenceIdeal.Gen.k0_pay2
  pointwise
  rw [mul_assoc (a6 (ix2 p q)) (a6 (ix2 p q)) (a6 (ix2 p q))]

theorem ref_dh (a0 a1 : Vec Ideal S1536x18944 .bf16) (a2 : Vec Ideal S4x384x3584 .fp8e4m3) (a3 : Vec Ideal S4x12x3584 .i8) (a4 : Vec Ideal S3584x18944 .fp8e4m3) (a5 : Vec Ideal S3584x592 .i8) (a6 : Vec Ideal S1536x3584 .bf16) (p : Fin 1536) (q : Fin 3584) :
    Cert.ReferenceIdeal.Value.G7 a0 a1 a2 a3 a4 a5 a6 (ix2 p q) = gelu1 (F := Ideal) (∑ n : Fin 18944, a0 (ix2 p n) * wDeqAt a4 a5 q n) (a6 (ix2 p q)) :=
  ref_f a0 a1 a2 a3 a4 a5 a6 p q

/-- The kernel's backward GELU of the whole sum, in f32, is the reference's. -/
theorem f_eq (c : Dev nD) (p : Fin 1536) (q : Fin 3584) : geluF1 (F := Ideal) (gSum m c 37 (ix2 p q)) ((Cert.KernelIdeal.Gen.V m c main_arg6 : Vec Ideal S1536x3584 .bf16) (ix2 p q))
    = refF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 p q) := by
  rw [ref_f, gSum_apply m c p q 37 (by omega), Cert.KernelIdeal.Gen.V_main_arg6, Finset.sum_range]
  refine congrArg₂ geluF1 (Finset.sum_congr rfl fun n _ => ?_) rfl
  unfold term
  rw [dif_pos (show n.val < 18944 from n.isLt)]

/-- The kernel's first output is the reference's. -/
theorem dh_eq (c : Dev nD) : dhAll m c
    = Cert.ReferenceIdeal.Value.G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  obtain ⟨p, q, rfl⟩ : ∃ (p : Fin 1536) (q : Fin 3584), y = ix2 p q := ⟨y 0, y 1, eq_ix2 y⟩
  exact f_eq m c p q

end Cert.Value

end
-- ==== Proof.ValueScale.lean ====
module

public import proofs.«01_k».proof.Proof.IdealStores
public import Idealize.ShloMosaic.Lib.KernelVsHost

@[expose] public section

/-! The quantiser of `KernelIdeal`'s tiles over the extended reals: the exponent that its search finds is the number of powers of two that the scaled magnitude reaches. -/

set_option maxRecDepth 16384

noncomputable section

namespace Cert.Value

open Cert.KernelIdeal Idealize.ShloMosaic Idealize.ShloMosaic.TcCoe Idealize.ShloMosaic.Tactic
open Cert.KernelIdeal.Gen (laneV fillV mergeV foldV maxV bitV searchV invV quadV wrapV groupV codeV scaleLaneV placeV scaleV)

/-! ## The exponent -/

/-- The power of two whose exponent field is `n`. -/
def thr (n : ℕ) : EReal := (((2 : ℝ) ^ ((n : ℤ) - 127) : ℝ) : EReal)

theorem thr_mono {a b : ℕ} (h : a ≤ b) : thr a ≤ thr b :=
  EReal.coe_le_coe_iff.2 (zpow_le_zpow_right₀ (by norm_num) (by omega))

theorem thr_fields : ∀ n : Fin 255, (((IntOp.shli .vector (BitVec.ofNat 32 n.val) 23#32).extractLsb' 31 1 == 1#1) = false)
    ∧ ((IntOp.shli .vector (BitVec.ofNat 32 n.val) 23#32).extractLsb' 23 8).toNat = n.val ∧ ((IntOp.shli .vector (BitVec.ofNat 32 n.val) 23#32).extractLsb' 0 23).toNat = 0 := by decide

/-- A float built from its exponent field. -/
theorem ofBits_thr (n : ℕ) (h1 : 1 ≤ n) (h2 : n ≤ 254) : Ideal.ofBits .f32 (IntOp.shli .vector (BitVec.ofNat 32 n) 23#32) = thr n := by
  obtain ⟨e0, e1, e2⟩ := thr_fields ⟨n, by omega⟩
  have e0 : ((IntOp.shli .vector (BitVec.ofNat 32 n) 23#32).extractLsb' (8 + 23) 1 == 1#1) = false := e0
  have e1 : ((IntOp.shli .vector (BitVec.ofNat 32 n) 23#32).extractLsb' 23 8).toNat = n := e1
  have e2 : ((IntOp.shli .vector (BitVec.ofNat 32 n) 23#32).extractLsb' 0 23).toNat = 0 := e2
  show Ideal.ieee 8 23 _ = _
  unfold Ideal.ieee thr
  simp only [e0, e1, e2]
  rw [if_neg (by simp; omega), if_neg (by omega)]
  refine congrArg Real.toEReal ?_
  have e : ((n : ℤ) - (2 ^ (8 - 1) - 1) - (23 : ℕ) : ℤ) = ((n : ℤ) - 127) - 23 := by norm_num
  show (1 * ((2 ^ 23 + 0 : ℕ) : ℝ)) * (2 : ℝ) ^ ((n : ℤ) - (2 ^ (8 - 1) - 1) - (23 : ℕ) : ℤ) = (2 : ℝ) ^ ((n : ℤ) - 127)
  rw [e, zpow_sub₀ (by norm_num : (2 : ℝ) ≠ 0)]
  norm_num
  ring

open scoped Classical in
/-- How many of the powers of two from `2 ^ (-126)` to `2 ^ 120` are not above `x`. -/
def cnt (x : EReal) : ℕ := ((Finset.range 247).filter fun k => thr (k + 1) ≤ x).card

theorem cnt_le (x : EReal) : cnt x ≤ 247 := by
  classical
  unfold cnt
  exact (Finset.card_filter_le _ _).trans (by simp)

theorem thr_le_iff (x : EReal) (t : ℕ) (h1 : 1 ≤ t) (h2 : t ≤ 247) : thr t ≤ x ↔ t ≤ cnt x := by
  classical
  unfold cnt
  constructor
  · intro h
    have hs : Finset.range t ⊆ (Finset.range 247).filter fun k => thr (k + 1) ≤ x := fun k hk => by
      have hk := Finset.mem_range.1 hk
      exact Finset.mem_filter.2 ⟨Finset.mem_range.2 (by omega), (thr_mono (by omega)).trans h⟩
    simpa using Finset.card_le_card hs
  · intro h
    by_contra hn
    have hs : ((Finset.range 247).filter fun k => thr (k + 1) ≤ x) ⊆ Finset.range (t - 1) := fun k hk => by
      have hk := (Finset.mem_filter.1 hk).2
      refine Finset.mem_range.2 ?_
      by_contra hc
      exact hn ((thr_mono (by omega)).trans hk)
    have := Finset.card_le_card hs
    rw [Finset.card_range] at this
    omega

/-- One step of the search, in numbers. -/
def stepB (n b e : ℕ) : ℕ := if e + b ≤ n then e + b else e

/-- The value that the search compares: the scaled magnitude, not above `2 ^ 120`. -/
theorem thr_le_min (x : EReal) (t : ℕ) (h1 : 1 ≤ t) : thr t ≤ min x (thr 247) ↔ t ≤ cnt x := by
  rw [le_min_iff]
  by_cases h2 : t ≤ 247
  · rw [thr_le_iff x t h1 h2]
    exact and_iff_left (thr_mono h2)
  · have hc := cnt_le x
    refine ⟨fun h => absurd h.2 (not_le.2 ?_), fun h => by omega⟩
    exact EReal.coe_lt_coe_iff.2 (zpow_lt_zpow_right₀ (by norm_num) (by omega))

theorem bit_ok (x : FVec Ideal S32x128 .f32) (y : EReal) (j : S32x128.Idx) (hx : x j = min y (thr 247)) (b k : ℕ) (e : IVec S32x128 32) (he : e j = BitVec.ofNat 32 k)
    (hb : 1 ≤ b) (hk : k + b ≤ 254) : bitV x (BitVec.ofNat 32 b) e j = BitVec.ofNat 32 (stepB (cnt y) b k) := by
  have e1 : addi e (fillV (BitVec.ofNat 32 b)) j = BitVec.ofNat 32 (k + b) := by
    show e j + BitVec.ofNat 32 b = _
    rw [he, BitVec.ofNat_add]
  have e2 : bitV x (BitVec.ofNat 32 b) e j = Scalar.select (Ideal.cmp .oge (x j) (Ideal.ofBits .f32 (IntOp.shli .vector (addi e (fillV (BitVec.ofNat 32 b)) j) 23#32))) (addi e (fillV (BitVec.ofNat 32 b)) j) (e j) := rfl
  rw [e2, e1, he, hx, ofBits_thr _ (by omega) hk]
  unfold Scalar.select stepB
  have e3 : (Ideal.cmp .oge (min y (thr 247)) (thr (k + b)) = 1) ↔ k + b ≤ cnt y := by
    rw [← thr_le_min y (k + b) (by omega)]
    exact Ideal.cmp_oge_eq_one _ _
  by_cases h : k + b ≤ cnt y
  · rw [if_pos (e3.2 h), if_pos h]
  · rw [if_neg (fun hh => h (e3.1 hh)), if_neg h]

theorem steps_ok : ∀ n : Fin 248, let s1 := stepB n 128 0; let s2 := stepB n 64 s1; let s3 := stepB n 32 s2; let s4 := stepB n 16 s3; let s5 := stepB n 8 s4; let s6 := stepB n 4 s5; let s7 := stepB n 2 s6
    s1 + 64 ≤ 254 ∧ s2 + 32 ≤ 254 ∧ s3 + 16 ≤ 254 ∧ s4 + 8 ≤ 254 ∧ s5 + 4 ≤ 254 ∧ s6 + 2 ≤ 254 ∧ s7 + 1 ≤ 254 ∧ stepB n 1 s7 = n.val := by decide

theorem search_ok (x : FVec Ideal S32x128 .f32) (y : EReal) (j : S32x128.Idx) (hx : x j = min y (thr 247)) : searchV x j = BitVec.ofNat 32 (cnt y) := by
  obtain ⟨h1, h2, h3, h4, h5, h6, h7, h8⟩ := steps_ok ⟨cnt y, by have := cnt_le y; omega⟩
  have b1 := bit_ok x y j hx 128 0 (fillV 0#32) rfl (by omega) (by omega)
  have b2 := bit_ok x y j hx 64 _ _ b1 (by omega) h1
  have b3 := bit_ok x y j hx 32 _ _ b2 (by omega) h2
  have b4 := bit_ok x y j hx 16 _ _ b3 (by omega) h3
  have b5 := bit_ok x y j hx 8 _ _ b4 (by omega) h4
  have b6 := bit_ok x y j hx 4 _ _ b5 (by omega) h5
  have b7 := bit_ok x y j hx 2 _ _ b6 (by omega) h6
  have b8 := bit_ok x y j hx 1 _ _ b7 (by omega) h7
  exact b8.trans (congrArg _ h8)

/-- The exponent field of the inverse scale. -/
def invN (n : ℕ) : ℕ := if n = 0 then 127 else 253 - n

theorem invN_range (n : ℕ) (h : n ≤ 247) : 1 ≤ invN n ∧ invN n ≤ 254 := by unfold invN; split <;> omega

theorem inv_bits : ∀ n : Fin 248, (if IntOp.cmpi .eq (BitVec.ofNat 32 n.val) 0#32 = 1#1 then 127#32 else IntOp.subi 253#32 (BitVec.ofNat 32 n.val)) = BitVec.ofNat 32 (invN n) := by decide

/-- The reciprocal of the largest code, as the kernel has it. -/
abbrev rcp : EReal := Ideal.ofBits .f32 0x3B124925#32

theorem inv_ok (a : FVec Ideal S32x128 .f32) (j : S32x128.Idx) : invV a j = BitVec.ofNat 32 (invN (cnt (a j * rcp))) := by
  have h := search_ok (minimumf (mulf a (broadcast S32x128 (Scalar.ofBits .f32 0x3B124925#32 : Ideal .f32))) (broadcast S32x128 (Scalar.ofBits .f32 0x7B800000#32 : Ideal .f32)))
    (a j * rcp) j (by
      show min (a j * rcp) (Ideal.ofBits .f32 0x7B800000#32) = _
      exact congrArg _ (ofBits_thr 247 (by omega) (by omega)))
  have e : invV a j = Scalar.select (IntOp.cmpi .eq (searchV (minimumf (mulf a (broadcast S32x128 (Scalar.ofBits .f32 0x3B124925#32 : Ideal .f32))) (broadcast S32x128 (Scalar.ofBits .f32 0x7B800000#32 : Ideal .f32))) j) 0#32)
    127#32 (IntOp.subi 253#32 (searchV (minimumf (mulf a (broadcast S32x128 (Scalar.ofBits .f32 0x3B124925#32 : Ideal .f32))) (broadcast S32x128 (Scalar.ofBits .f32 0x7B800000#32 : Ideal .f32))) j)) := rfl
  rw [e, h]
  exact inv_bits ⟨cnt (a j * rcp), by have := cnt_le (a j * rcp); omega⟩

/-! ## The largest magnitudes -/

/-- Row `p` of a tile, its lanes counted around. -/
def row {α : Type} (x : S32x128.Idx → α) (p : Fin 32) (l : ℕ) : α := x (ix2 p ⟨l % 128, Nat.mod_lt _ (by decide)⟩)

theorem row_congr {α : Type} (x : S32x128.Idx → α) (p : Fin 32) {k l : ℕ} (h : k % 128 = l % 128) : row x p k = row x p l :=
  congrArg x (congrArg (ix2 p) (Fin.ext h))

theorem rot_row {α : Type} (x : S32x128.Idx → α) (p : Fin 32) (c : ℕ) (hc : c < 128) (l : ℕ) : row (dynamicRotate 1 (BitVec.ofNat 32 c) none x Cert.KernelIdeal.Gen.rotates_S32x128_d1) p l = row x p (l + (128 - c)) := by
  unfold row
  refine dynamicRotate_apply (1 : Fin 2) _ x _ _ _ fun b => ?_
  have e : (BitVec.ofNat 32 c).toNat = c := by rw [BitVec.toNat_ofNat]; omega
  match b with
  | ⟨0, _⟩ => rfl
  | ⟨1, _⟩ =>
    show (l + (128 - c)) % 128 = (l % 128 + 128 - (BitVec.ofNat 32 c).toNat % 128) % 128
    rw [e]; omega

theorem fold_row (x : FVec Ideal S32x128 .f32) (p : Fin 32) (c : ℕ) (hc : c < 128) (l : ℕ) : row (foldV (BitVec.ofNat 32 c) x) p l = max (row x p l) (row x p (l + (128 - c))) := by
  rw [← rot_row x p c hc l]; rfl

theorem bit8 : ∀ l : Fin 128, (IntOp.cmpi .eq (IntOp.andi (BitVec.ofNat 32 (0 * 128 + l.val)) 8#32) 0#32 = 1) ↔ l.val / 8 % 2 = 0 := by decide
theorem bit16 : ∀ l : Fin 128, (IntOp.cmpi .eq (IntOp.andi (BitVec.ofNat 32 (0 * 128 + l.val)) 16#32) 0#32 = 1) ↔ l.val / 16 % 2 = 0 := by decide

theorem merge_row (x y : FVec Ideal S32x128 .f32) (p : Fin 32) (b c : ℕ) (hc : c < 128) (hb : b < 128)
    (hbit : ∀ l : Fin 128, (IntOp.cmpi .eq (IntOp.andi (BitVec.ofNat 32 (0 * 128 + l.val)) (BitVec.ofNat 32 b)) 0#32 = 1) ↔ l.val / b % 2 = 0) (l : ℕ) :
    row (mergeV (BitVec.ofNat 32 b) (BitVec.ofNat 32 c) x y) p l
      = if l % 128 / b % 2 = 0 then max (row x p l) (row x p (l + (128 - c))) else max (row y p (l + (128 - b))) (row y p l) := by
  rw [← rot_row x p c hc l, ← rot_row y p b hb l]
  have h := hbit ⟨l % 128, Nat.mod_lt _ (by decide)⟩
  have e : row (mergeV (BitVec.ofNat 32 b) (BitVec.ofNat 32 c) x y) p l
    = max (Scalar.select (IntOp.cmpi .eq (IntOp.andi (BitVec.ofNat 32 (0 * 128 + l % 128)) (BitVec.ofNat 32 b)) 0#32) (row x p l) (row (dynamicRotate 1 (BitVec.ofNat 32 b) none y Cert.KernelIdeal.Gen.rotates_S32x128_d1) p l))
      (Scalar.select (IntOp.cmpi .eq (IntOp.andi (BitVec.ofNat 32 (0 * 128 + l % 128)) (BitVec.ofNat 32 b)) 0#32) (row (dynamicRotate 1 (BitVec.ofNat 32 c) none x Cert.KernelIdeal.Gen.rotates_S32x128_d1) p l) (row y p l)) := rfl
  rw [e]
  unfold Scalar.select
  by_cases hl : l % 128 / b % 2 = 0
  · rw [if_pos (h.2 hl), if_pos (h.2 hl), if_pos hl]
  · rw [if_neg (fun hh => hl (h.1 hh)), if_neg (fun hh => hl (h.1 hh)), if_neg hl]

theorem fold8 (x : FVec Ideal S32x128 .f32) (p : Fin 32) (l : ℕ) (z : EReal) :
    row (foldV 127#32 (foldV 126#32 (foldV 124#32 x))) p l ≤ z ↔ ∀ i, i < 8 → row x p (l + i) ≤ z := by
  have e : row (foldV 127#32 (foldV 126#32 (foldV 124#32 x))) p l
    = max (max (max (row x p (l + 0)) (row x p (l + 4))) (max (row x p (l + 2)) (row x p (l + 6)))) (max (max (row x p (l + 1)) (row x p (l + 5))) (max (row x p (l + 3)) (row x p (l + 7)))) := by
    rw [fold_row _ p 127 (by omega), fold_row _ p 126 (by omega), fold_row _ p 126 (by omega), fold_row _ p 124 (by omega), fold_row _ p 124 (by omega), fold_row _ p 124 (by omega), fold_row _ p 124 (by omega)]
    simp only [Nat.add_assoc, Nat.reduceSub, Nat.reduceAdd, Nat.add_zero]
  rw [e]
  simp only [max_le_iff]
  constructor
  · rintro ⟨⟨⟨h0, h4⟩, h2, h6⟩, ⟨h1, h5⟩, h3, h7⟩ i hi
    interval_cases i
    · exact h0
    · exact h1
    · exact h2
    · exact h3
    · exact h4
    · exact h5
    · exact h6
    · exact h7
  · intro h
    exact ⟨⟨⟨h 0 (by omega), h 4 (by omega)⟩, h 2 (by omega), h 6 (by omega)⟩, ⟨h 1 (by omega), h 5 (by omega)⟩, h 3 (by omega), h 7 (by omega)⟩

/-- The lane of the largest magnitude of group `g` of tile `j` of four. -/
def laneOf (g j : ℕ) : ℕ := 32 * g + 16 * (j % 2) + 8 * (j / 2)

theorem max_row (t : Fin 4 → FVec Ideal S32x128 .f32) (p : Fin 32) (g : ℕ) (hg : g < 4) (j : Fin 4) (z : EReal) :
    row (maxV (t 0) (t 1) (t 2) (t 3)) p (laneOf g j.val) ≤ z ↔ ∀ i, i < 32 → row (absf (t j)) p (32 * g + i) ≤ z := by
  unfold maxV
  refine (fold8 _ p _ z).trans ?_
  have key : (∀ i, i < 8 → row (mergeV 8#32 120#32 (mergeV 16#32 112#32 (absf (t 0)) (absf (t 1))) (mergeV 16#32 112#32 (absf (t 2)) (absf (t 3)))) p (laneOf g j.val + i) ≤ z)
      ↔ ∀ i, i < 8 → ((row (absf (t j)) p (32 * g + i) ≤ z ∧ row (absf (t j)) p (32 * g + (i + 16)) ≤ z) ∧ (row (absf (t j)) p (32 * g + (i + 8)) ≤ z ∧ row (absf (t j)) p (32 * g + (i + 24)) ≤ z)) := by
    refine forall_congr' fun i => forall_congr' fun hi => ?_
    rw [← max_le_iff, ← max_le_iff, ← max_le_iff]
    refine iff_of_eq (congrArg (· ≤ z) ?_)
    rw [merge_row _ _ p 8 120 (by omega) (by omega) bit8, merge_row _ _ p 16 112 (by omega) (by omega) bit16, merge_row _ _ p 16 112 (by omega) (by omega) bit16, merge_row _ _ p 16 112 (by omega) (by omega) bit16, merge_row _ _ p 16 112 (by omega) (by omega) bit16]
    unfold laneOf
    match j with
    | ⟨0, _⟩ =>
      rw [if_pos (by show (32 * g + 16 * (0 % 2) + 8 * (0 / 2) + i) % 128 / 8 % 2 = 0; omega), if_pos (by show (32 * g + 16 * (0 % 2) + 8 * (0 / 2) + i) % 128 / 16 % 2 = 0; omega), if_pos (by show (32 * g + 16 * (0 % 2) + 8 * (0 / 2) + i + (128 - 120)) % 128 / 16 % 2 = 0; omega)]
      exact congrArg₂ max (congrArg₂ max (row_congr _ p (by show (32 * g + 16 * (0 % 2) + 8 * (0 / 2) + i) % 128 = _; omega)) (row_congr _ p (by show (32 * g + 16 * (0 % 2) + 8 * (0 / 2) + i + (128 - 112)) % 128 = _; omega)))
        (congrArg₂ max (row_congr _ p (by show (32 * g + 16 * (0 % 2) + 8 * (0 / 2) + i + (128 - 120)) % 128 = _; omega)) (row_congr _ p (by show (32 * g + 16 * (0 % 2) + 8 * (0 / 2) + i + (128 - 120) + (128 - 112)) % 128 = _; omega)))
    | ⟨1, _⟩ =>
      rw [if_pos (by show (32 * g + 16 * (1 % 2) + 8 * (1 / 2) + i) % 128 / 8 % 2 = 0; omega), if_neg (by show ¬ (32 * g + 16 * (1 % 2) + 8 * (1 / 2) + i) % 128 / 16 % 2 = 0; omega), if_neg (by show ¬ (32 * g + 16 * (1 % 2) + 8 * (1 / 2) + i + (128 - 120)) % 128 / 16 % 2 = 0; omega)]
      exact congrArg₂ max (congrArg₂ max (row_congr _ p (by show (32 * g + 16 * (1 % 2) + 8 * (1 / 2) + i + (128 - 16)) % 128 = _; omega)) (row_congr _ p (by show (32 * g + 16 * (1 % 2) + 8 * (1 / 2) + i) % 128 = _; omega)))
        (congrArg₂ max (row_congr _ p (by show (32 * g + 16 * (1 % 2) + 8 * (1 / 2) + i + (128 - 120) + (128 - 16)) % 128 = _; omega)) (row_congr _ p (by show (32 * g + 16 * (1 % 2) + 8 * (1 / 2) + i + (128 - 120)) % 128 = _; omega)))
    | ⟨2, _⟩ =>
      rw [if_neg (by show ¬ (32 * g + 16 * (2 % 2) + 8 * (2 / 2) + i) % 128 / 8 % 2 = 0; omega), if_pos (by show (32 * g + 16 * (2 % 2) + 8 * (2 / 2) + i + (128 - 8)) % 128 / 16 % 2 = 0; omega), if_pos (by show (32 * g + 16 * (2 % 2) + 8 * (2 / 2) + i) % 128 / 16 % 2 = 0; omega)]
      exact congrArg₂ max (congrArg₂ max (row_congr _ p (by show (32 * g + 16 * (2 % 2) + 8 * (2 / 2) + i + (128 - 8)) % 128 = _; omega)) (row_congr _ p (by show (32 * g + 16 * (2 % 2) + 8 * (2 / 2) + i + (128 - 8) + (128 - 112)) % 128 = _; omega)))
        (congrArg₂ max (row_congr _ p (by show (32 * g + 16 * (2 % 2) + 8 * (2 / 2) + i) % 128 = _; omega)) (row_congr _ p (by show (32 * g + 16 * (2 % 2) + 8 * (2 / 2) + i + (128 - 112)) % 128 = _; omega)))
    | ⟨3, _⟩ =>
      rw [if_neg (by show ¬ (32 * g + 16 * (3 % 2) + 8 * (3 / 2) + i) % 128 / 8 % 2 = 0; omega), if_neg (by show ¬ (32 * g + 16 * (3 % 2) + 8 * (3 / 2) + i + (128 - 8)) % 128 / 16 % 2 = 0; omega), if_neg (by show ¬ (32 * g + 16 * (3 % 2) + 8 * (3 / 2) + i) % 128 / 16 % 2 = 0; omega)]
      exact congrArg₂ max (congrArg₂ max (row_congr _ p (by show (32 * g + 16 * (3 % 2) + 8 * (3 / 2) + i + (128 - 8) + (128 - 16)) % 128 = _; omega)) (row_congr _ p (by show (32 * g + 16 * (3 % 2) + 8 * (3 / 2) + i + (128 - 8)) % 128 = _; omega)))
        (congrArg₂ max (row_congr _ p (by show (32 * g + 16 * (3 % 2) + 8 * (3 / 2) + i + (128 - 16)) % 128 = _; omega)) (row_congr _ p (by show (32 * g + 16 * (3 % 2) + 8 * (3 / 2) + i) % 128 = _; omega)))
  refine key.trans ⟨fun h i hi => ?_, fun h i hi => ⟨⟨h i (by omega), h (i + 16) (by omega)⟩, h (i + 8) (by omega), h (i + 24) (by omega)⟩⟩
  by_cases h8 : i < 8
  · exact (h i h8).1.1
  · by_cases h16 : i < 16
    · obtain ⟨k, rfl⟩ := Nat.exists_eq_add_of_le' (not_lt.1 h8); exact (h k (by omega)).2.1
    · by_cases h24 : i < 24
      · obtain ⟨k, rfl⟩ := Nat.exists_eq_add_of_le' (not_lt.1 h16); exact (h k (by omega)).1.2
      · obtain ⟨k, rfl⟩ := Nat.exists_eq_add_of_le' (not_lt.1 h24); exact (h k (by omega)).2.2

/-- The largest magnitude of 32 values. -/
def big (u : Fin 32 → EReal) : EReal := Finset.univ.sup fun i => max (u i) (-(u i))

theorem max_big (t : Fin 4 → FVec Ideal S32x128 .f32) (p : Fin 32) (g : ℕ) (hg : g < 4) (j : Fin 4) :
    row (maxV (t 0) (t 1) (t 2) (t 3)) p (laneOf g j.val) = big fun i => row (t j) p (32 * g + i.val) := by
  refine eq_of_forall_ge_iff fun z => (max_row t p g hg j z).trans ?_
  unfold big
  rw [Finset.sup_le_iff]
  exact ⟨fun h i _ => h i.val i.isLt, fun h i hi => h ⟨i, hi⟩ (Finset.mem_univ _)⟩

/-- The exponent field of a group's inverse scale. -/
def invOf (u : Fin 32 → EReal) : ℕ := invN (cnt (big u * rcp))

theorem invOf_range (u : Fin 32 → EReal) : 1 ≤ invOf u ∧ invOf u ≤ 254 := invN_range _ (cnt_le _)

theorem quad_row (t : Fin 4 → FVec Ideal S32x128 .f32) (p : Fin 32) (g : ℕ) (hg : g < 4) (j : Fin 4) :
    row (quadV (t 0) (t 1) (t 2) (t 3)) p (laneOf g j.val) = BitVec.ofNat 32 (invOf fun i => row (t j) p (32 * g + i.val)) := by
  unfold invOf
  rw [← max_big t p g hg j]
  exact inv_ok _ _

/-! ## The codes and the scale codes -/

theorem wrap_apply (l : IVec S32x128 32) (j : S32x128.Idx) : wrapV l j = Scalar.select (IntOp.cmpi .slt (l j) 0#32) (IntOp.addi (l j) 128#32) (l j) := by
  unfold wrapV
  rw [shapeCast_shapeCast]
  rfl

theorem gather_row (e l : IVec S32x128 32) (p : Fin 32) (k n : ℕ) (h : (wrapV l (ix2 p ⟨k % 128, Nat.mod_lt _ (by decide)⟩)).toNat % 128 = n % 128) :
    row (dynamicGather 1 e (wrapV l)) p k = row e p n := by
  unfold row dynamicGather
  refine congrArg e (funext fun b => match b with
    | ⟨0, _⟩ => rfl
    | ⟨1, _⟩ => Fin.ext h)

theorem group_lane : ∀ (a : Fin 2) (b : Fin 2) (l : Fin 128),
    (Scalar.select (IntOp.cmpi .slt (IntOp.addi (IntOp.addi (IntOp.muli 32#32 (IntOp.shrsi .vector (BitVec.ofNat 32 (0 * 128 + l.val)) 5#32)) (BitVec.ofNat 32 (16 * a.val))) (BitVec.ofNat 32 (8 * b.val))) 0#32)
      (IntOp.addi (IntOp.addi (IntOp.addi (IntOp.muli 32#32 (IntOp.shrsi .vector (BitVec.ofNat 32 (0 * 128 + l.val)) 5#32)) (BitVec.ofNat 32 (16 * a.val))) (BitVec.ofNat 32 (8 * b.val))) 128#32)
      (IntOp.addi (IntOp.addi (IntOp.muli 32#32 (IntOp.shrsi .vector (BitVec.ofNat 32 (0 * 128 + l.val)) 5#32)) (BitVec.ofNat 32 (16 * a.val))) (BitVec.ofNat 32 (8 * b.val)))).toNat % 128
      = (32 * (l.val / 32) + 16 * a.val + 8 * b.val) % 128 := by decide

theorem scale_lane : ∀ l : Fin 128, let n := IntOp.andi (BitVec.ofNat 32 (0 * 128 + l.val)) 15#32; let j := IntOp.shrsi .vector n 2#32
    let s := IntOp.addi (IntOp.addi (IntOp.muli 32#32 (IntOp.andi n 3#32)) (IntOp.muli 16#32 (IntOp.andi j 1#32))) (IntOp.muli 8#32 (IntOp.shrsi .vector j 1#32))
    (Scalar.select (IntOp.cmpi .slt s 0#32) (IntOp.addi s 128#32) s).toNat % 128 = laneOf (l.val % 4) (l.val % 16 / 4) % 128 := by decide

/-- A value clipped to the range of the codes, times the inverse scale first. -/
def codeN (x : EReal) (n : ℕ) : EReal := min (Ideal.ofBits .f32 0x43E00000#32) (max (Ideal.ofBits .f32 0xC3E00000#32) (x * thr n))

theorem code_row (a b : Fin 2) (t : FVec Ideal S32x128 .f32) (e : IVec S32x128 32) (p : Fin 32) (l : Fin 128) (n : ℕ) (h1 : 1 ≤ n) (h2 : n ≤ 254)
    (he : row e p (32 * (l.val / 32) + 16 * a.val + 8 * b.val) = BitVec.ofNat 32 n) :
    (codeV (BitVec.ofNat 32 (16 * a.val)) (BitVec.ofNat 32 (8 * b.val)) t e (ix2 p l) : EReal) = codeN (t (ix2 p l)) n := by
  have hg := gather_row e (groupV (BitVec.ofNat 32 (16 * a.val)) (BitVec.ofNat 32 (8 * b.val))) p l.val (32 * (l.val / 32) + 16 * a.val + 8 * b.val) (by
    rw [wrap_apply]
    exact group_lane a b ⟨l.val % 128, Nat.mod_lt _ (by decide)⟩ |>.trans (by show (32 * (l.val % 128 / 32) + _ + _) % 128 = _; rw [Nat.mod_eq_of_lt l.isLt]))
  rw [he] at hg
  have hl : (⟨l.val % 128, Nat.mod_lt _ (by decide)⟩ : Fin 128) = l := Fin.ext (Nat.mod_eq_of_lt l.isLt)
  unfold row at hg
  rw [hl] at hg
  have e1 : (codeV (BitVec.ofNat 32 (16 * a.val)) (BitVec.ofNat 32 (8 * b.val)) t e (ix2 p l) : EReal)
    = min (Ideal.ofBits .f32 0x43E00000#32) (max (Ideal.ofBits .f32 0xC3E00000#32) (t (ix2 p l) * Ideal.ofBits .f32 (IntOp.shli .vector (dynamicGather 1 e (wrapV (groupV (BitVec.ofNat 32 (16 * a.val)) (BitVec.ofNat 32 (8 * b.val)))) (ix2 p l)) 23#32))) := rfl
  rw [e1, hg, ofBits_thr n h1 h2]
  rfl

theorem place_bit : ∀ (q : Fin 7) (l : Fin 128), (IntOp.cmpi .eq (IntOp.shrsi .vector (BitVec.ofNat 32 (0 * 128 + l.val)) 4#32) (BitVec.ofNat 32 q.val) = 1) ↔ l.val / 16 = q.val := by decide

theorem place_row (q : ℕ) (hq : q < 7) (e s : IVec S32x128 32) (p : Fin 32) (l : Fin 128) :
    placeV (BitVec.ofNat 32 q) e s (ix2 p l) = if l.val / 16 = q then 254#32 - row e p (laneOf (l.val % 4) (l.val % 16 / 4)) else s (ix2 p l) := by
  have hg := gather_row (subi (fillV 254#32) e) scaleLaneV p l.val (laneOf (l.val % 4) (l.val % 16 / 4)) (by
    rw [wrap_apply]
    have := scale_lane ⟨l.val % 128, Nat.mod_lt _ (by decide)⟩
    simp only [Nat.mod_eq_of_lt l.isLt] at this ⊢
    exact this)
  have hl : (⟨l.val % 128, Nat.mod_lt _ (by decide)⟩ : Fin 128) = l := Fin.ext (Nat.mod_eq_of_lt l.isLt)
  have hb := place_bit ⟨q, hq⟩ l
  have e1 : placeV (BitVec.ofNat 32 q) e s (ix2 p l) = Scalar.select (IntOp.cmpi .eq (IntOp.shrsi .vector (BitVec.ofNat 32 (0 * 128 + l.val)) 4#32) (BitVec.ofNat 32 q))
    (dynamicGather 1 (subi (fillV 254#32) e) (wrapV scaleLaneV) (ix2 p l)) (s (ix2 p l)) := rfl
  have hg' : dynamicGather 1 (subi (fillV 254#32) e) (wrapV scaleLaneV) (ix2 p l) = 254#32 - row e p (laneOf (l.val % 4) (l.val % 16 / 4)) := by
    have hg2 := hg
    unfold row at hg2
    rw [hl] at hg2
    exact hg2
  rw [e1, hg']
  unfold Scalar.select
  by_cases h : l.val / 16 = q
  · rw [if_pos (hb.2 h), if_pos h]
  · rw [if_neg (fun hh => h (hb.1 hh)), if_neg h]

theorem scale_row (e : Fin 7 → IVec S32x128 32) (p : Fin 32) (k : Fin 112) :
    scaleV (e 0) (e 1) (e 2) (e 3) (e 4) (e 5) (e 6) (ix2 p k) = (254#32 - row (e ⟨k.val / 16, by omega⟩) p (laneOf (k.val % 4) (k.val % 16 / 4))).setWidth 8 := by
  have e1 : scaleV (e 0) (e 1) (e 2) (e 3) (e 4) (e 5) (e 6) (ix2 p k) = (placeV 6#32 (e 6) (placeV 5#32 (e 5) (placeV 4#32 (e 4) (placeV 3#32 (e 3) (placeV 2#32 (e 2) (placeV 1#32 (e 1) (placeV 0#32 (e 0) (fillV 0#32)))))))
      (ix2 p ⟨k.val, by omega⟩)).setWidth 8 := by
    unfold scaleV
    generalize placeV 6#32 _ _ = w
    exact congrArg (BitVec.setWidth 8) (extractStridedSlice_apply (s := S32x128) (t := S32x112) ![0, 0] w Cert.KernelIdeal.Gen.slices_S32x128_o0_0_S32x112 (ix2 p k) (ix2 p (⟨k.val, by omega⟩ : Fin 128)) (by intro a; fin_cases a <;> simp [ix2]))
  rw [e1]
  refine congrArg (BitVec.setWidth 8) ?_
  have hk : k.val / 16 < 7 := by omega
  rw [place_row 6 (by omega), place_row 5 (by omega), place_row 4 (by omega), place_row 3 (by omega), place_row 2 (by omega), place_row 1 (by omega), place_row 0 (by omega)]
  obtain ⟨q, hq⟩ : ∃ q : Fin 7, q = ⟨k.val / 16, hk⟩ := ⟨_, rfl⟩
  have hv : k.val / 16 = q.val := by rw [hq]
  rw [← hq]
  show (if k.val / 16 = 6 then _ else _) = _
  rw [hv]
  fin_cases q <;> rfl

end Cert.Value

end
-- ==== Proof.ValueRef.lean ====
module

public import proofs.«01_k».proof.Proof.Gen.ReferenceIdeal.Value
public import proofs.«01_k».proof.Proof.ValueScale

@[expose] public section

/-! The quantiser of `ReferenceIdeal`, over the extended reals. -/

set_option maxRecDepth 16384

noncomputable section

namespace Cert.Value

open Cert.KernelIdeal Idealize.ShloMosaic Idealize.ShloMosaic.TcCoe Idealize.ShloMosaic.Tactic
open Idealize.SL Idealize.SL.RA Idealize.SL.Sem

/-- The 32 values of a group. -/
def grp (f : S1536x3584.Idx → EReal) (p : Fin 1536) (k : Fin 112) : Fin 32 → EReal := fun i => f (ix2 p ⟨32 * k.val + i.val, by omega⟩)

/-! ## Numbers -/

theorem exp2_thr (t : Fin 247) : Ideal.exp2 ((((BitVec.ofNat 32 t.val - 126#32).toInt : ℝ)) : EReal) = thr (t.val + 1) := by
  have h : ∀ t : Fin 247, (BitVec.ofNat 32 t.val - 126#32).toInt = (t.val : ℤ) - 126 := by decide
  rw [h t]
  show ((Real.rpow 2 _ : ℝ) : EReal) = _
  unfold thr
  refine congrArg Real.toEReal ?_
  show (2 : ℝ) ^ ((((t.val : ℤ) - 126 : ℤ) : ℝ)) = (2 : ℝ) ^ (((t.val + 1 : ℕ) : ℤ) - 127)
  rw [Real.rpow_intCast]
  congr 1
  push_cast; ring

theorem sum_cnt (x : EReal) : (∑ t : Fin 247, if Ideal.exp2 ((((BitVec.ofNat 32 t.val - 126#32).toInt : ℝ)) : EReal) ≤ x then (1 : EReal) else 0) = ((cnt x : ℝ) : EReal) := by
  classical
  rw [Finset.sum_congr rfl fun t _ => by rw [exp2_thr t]]
  rw [← Finset.sum_range (fun k => if thr (k + 1) ≤ x then (1 : EReal) else 0)]
  have h : ∀ k, (if thr (k + 1) ≤ x then (1 : EReal) else 0) = ((if thr (k + 1) ≤ x then (1 : ℝ) else 0 : ℝ) : EReal) := fun k => by split <;> rfl
  simp only [h]
  unfold cnt
  rw [Finset.card_filter, Nat.cast_sum]
  induction Finset.range 247 using Finset.induction_on with
  | empty => simp
  | insert a s ha ih => rw [Finset.sum_insert ha, Finset.sum_insert ha, EReal.coe_add, ih]; congr 2; split <;> simp

theorem ofBits_f32 (b : BitVec 32) : Ideal.ofBits .f32 b = Ideal.ieee 8 23 b := rfl

theorem bits126 : Ideal.ofBits .f32 0x42FC0000#32 = ((126 : ℝ) : EReal) := by
  rw [ofBits_f32]
  unfold Ideal.ieee
  have h : ((0x42FC0000#32).extractLsb' (8 + 23) 1 == 1#1) = false ∧ ((0x42FC0000#32).extractLsb' 23 8).toNat = 133 ∧ ((0x42FC0000#32).extractLsb' 0 23).toNat = 8126464 := by decide
  simp only [h.1, h.2.1, h.2.2]
  rw [if_neg (by decide), if_neg (by decide)]
  refine congrArg Real.toEReal ?_
  norm_num

theorem bits127 : Ideal.ofBits .f32 0x42FE0000#32 = ((127 : ℝ) : EReal) := by
  rw [ofBits_f32]
  unfold Ideal.ieee
  have h : ((0x42FE0000#32).extractLsb' (8 + 23) 1 == 1#1) = false ∧ ((0x42FE0000#32).extractLsb' 23 8).toNat = 133 ∧ ((0x42FE0000#32).extractLsb' 0 23).toNat = 8257536 := by decide
  simp only [h.1, h.2.1, h.2.2]
  rw [if_neg (by decide), if_neg (by decide)]
  refine congrArg Real.toEReal ?_
  norm_num

theorem bits_bot : Ideal.ofBits .f32 0xFF800000#32 = ⊥ := by
  rw [ofBits_f32]
  unfold Ideal.ieee
  have h : ((0xFF800000#32).extractLsb' (8 + 23) 1 == 1#1) = true ∧ ((0xFF800000#32).extractLsb' 23 8).toNat = 255 ∧ ((0xFF800000#32).extractLsb' 0 23).toNat = 0 := by decide
  simp only [h.1, h.2.1, h.2.2]
  rw [if_pos (by decide), if_pos trivial, if_pos trivial]

/-- The exponent of a group's scale, from the number of powers of two that its scaled magnitude reaches. -/
def expN (n : ℕ) : EReal := if n = 0 then 0 else (((n : ℝ) - 126 : ℝ) : EReal)

theorem exp2_expN (n : ℕ) (h : n ≤ 247) : Ideal.exp2 (0 - expN n) = thr (invN n) := by
  unfold expN invN thr
  by_cases hn : n = 0
  · rw [if_pos hn, if_pos hn, sub_zero]
    show ((Real.rpow 2 0 : ℝ) : EReal) = _
    refine congrArg Real.toEReal ?_
    show (2 : ℝ) ^ (0 : ℝ) = _
    norm_num
  · rw [if_neg hn, if_neg hn, zero_sub, ← EReal.coe_neg]
    show ((Real.rpow 2 _ : ℝ) : EReal) = _
    refine congrArg Real.toEReal ?_
    show (2 : ℝ) ^ (-((n : ℝ) - 126)) = (2 : ℝ) ^ (((253 - n : ℕ) : ℤ) - 127)
    rw [← Real.rpow_intCast]
    congr 1
    rw [Nat.cast_sub (by omega)]
    push_cast; ring

theorem code_bits : ∀ n : Fin 248, (BitVec.ofInt 32 (if n.val = 0 then 127 else (n.val : ℤ) + 1)).setWidth 8 = (254#32 - BitVec.ofNat 32 (invN n.val)).setWidth 8 := by decide

theorem fptosi_expN (n : ℕ) (h : n ≤ 247) : Ideal.fptosi 32 (expN n + Ideal.ofBits .f32 0x42FE0000#32) = BitVec.ofInt 32 (if n = 0 then 127 else (n : ℤ) + 1) := by
  rw [bits127]
  have e : expN n + ((127 : ℝ) : EReal) = (((if n = 0 then 127 else (n : ℤ) + 1 : ℤ) : ℝ) : EReal) := by
    unfold expN
    by_cases hn : n = 0
    · rw [if_pos hn, if_pos hn, zero_add]; norm_num
    · rw [if_neg hn, if_neg hn, ← EReal.coe_add]
      refine congrArg Real.toEReal ?_
      push_cast; ring
  rw [e]
  unfold Ideal.fptosi
  rw [Ideal.toIntClamped_coe, Int.floor_intCast, Int.ceil_intCast, ite_self]
  refine congrArg (BitVec.ofInt 32) ?_
  have : (0 : ℤ) ≤ (if n = 0 then 127 else (n : ℤ) + 1) ∧ (if n = 0 then 127 else (n : ℤ) + 1) ≤ 248 := by split <;> omega
  generalize (if n = 0 then 127 else (n : ℤ) + 1) = k at this ⊢
  norm_num
  omega

/-! ## The reference -/

theorem red_add (x : FVec Ideal Cert.ReferenceIdeal.S1536x112x247 .f32) (p : Fin 1536) (k : Fin 112) :
    (multiReduction .add [2] Cert.ReferenceIdeal.S1536x112 x 0x00000000#32 Cert.ReferenceIdeal.Gen.reduces_S1536x112x247_S1536x112 (.inl rfl) rfl (ix2 p k) : EReal) = ∑ t : Fin 247, x (ix3 p k t) := by
  pointwise

theorem red_max (x : FVec Ideal Cert.ReferenceIdeal.S1536x112x32 .f32) (p : Fin 1536) (k : Fin 112) :
    (multiReduction .maximumf [2] Cert.ReferenceIdeal.S1536x112 x 0xFF800000#32 Cert.ReferenceIdeal.Gen.reduces_S1536x112x32_S1536x112 (.inl rfl) rfl (ix2 p k) : EReal) = Finset.fold max (Ideal.ofBits .f32 0xFF800000#32) (fun t => x (ix3 p k t)) (Finset.univ : Finset (Fin 32)) := by
  pointwise

/-- The indicator of one power of two. -/
def indV (x : FVec Ideal Cert.ReferenceIdeal.S1536x112 .f32) : FVec Ideal Cert.ReferenceIdeal.S1536x112x247 .f32 :=
  select (cmpf .oge (broadcastTo Cert.ReferenceIdeal.S1536x112x247 (shapeCast Cert.ReferenceIdeal.S1536x112x1 x Cert.ReferenceIdeal.Gen.shapeCasts_S1536x112_S1536x112x1) Cert.ReferenceIdeal.Gen.broadcasts_S1536x112x1_S1536x112x247)
      (exp2 (sitofp .f32 (subi (iota .tc Cert.ReferenceIdeal.S1536x112x247 32 [2] Cert.ReferenceIdeal.Gen.iota_S1536x112x247_d2_w32) (broadcast Cert.ReferenceIdeal.S1536x112x247 126#32)))))
    (broadcast Cert.ReferenceIdeal.S1536x112x247 (Scalar.ofBits .f32 0x3F800000#32 : Ideal .f32)) (broadcast Cert.ReferenceIdeal.S1536x112x247 (Scalar.ofBits .f32 0x00000000#32 : Ideal .f32))

theorem ind_at (x : FVec Ideal Cert.ReferenceIdeal.S1536x112 .f32) (p : Fin 1536) (k : Fin 112) (t : Fin 247) :
    (indV x (ix3 p k t) : EReal) = if Ideal.exp2 ((((BitVec.ofNat 32 t.val - 126#32).toInt : ℝ)) : EReal) ≤ x (ix2 p k) then 1 else 0 := by
  unfold indV
  pointwise
  rfl

/-- The scaled magnitudes of the groups, -/
def magV (f : FVec Ideal S1536x3584 .f32) : FVec Ideal Cert.ReferenceIdeal.S1536x112 .f32 :=
  mulf (multiReduction .maximumf [2] Cert.ReferenceIdeal.S1536x112 (absf (shapeCast Cert.ReferenceIdeal.S1536x112x32 f Cert.ReferenceIdeal.Gen.shapeCasts_S1536x3584_S1536x112x32)) 0xFF800000#32 Cert.ReferenceIdeal.Gen.reduces_S1536x112x32_S1536x112 (.inl rfl) rfl)
    (broadcast Cert.ReferenceIdeal.S1536x112 (Scalar.ofBits .f32 0x3B124925#32 : Ideal .f32))

theorem cast_at (f : FVec Ideal S1536x3584 .f32) (p : Fin 1536) (k : Fin 112) (t : Fin 32) :
    shapeCast Cert.ReferenceIdeal.S1536x112x32 f Cert.ReferenceIdeal.Gen.shapeCasts_S1536x3584_S1536x112x32 (ix3 p k t) = f (ix2 p ⟨k.val * 32 + t.val, by omega⟩) := by
  pointwise

theorem mul_rcp (x : FVec Ideal Cert.ReferenceIdeal.S1536x112 .f32) (j : Cert.ReferenceIdeal.S1536x112.Idx) :
    (mulf x (broadcast Cert.ReferenceIdeal.S1536x112 (Scalar.ofBits .f32 0x3B124925#32 : Ideal .f32)) j : EReal) = x j * rcp := by
  pointwise

theorem abs_at (x : FVec Ideal Cert.ReferenceIdeal.S1536x112x32 .f32) (j : Cert.ReferenceIdeal.S1536x112x32.Idx) : (absf x j : EReal) = max (x j) (-(x j)) := rfl

theorem fold_big (u : Fin 32 → EReal) : Finset.fold max (⊥ : EReal) (fun t => max (u t) (-(u t))) (Finset.univ : Finset (Fin 32)) = big u := rfl

theorem mag_at (f : FVec Ideal S1536x3584 .f32) (p : Fin 1536) (k : Fin 112) : (magV f (ix2 p k) : EReal) = big (grp f p k) * rcp := by
  unfold magV
  rw [mul_rcp, red_max, bits_bot]
  refine congrArg (· * rcp) ?_
  rw [← fold_big]
  refine Finset.fold_congr fun t _ => ?_
  rw [abs_at, cast_at]
  have e : f (ix2 p ⟨k.val * 32 + t.val, by omega⟩) = grp f p k t := congrArg f (congrArg (ix2 p) (Fin.ext (Nat.add_right_cancel_iff.2 (Nat.mul_comm _ _))))
  rw [e]

theorem sel_at (x : FVec Ideal Cert.ReferenceIdeal.S1536x112 .f32) (p : Fin 1536) (k : Fin 112) :
    (select (cmpf .oeq x (broadcast Cert.ReferenceIdeal.S1536x112 (Scalar.ofBits .f32 0x00000000#32 : Ideal .f32))) (broadcast Cert.ReferenceIdeal.S1536x112 (Scalar.ofBits .f32 0x00000000#32 : Ideal .f32))
      (subf x (broadcast Cert.ReferenceIdeal.S1536x112 (Scalar.ofBits .f32 0x42FC0000#32 : Ideal .f32))) (ix2 p k) : EReal)
      = if x (ix2 p k) = 0 then 0 else x (ix2 p k) - Ideal.ofBits .f32 0x42FC0000#32 := by
  pointwise

/-- How many powers of two each reaches, -/
def numV (f : FVec Ideal S1536x3584 .f32) : FVec Ideal Cert.ReferenceIdeal.S1536x112 .f32 :=
  multiReduction .add [2] Cert.ReferenceIdeal.S1536x112 (indV (magV f)) 0x00000000#32 Cert.ReferenceIdeal.Gen.reduces_S1536x112x247_S1536x112 (.inl rfl) rfl

theorem num_at (f : FVec Ideal S1536x3584 .f32) (p : Fin 1536) (k : Fin 112) : (numV f (ix2 p k) : EReal) = ((cnt (big (grp f p k) * rcp) : ℝ) : EReal) := by
  unfold numV
  rw [red_add, Finset.sum_congr rfl fun t _ => ind_at (magV f) p k t, sum_cnt, mag_at]

theorem pay10_eq (v23 v25 v37 v39 v40 : FVec Ideal S1536x3584 .f32) : Cert.ReferenceIdeal.Gen.k0_pay10 v23 v25 v37 v39 v40 = select (cmpf .oeq (numV (Cert.ReferenceIdeal.Gen.k0_pay7 v23 v25 v37 v39 v40)) (broadcast Cert.ReferenceIdeal.S1536x112 (Scalar.ofBits .f32 0x00000000#32 : Ideal .f32))) (broadcast Cert.ReferenceIdeal.S1536x112 (Scalar.ofBits .f32 0x00000000#32 : Ideal .f32))
      (subf (numV (Cert.ReferenceIdeal.Gen.k0_pay7 v23 v25 v37 v39 v40)) (broadcast Cert.ReferenceIdeal.S1536x112 (Scalar.ofBits .f32 0x42FC0000#32 : Ideal .f32))) := by
  unfold Cert.ReferenceIdeal.Gen.k0_pay10 Cert.ReferenceIdeal.Gen.k0_pay9 numV indV magV
  rfl

/-- and their exponents. -/
theorem ref_exp (v23 v25 v37 v39 v40 : FVec Ideal S1536x3584 .f32) (p : Fin 1536) (k : Fin 112) :
    (Cert.ReferenceIdeal.Gen.k0_pay10 v23 v25 v37 v39 v40 (ix2 p k) : EReal) = expN (cnt (big (grp (Cert.ReferenceIdeal.Gen.k0_pay7 v23 v25 v37 v39 v40) p k) * rcp)) := by
  rw [pay10_eq, sel_at, num_at, bits126]
  generalize cnt (big (grp (Cert.ReferenceIdeal.Gen.k0_pay7 v23 v25 v37 v39 v40) p k) * rcp) = n
  unfold expN
  by_cases hn : n = 0
  · rw [if_pos hn, if_pos (by rw [hn]; simp)]
  · rw [if_neg hn, if_neg (by simpa using hn), ← EReal.coe_sub]

theorem ref_codes (v23 v25 v37 v39 v40 : FVec Ideal S1536x3584 .f32) (p : Fin 1536) (q : Fin 3584) :
    (Cert.ReferenceIdeal.Gen.k0_pay12 (Cert.ReferenceIdeal.Gen.k0_pay9 v23 v25 v37 v39 v40) (Cert.ReferenceIdeal.Gen.k0_pay11 v23 v25 v37 v39 v40) (ix2 p q) : EReal)
      = codeN (Cert.ReferenceIdeal.Gen.k0_pay7 v23 v25 v37 v39 v40 (ix2 p q)) (invOf (grp (Cert.ReferenceIdeal.Gen.k0_pay7 v23 v25 v37 v39 v40) p ⟨q.val / 32, by omega⟩)) := by
  unfold Cert.ReferenceIdeal.Gen.k0_pay12 Cert.ReferenceIdeal.Gen.k0_pay11 Cert.ReferenceIdeal.Gen.k0_pay9
  pointwise
  rw [ref_exp]
  unfold codeN invOf
  rw [← exp2_expN _ (cnt_le _)]
  rfl

theorem ref_scales (v23 v25 v37 v39 v40 : FVec Ideal S1536x3584 .f32) (p : Fin 1536) (k : Fin 112) :
    (Cert.ReferenceIdeal.Gen.k0_pay13 (Cert.ReferenceIdeal.Gen.k0_pay10 v23 v25 v37 v39 v40) (ix2 p k) : BitVec 8)
      = (254#32 - BitVec.ofNat 32 (invOf (grp (Cert.ReferenceIdeal.Gen.k0_pay7 v23 v25 v37 v39 v40) p k))).setWidth 8 := by
  unfold Cert.ReferenceIdeal.Gen.k0_pay13
  pointwise
  rw [ref_exp]
  unfold invOf
  have hc := cnt_le (big (grp (Cert.ReferenceIdeal.Gen.k0_pay7 v23 v25 v37 v39 v40) p k) * rcp)
  generalize cnt (big (grp (Cert.ReferenceIdeal.Gen.k0_pay7 v23 v25 v37 v39 v40) p k) * rcp) = n at hc ⊢
  exact (congrArg (BitVec.setWidth 8) (fptosi_expN n hc)).trans (code_bits ⟨n, by omega⟩)

end Cert.Value

end
-- ==== Proof.ValueQuant.lean ====
module

public import proofs.«01_k».proof.Proof.Value
public import proofs.«01_k».proof.Proof.ValueRef

@[expose] public section

/-! The codes and scale codes of `KernelIdeal` against those of `ReferenceIdeal`, over the extended reals. -/

set_option maxRecDepth 16384

noncomputable section

namespace Cert.Value

open Cert.KernelIdeal Idealize.ShloMosaic Idealize.ShloMosaic.TcCoe Idealize.ShloMosaic.Tactic
open Idealize.SL Idealize.SL.RA Idealize.SL.Sem
open Cert.KernelIdeal.Gen (gSum hBlk geluF1 tileF gtile htile quadAt codeAt codesB scalesB codesBlk scalesBlk codesAll scalesAll)

variable (m : (ℓ : Loc nD τ sig) → Buf (Elt Ideal) ℓ)

/-! ## The kernel -/

/-- The kernel's backward GELU in f32. -/
def kF (c : Dev nD) : S1536x3584.Idx → EReal := fun y => geluF1 (F := Ideal) (gSum m c 37 y) ((Cert.KernelIdeal.Gen.V m c main_arg6 : Vec Ideal S1536x3584 .bf16) y)

theorem tile_at (c : Dev nD) (p : Fin 1536) (n : Fin 28) (l : ℕ) (hl : l < 128) :
    row (tileF (p.val / 32) n (gSum m c 37) (hBlk m c (p.val / 32))) ⟨p.val % 32, Nat.mod_lt _ (by decide)⟩ l = kF m c (ix2 p ⟨128 * n.val + l, by omega⟩) := by
  have h0 : 32 * min (p.val / 32) 47 + p.val % 32 = p.val := by omega
  have h1 : 128 * n.val + l % 128 = 128 * n.val + l := by omega
  unfold row kF tileF
  rw [Cert.KernelIdeal.Gen.geluF_apply]
  have e : (ix2 (⟨32 * min (p.val / 32) 47 + p.val % 32, by omega⟩ : Fin 1536) (⟨128 * n.val + l % 128, by omega⟩ : Fin 3584) : S1536x3584.Idx) = ix2 p ⟨128 * n.val + l, by omega⟩ :=
    congrArg₂ ix2 (Fin.ext h0) (Fin.ext h1)
  exact congrArg₂ (geluF1 (F := Ideal)) (congrArg (gSum m c 37) e) (congrArg (Cert.KernelIdeal.Gen.V m c main_arg6 : Vec Ideal S1536x3584 .bf16) e)

theorem quad_at (c : Dev nD) (p : Fin 1536) (q : Fin 7) (g : ℕ) (hg : g < 4) (j : Fin 4) :
    row (quadAt q (p.val / 32) (gSum m c 37) (hBlk m c (p.val / 32))) ⟨p.val % 32, Nat.mod_lt _ (by decide)⟩ (laneOf g j.val)
      = BitVec.ofNat 32 (invOf (grp (kF m c) p ⟨16 * q.val + 4 * j.val + g, by omega⟩)) := by
  refine (quad_row (fun j : Fin 4 => tileF (p.val / 32) ⟨4 * q.val + j.val, by omega⟩ (gSum m c 37) (hBlk m c (p.val / 32))) ⟨p.val % 32, Nat.mod_lt _ (by decide)⟩ g hg j).trans ?_
  refine congrArg (fun u => BitVec.ofNat 32 (invOf u)) (funext fun i => ?_)
  refine (tile_at m c p ⟨4 * q.val + j.val, by omega⟩ (32 * g + i.val) (by omega)).trans ?_
  unfold grp
  exact congrArg (kF m c) (congrArg (ix2 p) (Fin.ext (by show 128 * (4 * q.val + j.val) + (32 * g + i.val) = 32 * (16 * q.val + 4 * j.val + g) + i.val; omega)))

theorem codes_apply (c : Dev nD) (p : Fin 1536) (q : Fin 3584) :
    (codesAll m c (ix2 p q) : EReal) = codeN (kF m c (ix2 p q)) (invOf (grp (kF m c) p ⟨q.val / 32, by omega⟩)) := by
  have hn : q.val / 128 < 28 := by omega
  have hq := quad_at m c p ⟨q.val / 128 / 4, by omega⟩ (q.val % 128 / 32) (by omega) ⟨q.val / 128 % 4, by omega⟩
  have hr := invOf_range (grp (kF m c) p ⟨q.val / 32, by omega⟩)
  have ht := tile_at m c p ⟨q.val / 128, hn⟩ (q.val % 128) (by omega)
  have hk : (⟨16 * (q.val / 128 / 4) + 4 * (q.val / 128 % 4) + q.val % 128 / 32, by omega⟩ : Fin 112) = ⟨q.val / 32, by omega⟩ := Fin.ext (by show 16 * (q.val / 128 / 4) + 4 * (q.val / 128 % 4) + q.val % 128 / 32 = q.val / 32; omega)
  have hk2 : (⟨128 * (q.val / 128) + q.val % 128, by omega⟩ : Fin 3584) = q := Fin.ext (by show 128 * (q.val / 128) + q.val % 128 = q.val; omega)
  have hl : laneOf (q.val % 128 / 32) (q.val / 128 % 4) = 32 * (q.val % 128 / 32) + 16 * (q.val / 128 % 2) + 8 * (q.val / 128 % 4 / 2) := by unfold laneOf; omega
  have hq' : row (quadAt ⟨q.val / 128 / 4, by omega⟩ (p.val / 32) (gSum m c 37) (hBlk m c (p.val / 32))) ⟨p.val % 32, Nat.mod_lt _ (by decide)⟩ (32 * (q.val % 128 / 32) + 16 * (q.val / 128 % 2) + 8 * (q.val / 128 % 4 / 2))
      = BitVec.ofNat 32 (invOf (grp (kF m c) p ⟨q.val / 32, by omega⟩)) := by
    rw [← hl]
    refine hq.trans ?_
    rw [← hk]
  have h := code_row ⟨q.val / 128 % 2, by omega⟩ ⟨q.val / 128 % 4 / 2, by omega⟩ (tileF (p.val / 32) ⟨q.val / 128, hn⟩ (gSum m c 37) (hBlk m c (p.val / 32))) _ ⟨p.val % 32, Nat.mod_lt _ (by decide)⟩ ⟨q.val % 128, by omega⟩ _ hr.1 hr.2 hq'
  refine Eq.trans ?_ (h.trans ?_)
  · rfl
  · have hm : (⟨q.val % 128 % 128, Nat.mod_lt _ (by decide)⟩ : Fin 128) = ⟨q.val % 128, by omega⟩ := Fin.ext (Nat.mod_mod _ _)
    unfold row at ht
    rw [hm, hk2] at ht
    exact congrArg (fun x => codeN x (invOf (grp (kF m c) p ⟨q.val / 32, by omega⟩))) ht

theorem scales_apply (c : Dev nD) (p : Fin 1536) (k : Fin 112) :
    (scalesAll m c (ix2 p k) : BitVec 8) = (254#32 - BitVec.ofNat 32 (invOf (grp (kF m c) p k))).setWidth 8 := by
  have h := scale_row (fun q : Fin 7 => quadAt q (p.val / 32) (gSum m c 37) (hBlk m c (p.val / 32))) ⟨p.val % 32, Nat.mod_lt _ (by decide)⟩ k
  refine Eq.trans ?_ (h.trans ?_)
  · rfl
  · have hq := quad_at m c p ⟨k.val / 16, by omega⟩ (k.val % 4) (by omega) ⟨k.val % 16 / 4, by omega⟩
    have hk : (⟨16 * (k.val / 16) + 4 * (k.val % 16 / 4) + k.val % 4, by omega⟩ : Fin 112) = k := Fin.ext (by show 16 * (k.val / 16) + 4 * (k.val % 16 / 4) + k.val % 4 = k.val; omega)
    rw [hq]
    exact congrArg (fun k => (254#32 - BitVec.ofNat 32 (invOf (grp (kF m c) p k))).setWidth 8) hk

/-! ## The two -/

theorem kF_eq (c : Dev nD) : kF m c = refF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  obtain ⟨p, q, rfl⟩ : ∃ (p : Fin 1536) (q : Fin 3584), y = ix2 p q := ⟨y 0, y 1, by funext a; fin_cases a <;> rfl⟩
  exact f_eq m c p q

/-- The codes of the first output are the reference's, -/
theorem codes_eq (c : Dev nD) : codesAll m c = Cert.ReferenceIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  obtain ⟨p, q, rfl⟩ : ∃ (p : Fin 1536) (q : Fin 3584), y = ix2 p q := ⟨y 0, y 1, by funext a; fin_cases a <;> rfl⟩
  refine (codes_apply m c p q).trans ?_
  rw [kF_eq]
  exact (ref_codes (Cert.ReferenceIdeal.Gen.k0_pay15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Gen.k0_pay16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Gen.k0_pay17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Gen.k0_pay18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Gen.k0_pay19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) p q).symm

/-- and its scale codes. -/
theorem scales_eq (c : Dev nD) : scalesAll m c = Cert.ReferenceIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  obtain ⟨p, k, rfl⟩ : ∃ (p : Fin 1536) (k : Fin 112), y = ix2 p k := ⟨y 0, y 1, by funext a; fin_cases a <;> rfl⟩
  refine (scales_apply m c p k).trans ?_
  rw [kF_eq]
  exact (ref_scales (Cert.ReferenceIdeal.Gen.k0_pay15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Gen.k0_pay16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Gen.k0_pay17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Gen.k0_pay18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Gen.k0_pay19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) p k).symm

end Cert.Value

end
-- ==== Proof.lean ====
module

public import proofs.«01_k».proof.Defs
public import proofs.«01_k».proof.Proof.KernelFrame
public import proofs.«01_k».proof.Proof.ValueQuant
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

/-- The kernel's outputs and the reference's are the same arrays, over the extended reals. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Gen.dhAll m c, fun c => Cert.KernelIdeal.Gen.dwAll m c, fun c => Cert.KernelIdeal.Gen.codesAll m c, fun c => Cert.KernelIdeal.Gen.scalesAll m c, ?_, ?_⟩
  · exact (θ_run _ _ _).mono (fun r h c => ⟨(h.2 c).1, (h.2 c).2.1, (h.2 c).2.2.1, (h.2 c).2.2.2, h.1.1 c⟩)
      (θ_run_and (Cert.KernelIdeal.Gen.frame m g) (Cert.KernelIdeal.Gen.run_out m g))
  · refine (θ_run _ _ _).mono (fun r h c => ⟨(h c).1.trans ?_, (h c).2.1.trans ?_, (h c).2.2.1.trans ?_, (h c).2.2.2.1.trans ?_, (h c).2.2.2.2⟩) (Cert.ReferenceIdeal.Value.run m' g')
    · obtain ⟨h0, h1, h2, h3, h4, h5, h6⟩ := hm c
      rw [h0, h1, h2, h3, h4, h5, h6]
      exact (Cert.Value.dh_eq m c).symm
    · obtain ⟨h0, h1, h2, h3, h4, h5, h6⟩ := hm c
      rw [h0, h1, h2, h3, h4, h5, h6]
      exact (Cert.Value.dw_eq m c).symm
    · obtain ⟨h0, h1, h2, h3, h4, h5, h6⟩ := hm c
      rw [h0, h1, h2, h3, h4, h5, h6]
      exact (Cert.Value.codes_eq m c).symm
    · obtain ⟨h0, h1, h2, h3, h4, h5, h6⟩ := hm c
      rw [h0, h1, h2, h3, h4, h5, h6]
      exact (Cert.Value.scales_eq m c).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
